-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_binary [hPre_finite_and_binary : Cert.Pre_finite_and_binary.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_binary [hPre_finite_and_binary : Cert.Pre_finite_and_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_binary [hKernelIdeal : Cert.KernelIdeal.Facts] [hPre_finite_and_binary : Cert.Pre_finite_and_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_binary [hReferenceIdeal : Cert.ReferenceIdeal.Facts] [hPre_finite_and_binary : Cert.Pre_finite_and_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "eps4" .f32 0x25E69595#32 ((126765058482001 / 316912650057057350374175801344 : ℝ) : EReal)

def algebraic_KernelIdeal_ReferenceIdeal_pre_finite_and_binary [hKernelIdeal : Cert.KernelIdeal.Facts] [hReferenceIdeal : Cert.ReferenceIdeal.Facts] [hPre_finite_and_binary : Cert.Pre_finite_and_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_and_binary : Cert.Pre_finite_and_binary.Facts),
    quiescent_Kernel (hKernel := hKernel)
    ∧ quiescent_KernelIdeal (hKernelIdeal := hKernelIdeal)
    ∧ quiescent_KernelIdeal_pre_finite_and_binary (hKernelIdeal := hKernelIdeal) (hPre_finite_and_binary := hPre_finite_and_binary)
    ∧ quiescent_ReferenceIdeal (hReferenceIdeal := hReferenceIdeal)
    ∧ quiescent_ReferenceIdeal_pre_finite_and_binary (hReferenceIdeal := hReferenceIdeal) (hPre_finite_and_binary := hPre_finite_and_binary)
    ∧ preserves_Kernel_KernelIdeal
    ∧ algebraic_KernelIdeal_ReferenceIdeal_pre_finite_and_binary (hKernelIdeal := hKernelIdeal) (hReferenceIdeal := hReferenceIdeal) (hPre_finite_and_binary := hPre_finite_and_binary)
-- ==== Pre_finite_and_binary.lean ====
abbrev S63180x128 : Shape := ⟨2, ![63180, 128]⟩
abbrev S34588x128 : Shape := ⟨2, ![34588, 128]⟩
abbrev S4148x128 : Shape := ⟨2, ![4148, 128]⟩
abbrev S101916x128 : Shape := ⟨2, ![101916, 128]⟩
abbrev S63180 : Shape := ⟨1, ![63180]⟩
abbrev S_ : Shape := ⟨0, ![]⟩

class Facts : Prop where
  bcast_S_S63180x128 : S_.BroadcastsInDim S63180x128 (![] : Fin 0 → Fin S63180x128.rank)
  reducesTo_S63180x128_S_d0_1 : S63180x128.ReducesTo [0, 1] S_
  h_S_ : 0 < S_.numel
  bcast_S_S34588x128 : S_.BroadcastsInDim S34588x128 (![] : Fin 0 → Fin S34588x128.rank)
  reducesTo_S34588x128_S_d0_1 : S34588x128.ReducesTo [0, 1] S_
  bcast_S_S4148x128 : S_.BroadcastsInDim S4148x128 (![] : Fin 0 → Fin S4148x128.rank)
  reducesTo_S4148x128_S_d0_1 : S4148x128.ReducesTo [0, 1] S_
  bcast_S_S63180 : S_.BroadcastsInDim S63180 (![] : Fin 0 → Fin S63180.rank)
  reducesTo_S63180_S_d0 : S63180.ReducesTo [0] S_

variable [Facts]

def fn_part1 {F : FTy → Type} [FloatOps F] (main_arg5 : IVec S63180 32) (main_v13 : IVec S_ 1) (main_v15 : IVec S63180 1) (main_c_5 : IVec S_ 32) : IVec S_ 1 :=
  let main_v16 : IVec S63180 32 := broadcastInDim S63180 ![] bcast_S_S63180 main_c_5
  let main_v17 : IVec S63180 1 := cmpi .eq main_arg5 main_v16
  let main_v18 : IVec S63180 1 := ori main_v15 main_v17
  let main_c_6 : IVec S_ 1 := constantI S_ 1 1#1
  let main_v19 : IVec S_ 1 := (fun x v => Host.reduce IntOp.andi x v reducesTo_S63180_S_d0 h_S_) main_v18 main_c_6
  let main_v20 : IVec S_ 1 := andi main_v13 main_v19
  main_v20

def fn {F : FTy → Type} [FloatOps F] (main_arg0 : FVec F S63180x128 .f32) (main_arg1 : FVec F S34588x128 .f32) (main_arg2 : FVec F S4148x128 .f32) (main_arg3 : FVec F S101916x128 .f32) (main_arg4 : FVec F S101916x128 .f32) (main_arg5 : IVec S63180 32) : IVec S_ 1 :=
  let main_v0 : FVec F S63180x128 .f32 := Host.absf main_arg0
  let main_cst : FVec F S_ .f32 := constant S_ .f32 0x7F800000#32
  let main_v1 : FVec F S63180x128 .f32 := broadcastInDim S63180x128 ![] bcast_S_S63180x128 main_cst
  let main_v2 : IVec S63180x128 1 := cmpf .olt main_v0 main_v1
  let main_c : IVec S_ 1 := constantI S_ 1 1#1
  let main_v3 : IVec S_ 1 := (fun x v => Host.reduce IntOp.andi x v reducesTo_S63180x128_S_d0_1 h_S_) main_v2 main_c
  let main_v4 : FVec F S34588x128 .f32 := Host.absf main_arg1
  let main_cst_0 : FVec F S_ .f32 := constant S_ .f32 0x7F800000#32
  let main_v5 : FVec F S34588x128 .f32 := broadcastInDim S34588x128 ![] bcast_S_S34588x128 main_cst_0
  let main_v6 : IVec S34588x128 1 := cmpf .olt main_v4 main_v5
  let main_c_1 : IVec S_ 1 := constantI S_ 1 1#1
  let main_v7 : IVec S_ 1 := (fun x v => Host.reduce IntOp.andi x v reducesTo_S34588x128_S_d0_1 h_S_) main_v6 main_c_1
  let main_v8 : IVec S_ 1 := andi main_v3 main_v7
  let main_v9 : FVec F S4148x128 .f32 := Host.absf main_arg2
  let main_cst_2 : FVec F S_ .f32 := constant S_ .f32 0x7F800000#32
  let main_v10 : FVec F S4148x128 .f32 := broadcastInDim S4148x128 ![] bcast_S_S4148x128 main_cst_2
  let main_v11 : IVec S4148x128 1 := cmpf .olt main_v9 main_v10
  let main_c_3 : IVec S_ 1 := constantI S_ 1 1#1
  let main_v12 : IVec S_ 1 := (fun x v => Host.reduce IntOp.andi x v reducesTo_S4148x128_S_d0_1 h_S_) main_v11 main_c_3
  let main_v13 : IVec S_ 1 := andi main_v8 main_v12
  let main_c_4 : IVec S_ 32 := constantI S_ 32 0#32
  let main_v14 : IVec S63180 32 := broadcastInDim S63180 ![] bcast_S_S63180 main_c_4
  let main_v15 : IVec S63180 1 := cmpi .eq main_arg5 main_v14
  let main_c_5 : IVec S_ 32 := constantI S_ 32 1#32
  fn_part1 (F := F) main_arg5 main_v13 main_v15 main_c_5
-- ==== Kernel.lean ====
abbrev S63180x128 : Shape := ⟨2, ![63180, 128]⟩
abbrev S34588x128 : Shape := ⟨2, ![34588, 128]⟩
abbrev S4148x128 : Shape := ⟨2, ![4148, 128]⟩
abbrev S101916x128 : Shape := ⟨2, ![101916, 128]⟩
abbrev S63180 : Shape := ⟨1, ![63180]⟩
abbrev S_ : Shape := ⟨0, ![]⟩
abbrev S63180x1 : Shape := ⟨2, ![63180, 1]⟩
abbrev S1x63180 : Shape := ⟨2, ![1, 63180]⟩
abbrev S63180x2 : Shape := ⟨2, ![63180, 2]⟩
abbrev S34588x2 : Shape := ⟨2, ![34588, 2]⟩
abbrev S34588x1 : Shape := ⟨2, ![34588, 1]⟩
abbrev S4148x2 : Shape := ⟨2, ![4148, 2]⟩
abbrev S4148x1 : Shape := ⟨2, ![4148, 1]⟩
abbrev S1x1 : Shape := ⟨2, ![1, 1]⟩
abbrev S2048x128 : Shape := ⟨2, ![2048, 128]⟩
abbrev S1x2048 : Shape := ⟨2, ![1, 2048]⟩
abbrev S2048x1 : Shape := ⟨2, ![2048, 1]⟩
abbrev S2048x2 : Shape := ⟨2, ![2048, 2]⟩
abbrev S2x2048x128 : Shape := ⟨3, ![2, 2048, 128]⟩
abbrev S2x128 : Shape := ⟨2, ![2, 128]⟩
abbrev S4x128 : Shape := ⟨2, ![4, 128]⟩
abbrev S2x2 : Shape := ⟨2, ![2, 2]⟩
abbrev S1x2048x128 : Shape := ⟨3, ![1, 2048, 128]⟩
abbrev S2x2048 : Shape := ⟨2, ![2, 2048]⟩
abbrev S1x1x2048 : Shape := ⟨3, ![1, 1, 2048]⟩
abbrev S1 : Shape := ⟨1, ![1]⟩
abbrev S1x1x1 : Shape := ⟨3, ![1, 1, 1]⟩
abbrev S1x128 : Shape := ⟨2, ![1, 128]⟩
abbrev S2048 : Shape := ⟨1, ![2048]⟩
abbrev S1x2048x1 : Shape := ⟨3, ![1, 2048, 1]⟩
abbrev S101916x2 : Shape := ⟨2, ![101916, 2]⟩
abbrev S2x101916 : Shape := ⟨2, ![2, 101916]⟩
abbrev S34588 : Shape := ⟨1, ![34588]⟩
abbrev S4148 : Shape := ⟨1, ![4148]⟩

abbrev nBuf : Space → Nat
  | .hbm => 32
  | .vmem => 32
  | .smem => 0
  | _ => 0

abbrev bufTy : (tb : Table) → Fin (tcTables nBuf tb) → BufTy
  | .hbm, ⟨0, _⟩ => ⟨S63180x128, .f32⟩
  | .hbm, ⟨1, _⟩ => ⟨S34588x128, .f32⟩
  | .hbm, ⟨2, _⟩ => ⟨S4148x128, .f32⟩
  | .hbm, ⟨3, _⟩ => ⟨S101916x128, .f32⟩
  | .hbm, ⟨4, _⟩ => ⟨S101916x128, .f32⟩
  | .hbm, ⟨5, _⟩ => ⟨S63180, .i32⟩
  | .hbm, ⟨6, _⟩ => ⟨S63180, .f32⟩
  | .hbm, ⟨7, _⟩ => ⟨S_, .f32⟩
  | .hbm, ⟨8, _⟩ => ⟨S63180, .f32⟩
  | .hbm, ⟨9, _⟩ => ⟨S63180, .f32⟩
  | .hbm, ⟨10, _⟩ => ⟨S_, .f32⟩
  | .hbm, ⟨11, _⟩ => ⟨S63180, .f32⟩
  | .hbm, ⟨12, _⟩ => ⟨S63180, .f32⟩
  | .hbm, ⟨13, _⟩ => ⟨S63180x1, .f32⟩
  | .hbm, ⟨14, _⟩ => ⟨S4148x128, .f32⟩
  | .hbm, ⟨15, _⟩ => ⟨S4148x128, .f32⟩
  | .hbm, ⟨16, _⟩ => ⟨S1x63180, .f32⟩
  | .hbm, ⟨17, _⟩ => ⟨S63180x2, .f32⟩
  | .hbm, ⟨18, _⟩ => ⟨S63180x1, .i32⟩
  | .hbm, ⟨19, _⟩ => ⟨S34588x2, .f32⟩
  | .hbm, ⟨20, _⟩ => ⟨S34588x1, .i32⟩
  | .hbm, ⟨21, _⟩ => ⟨S4148x2, .f32⟩
  | .hbm, ⟨22, _⟩ => ⟨S4148x1, .i32⟩
  | .hbm, ⟨23, _⟩ => ⟨S1x1, .f32⟩
  | .hbm, ⟨24, _⟩ => ⟨S101916x2, .f32⟩
  | .hbm, ⟨25, _⟩ => ⟨S2x101916, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S63180, .i32⟩
  | .hbm, ⟨30, _⟩ => ⟨S34588, .i32⟩
  | .hbm, ⟨31, _⟩ => ⟨S4148, .i32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048, .f32⟩
  | .local _ .vmem, ⟨11, _⟩ => ⟨S1x2048, .f32⟩
  | .local _ .vmem, ⟨12, _⟩ => ⟨S2048x1, .f32⟩
  | .local _ .vmem, ⟨13, _⟩ => ⟨S2048x1, .f32⟩
  | .local _ .vmem, ⟨14, _⟩ => ⟨S2048x2, .f32⟩
  | .local _ .vmem, ⟨15, _⟩ => ⟨S2048x2, .f32⟩
  | .local _ .vmem, ⟨16, _⟩ => ⟨S2048x1, .i32⟩
  | .local _ .vmem, ⟨17, _⟩ => ⟨S2048x1, .i32⟩
  | .local _ .vmem, ⟨18, _⟩ => ⟨S2048x2, .f32⟩
  | .local _ .vmem, ⟨19, _⟩ => ⟨S2048x2, .f32⟩
  | .local _ .vmem, ⟨20, _⟩ => ⟨S2048x1, .i32⟩
  | .local _ .vmem, ⟨21, _⟩ => ⟨S2048x1, .i32⟩
  | .local _ .vmem, ⟨22, _⟩ => ⟨S2048x2, .f32⟩
  | .local _ .vmem, ⟨23, _⟩ => ⟨S2048x2, .f32⟩
  | .local _ .vmem, ⟨24, _⟩ => ⟨S2048x1, .i32⟩
  | .local _ .vmem, ⟨25, _⟩ => ⟨S2048x1, .i32⟩
  | .local _ .vmem, ⟨26, _⟩ => ⟨S1x1, .f32⟩
  | .local _ .vmem, ⟨27, _⟩ => ⟨S2x2048x128, .f32⟩
  | .local _ .vmem, ⟨28, _⟩ => ⟨S2x2048x128, .f32⟩
  | .local _ .vmem, ⟨29, _⟩ => ⟨S2x128, .f32⟩
  | .local _ .vmem, ⟨30, _⟩ => ⟨S1x1, .f32⟩
  | .local _ .vmem, ⟨31, _⟩ => ⟨S4x128, .f32⟩
  | _, _ => ⟨S63180x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26

abbrev nD : Nat := 1
abbrev τ : Topo := Topo.v7x

variable {F : FTy → Type} [FloatOps F]

abbrev grid0 : Pipeline.Grid := ⟨1, ![82], ![false]⟩

def k0_cond1 (i : grid0.Coords) : BitVec 1 :=
  let arg0 : BitVec 32 := BitVec.ofNat 32 (i 0).val
  let c30_i32 : BitVec 32 := 30#32
  let v0 : BitVec 1 := Scalar.cmpi .eq arg0 c30_i32
  let v1 : BitVec 32 := Scalar.extui v0
  let c0_i32 : BitVec 32 := 0#32
  let v2 : BitVec 1 := Scalar.cmpi .ne v1 c0_i32
  v2

def k0_off1 : Fin 2 → Nat :=
  let v_true : BitVec 1 := 1#1
  let c0_i32_10 : BitVec 32 := 0#32
  let c_m308_i32 : BitVec 32 := 4294966988#32
  let v26 : BitVec 32 := Scalar.select v_true c0_i32_10 c_m308_i32
  let c0_i32_16 : BitVec 32 := 0#32
  ![v26.toNat, 0]
def k0_cond2 (i : grid0.Coords) : BitVec 1 :=
  let arg0 : BitVec 32 := BitVec.ofNat 32 (i 0).val
  let c31_i32_0 : BitVec 32 := 31#32
  let v4 : BitVec 1 := Scalar.cmpi .sge arg0 c31_i32_0
  let c31_i32 : BitVec 32 := 31#32
  let v3 : BitVec 32 := Scalar.subi arg0 c31_i32
  let c1_i32 : BitVec 32 := 1#32
  let v5 : BitVec 32 := Scalar.addi v3 c1_i32
  let c48_i32 : BitVec 32 := 48#32
  let v6 : BitVec 1 := Scalar.cmpi .slt v5 c48_i32
  let v7 : BitVec 1 := Scalar.andi v4 v6
  let v8 : BitVec 32 := Scalar.extui v7
  let c0_i32_1 : BitVec 32 := 0#32
  let v9 : BitVec 1 := Scalar.cmpi .ne v8 c0_i32_1
  v9

def k0_off2 (i : grid0.Coords) : Fin 2 → Nat :=
  let arg0 : BitVec 32 := BitVec.ofNat 32 (i 0).val
  let c31_i32 : BitVec 32 := 31#32
  let v3 : BitVec 32 := Scalar.subi arg0 c31_i32
  let c1_i32_11 : BitVec 32 := 1#32
  let v27 : BitVec 32 := Scalar.addi v3 c1_i32_11
  let c2_i32 : BitVec 32 := 2#32
  let c0_i32_12 : BitVec 32 := 0#32
  let v28 : BitVec 1 := Scalar.cmpi .eq c2_i32 c0_i32_12
  let c1_i32_13 : BitVec 32 := 1#32
  let v29 : BitVec 32 := Scalar.select v28 c1_i32_13 c2_i32
  let v30 : BitVec 32 := Scalar.remsi v27 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let c0_i32_20 : BitVec 32 := 0#32
  ![v37.toNat, 0]
def k0_off3 (i : grid0.Coords) : Fin 3 → Nat :=
  let arg0 : BitVec 32 := BitVec.ofNat 32 (i 0).val
  let c31_i32 : BitVec 32 := 31#32
  let v3 : BitVec 32 := Scalar.subi arg0 c31_i32
  let c1_i32_11 : BitVec 32 := 1#32
  let v27 : BitVec 32 := Scalar.addi v3 c1_i32_11
  let c2_i32 : BitVec 32 := 2#32
  let c0_i32_12 : BitVec 32 := 0#32
  let v28 : BitVec 1 := Scalar.cmpi .eq c2_i32 c0_i32_12
  let c1_i32_13 : BitVec 32 := 1#32
  let v29 : BitVec 32 := Scalar.select v28 c1_i32_13 c2_i32
  let v30 : BitVec 32 := Scalar.remsi v27 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let c0_i32_21 : BitVec 32 := 0#32
  let c0_i32_22 : BitVec 32 := 0#32
  ![v37.toNat, 0, 0]
def k0_off4 (i : grid0.Coords) : Fin 2 → Nat :=
  let arg0 : BitVec 32 := BitVec.ofNat 32 (i 0).val
  let c31_i32 : BitVec 32 := 31#32
  let v3 : BitVec 32 := Scalar.subi arg0 c31_i32
  let c1_i32_10 : BitVec 32 := 1#32
  let v26 : BitVec 32 := Scalar.addi v3 c1_i32_10
  let c31_i32_17 : BitVec 32 := 31#32
  let v38 : BitVec 1 := Scalar.cmpi .slt v26 c31_i32_17
  let c2048_i32 : BitVec 32 := 2048#32
  let v39 : BitVec 32 := Scalar.muli v26 c2048_i32
  let c63180_i32 : BitVec 32 := 63180#32
  let c31_i32_18 : BitVec 32 := 31#32
  let v40 : BitVec 32 := Scalar.subi v26 c31_i32_18
  let c2048_i32_19 : BitVec 32 := 2048#32
  let v41 : BitVec 32 := Scalar.muli v40 c2048_i32_19
  let v42 : BitVec 32 := Scalar.addi c63180_i32 v41
  let v43 : BitVec 32 := Scalar.select v38 v39 v42
  let c0_i32_23 : BitVec 32 := 0#32
  ![v43.toNat, 0]
def k0_off5 (i : grid0.Coords) : Fin 2 → Nat :=
  let arg0 : BitVec 32 := BitVec.ofNat 32 (i 0).val
  let c31_i32 : BitVec 32 := 31#32
  let v3 : BitVec 32 := Scalar.subi arg0 c31_i32
  let c1_i32_11 : BitVec 32 := 1#32
  let v27 : BitVec 32 := Scalar.addi v3 c1_i32_11
  let c2_i32 : BitVec 32 := 2#32
  let c0_i32_12 : BitVec 32 := 0#32
  let v28 : BitVec 1 := Scalar.cmpi .eq c2_i32 c0_i32_12
  let c1_i32_13 : BitVec 32 := 1#32
  let v29 : BitVec 32 := Scalar.select v28 c1_i32_13 c2_i32
  let v30 : BitVec 32 := Scalar.remsi v27 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let c1_i32_24 : BitVec 32 := 1#32
  ![v37.toNat, 1]
def k0_cond6 (i : grid0.Coords) : BitVec 1 :=
  let arg0 : BitVec 32 := BitVec.ofNat 32 (i 0).val
  let c31_i32_4 : BitVec 32 := 31#32
  let v13 : BitVec 1 := Scalar.cmpi .sge arg0 c31_i32_4
  let c62_i32 : BitVec 32 := 62#32
  let v14 : BitVec 1 := Scalar.cmpi .slt arg0 c62_i32
  let v15 : BitVec 1 := Scalar.andi v13 v14
  let v16 : BitVec 32 := Scalar.extui v15
  let c0_i32_5 : BitVec 32 := 0#32
  let v17 : BitVec 1 := Scalar.cmpi .ne v16 c0_i32_5
  v17

def k0_off6 (i : grid0.Coords) : Fin 2 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_18 : BitVec 32 := 0#32
  ![v35.toNat, 0]
def k0_off7 (i : grid0.Coords) : Fin 3 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_19 : BitVec 32 := 0#32
  let c0_i32_20 : BitVec 32 := 0#32
  ![v35.toNat, 0, 0]
def k0_off8 (i : grid0.Coords) : Fin 2 → Nat :=
  let arg0 : BitVec 32 := BitVec.ofNat 32 (i 0).val
  let c31_i32 : BitVec 32 := 31#32
  let v3 : BitVec 32 := Scalar.subi arg0 c31_i32
  let c31_i32_15 : BitVec 32 := 31#32
  let v36 : BitVec 1 := Scalar.cmpi .slt v3 c31_i32_15
  let c2048_i32 : BitVec 32 := 2048#32
  let v37 : BitVec 32 := Scalar.muli v3 c2048_i32
  let c63180_i32 : BitVec 32 := 63180#32
  let c31_i32_16 : BitVec 32 := 31#32
  let v38 : BitVec 32 := Scalar.subi v3 c31_i32_16
  let c2048_i32_17 : BitVec 32 := 2048#32
  let v39 : BitVec 32 := Scalar.muli v38 c2048_i32_17
  let v40 : BitVec 32 := Scalar.addi c63180_i32 v39
  let v41 : BitVec 32 := Scalar.select v36 v37 v40
  let c0_i32_21 : BitVec 32 := 0#32
  ![v41.toNat, 0]
def k0_off9 (i : grid0.Coords) : Fin 2 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c1_i32_22 : BitVec 32 := 1#32
  ![v35.toNat, 1]
def k0_off10 (i : grid0.Coords) : Fin 3 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v53 : Index := Scalar.indexCast v35
  let c0_27 : Index := 0#32
  let c0_28 : Index := 0#32
  ![v53.toNat, 0, 0]
def k0_cond8 (i : grid0.Coords) : BitVec 1 :=
  let arg0 : BitVec 32 := BitVec.ofNat 32 (i 0).val
  let c62_i32_6 : BitVec 32 := 62#32
  let v18 : BitVec 1 := Scalar.cmpi .sge arg0 c62_i32_6
  let c79_i32 : BitVec 32 := 79#32
  let v19 : BitVec 1 := Scalar.cmpi .slt arg0 c79_i32
  let v20 : BitVec 1 := Scalar.andi v18 v19
  let v21 : BitVec 32 := Scalar.extui v20
  let c0_i32_7 : BitVec 32 := 0#32
  let v22 : BitVec 1 := Scalar.cmpi .ne v21 c0_i32_7
  v22

def k0_off11 (i : grid0.Coords) : Fin 2 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_18 : BitVec 32 := 0#32
  ![v35.toNat, 0]
def k0_off12 (i : grid0.Coords) : Fin 3 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_19 : BitVec 32 := 0#32
  let c0_i32_20 : BitVec 32 := 0#32
  ![v35.toNat, 0, 0]
def k0_off13 (i : grid0.Coords) : Fin 2 → Nat :=
  let arg0 : BitVec 32 := BitVec.ofNat 32 (i 0).val
  let c31_i32 : BitVec 32 := 31#32
  let v3 : BitVec 32 := Scalar.subi arg0 c31_i32
  let c31_i32_15 : BitVec 32 := 31#32
  let v36 : BitVec 1 := Scalar.cmpi .slt v3 c31_i32_15
  let c2048_i32 : BitVec 32 := 2048#32
  let v37 : BitVec 32 := Scalar.muli v3 c2048_i32
  let c63180_i32 : BitVec 32 := 63180#32
  let c31_i32_16 : BitVec 32 := 31#32
  let v38 : BitVec 32 := Scalar.subi v3 c31_i32_16
  let c2048_i32_17 : BitVec 32 := 2048#32
  let v39 : BitVec 32 := Scalar.muli v38 c2048_i32_17
  let v40 : BitVec 32 := Scalar.addi c63180_i32 v39
  let v41 : BitVec 32 := Scalar.select v36 v37 v40
  let c0_i32_21 : BitVec 32 := 0#32
  ![v41.toNat, 0]
def k0_off14 (i : grid0.Coords) : Fin 2 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c1_i32_22 : BitVec 32 := 1#32
  ![v35.toNat, 1]
def k0_off15 (i : grid0.Coords) : Fin 3 → Nat :=
  let arg0 : BitVec 32 := BitVec.ofNat 32 (i 0).val
  let c31_i32 : BitVec 32 := 31#32
  let v3 : BitVec 32 := Scalar.subi arg0 c31_i32
  let c2_i32 : BitVec 32 := 2#32
  let c0_i32_10 : BitVec 32 := 0#32
  let v26 : BitVec 1 := Scalar.cmpi .eq c2_i32 c0_i32_10
  let c1_i32_11 : BitVec 32 := 1#32
  let v27 : BitVec 32 := Scalar.select v26 c1_i32_11 c2_i32
  let v28 : BitVec 32 := Scalar.remsi v3 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v53 : Index := Scalar.indexCast v35
  let c0_27 : Index := 0#32
  let c0_28 : Index := 0#32
  ![v53.toNat, 0, 0]
def k0_cond9 (i : grid0.Coords) : BitVec 1 :=
  let arg0 : BitVec 32 := BitVec.ofNat 32 (i 0).val
  let c79_i32_8 : BitVec 32 := 79#32
  let v23 : BitVec 1 := Scalar.cmpi .sge arg0 c79_i32_8
  let v24 : BitVec 32 := Scalar.extui v23
  let c0_i32_9 : BitVec 32 := 0#32
  let v25 : BitVec 1 := Scalar.cmpi .ne v24 c0_i32_9
  v25

def k0_cond7 (i : grid0.Coords) : BitVec 1 :=
  let arg0 : BitVec 32 := BitVec.ofNat 32 (i 0).val
  let c31_i32_52 : BitVec 32 := 31#32
  let v125 : BitVec 1 := Scalar.cmpi .eq arg0 c31_i32_52
  let v126 : BitVec 32 := Scalar.extui v125
  let c0_i32_53 : BitVec 32 := 0#32
  let v127 : BitVec 1 := Scalar.cmpi .ne v126 c0_i32_53
  v127

def cc0_transform_0 (i : grid0.Coords) : Fin 2 → Nat :=
  let arg0 : BitVec 32 := BitVec.ofNat 32 (i 0).val
  let c31_i32 : BitVec 32 := 31#32
  let v0 : BitVec 1 := Scalar.cmpi .slt arg0 c31_i32
  let c31_i32_0 : BitVec 32 := 31#32
  let v1 : BitVec 32 := Scalar.subi arg0 c31_i32_0
  let v2 : BitVec 32 := Scalar.select v0 arg0 v1
  let c0_i32 : BitVec 32 := 0#32
  let v3 : BitVec 32 := Scalar.maxsi v2 c0_i32
  let c30_i32 : BitVec 32 := 30#32
  let v4 : BitVec 32 := Scalar.minsi v3 c30_i32
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c0_i32 : BitVec 32 := 0#32
  let v2 : BitVec 32 := Scalar.maxsi v1 c0_i32
  let c16_i32 : BitVec 32 := 16#32
  let v3 : BitVec 32 := Scalar.minsi v2 c16_i32
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c17_i32 : BitVec 32 := 17#32
  let v2 : BitVec 32 := Scalar.subi v1 c17_i32
  let c0_i32 : BitVec 32 := 0#32
  let v3 : BitVec 32 := Scalar.maxsi v2 c0_i32
  let c2_i32 : BitVec 32 := 2#32
  let v4 : BitVec 32 := Scalar.minsi v3 c2_i32
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c17_i32 : BitVec 32 := 17#32
  let v2 : BitVec 32 := Scalar.subi v1 c17_i32
  let c0_i32 : BitVec 32 := 0#32
  let v3 : BitVec 32 := Scalar.maxsi v2 c0_i32
  let c2_i32 : BitVec 32 := 2#32
  let v4 : BitVec 32 := Scalar.minsi v3 c2_i32
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c17_i32 : BitVec 32 := 17#32
  let v2 : BitVec 32 := Scalar.subi v1 c17_i32
  let c0_i32 : BitVec 32 := 0#32
  let v3 : BitVec 32 := Scalar.maxsi v2 c0_i32
  let c2_i32 : BitVec 32 := 2#32
  let v4 : BitVec 32 := Scalar.minsi v3 c2_i32
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.maxsi arg0 c0_i32
  let c30_i32 : BitVec 32 := 30#32
  let v1 : BitVec 32 := Scalar.minsi v0 c30_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c31_i32 : BitVec 32 := 31#32
  let v0 : BitVec 32 := Scalar.subi arg0 c31_i32
  let c0_i32 : BitVec 32 := 0#32
  let v1 : BitVec 32 := Scalar.maxsi v0 c0_i32
  let c30_i32 : BitVec 32 := 30#32
  let v2 : BitVec 32 := Scalar.minsi v1 c30_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi arg0 c31_i32
  let c0_i32 : BitVec 32 := 0#32
  let v1 : BitVec 32 := Scalar.maxsi v0 c0_i32
  let c30_i32 : BitVec 32 := 30#32
  let v2 : BitVec 32 := Scalar.minsi v1 c30_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi arg0 c31_i32
  let c0_i32 : BitVec 32 := 0#32
  let v1 : BitVec 32 := Scalar.maxsi v0 c0_i32
  let c30_i32 : BitVec 32 := 30#32
  let v2 : BitVec 32 := Scalar.minsi v1 c30_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c0_i32 : BitVec 32 := 0#32
  let v2 : BitVec 32 := Scalar.maxsi v1 c0_i32
  let c16_i32 : BitVec 32 := 16#32
  let v3 : BitVec 32 := Scalar.minsi v2 c16_i32
  let c0_i32_1 : BitVec 32 := 0#32
  let c0_i32_2 : BitVec 32 := 0#32
  ![v3.toNat, c0_i32_1.toNat]

def cc0_transform_12 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c0_i32 : BitVec 32 := 0#32
  let v2 : BitVec 32 := Scalar.maxsi v1 c0_i32
  let c16_i32 : BitVec 32 := 16#32
  let v3 : BitVec 32 := Scalar.minsi v2 c16_i32
  let c0_i32_1 : BitVec 32 := 0#32
  let c0_i32_2 : BitVec 32 := 0#32
  ![v3.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c17_i32 : BitVec 32 := 17#32
  let v2 : BitVec 32 := Scalar.subi v1 c17_i32
  let c0_i32 : BitVec 32 := 0#32
  let v3 : BitVec 32 := Scalar.maxsi v2 c0_i32
  let c2_i32 : BitVec 32 := 2#32
  let v4 : BitVec 32 := Scalar.minsi v3 c2_i32
  let c0_i32_1 : BitVec 32 := 0#32
  let c0_i32_2 : BitVec 32 := 0#32
  ![v4.toNat, c0_i32_1.toNat]

def cc0_transform_14 (i : grid0.Coords) : Fin 2 → Nat :=
  let arg0 : BitVec 32 := BitVec.ofNat 32 (i 0).val
  let c31_i32 : BitVec 32 := 31#32
  let v0 : BitVec 32 := Scalar.subi arg0 c31_i32
  let c31_i32_0 : BitVec 32 := 31#32
  let v1 : BitVec 32 := Scalar.subi v0 c31_i32_0
  let c17_i32 : BitVec 32 := 17#32
  let v2 : BitVec 32 := Scalar.subi v1 c17_i32
  let c0_i32 : BitVec 32 := 0#32
  let v3 : BitVec 32 := Scalar.maxsi v2 c0_i32
  let c2_i32 : BitVec 32 := 2#32
  let v4 : BitVec 32 := Scalar.minsi v3 c2_i32
  let c0_i32_1 : BitVec 32 := 0#32
  let c0_i32_2 : BitVec 32 := 0#32
  ![v4.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x1 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "eps4" => some ((126765058482001 / 316912650057057350374175801344 : ℝ) : EReal)
  | _ => none
-- ==== ReferenceIdeal.lean ====
abbrev S63180x128 : Shape := ⟨2, ![63180, 128]⟩
abbrev S34588x128 : Shape := ⟨2, ![34588, 128]⟩
abbrev S4148x128 : Shape := ⟨2, ![4148, 128]⟩
abbrev S101916x128 : Shape := ⟨2, ![101916, 128]⟩
abbrev S63180 : Shape := ⟨1, ![63180]⟩
abbrev S_ : Shape := ⟨0, ![]⟩
abbrev S63180x1 : Shape := ⟨2, ![63180, 1]⟩
abbrev S128 : Shape := ⟨1, ![128]⟩
abbrev S1x128 : Shape := ⟨2, ![1, 128]⟩
abbrev S101916 : Shape := ⟨1, ![101916]⟩
abbrev S1x101916 : Shape := ⟨2, ![1, 101916]⟩
abbrev S2x101916 : Shape := ⟨2, ![2, 101916]⟩
abbrev S2x63180 : Shape := ⟨2, ![2, 63180]⟩
abbrev S63180x2 : Shape := ⟨2, ![63180, 2]⟩
abbrev S63180x1x1 : Shape := ⟨3, ![63180, 1, 1]⟩
abbrev S1 : Shape := ⟨1, ![1]⟩
abbrev S1x1x1 : Shape := ⟨3, ![1, 1, 1]⟩
abbrev S1x63180 : Shape := ⟨2, ![1, 63180]⟩
abbrev S1x34588 : Shape := ⟨2, ![1, 34588]⟩
abbrev S34588 : Shape := ⟨1, ![34588]⟩
abbrev S1x4148 : Shape := ⟨2, ![1, 4148]⟩
abbrev S4148 : Shape := ⟨1, ![4148]⟩

abbrev nBuf : Space → Nat
  | .hbm => 165
  | .vmem => 0
  | .smem => 0
  | _ => 0

abbrev hbmTy0_0 (i : Nat) : BufTy := match i % 128 with
  | 0 => ⟨S63180x128, .f32⟩
  | 1 => ⟨S34588x128, .f32⟩
  | 2 => ⟨S4148x128, .f32⟩
  | 3 => ⟨S101916x128, .f32⟩
  | 4 => ⟨S101916x128, .f32⟩
  | 5 => ⟨S63180, .i32⟩
  | 6 => ⟨S_, .i32⟩
  | 7 => ⟨S63180, .i32⟩
  | 8 => ⟨S63180, .i1⟩
  | 9 => ⟨S63180, .f32⟩
  | 10 => ⟨S_, .i32⟩
  | 11 => ⟨S63180, .i32⟩
  | 12 => ⟨S63180, .i1⟩
  | 13 => ⟨S63180, .f32⟩
  | 14 => ⟨S63180x1, .f32⟩
  | 15 => ⟨S63180x128, .f32⟩
  | 16 => ⟨S63180x128, .f32⟩
  | 17 => ⟨S_, .f32⟩
  | 18 => ⟨S128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S63180x1, .f32⟩
  | 26 => ⟨S63180x128, .f32⟩
  | 27 => ⟨S63180x128, .f32⟩
  | 28 => ⟨S_, .f32⟩
  | 29 => ⟨S128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S101916x128, .f32⟩
  | 37 => ⟨S101916x128, .f32⟩
  | 38 => ⟨S101916x128, .f32⟩
  | 39 => ⟨S101916x128, .f32⟩
  | 40 => ⟨S_, .f32⟩
  | 41 => ⟨S101916x128, .f32⟩
  | 42 => ⟨S101916x128, .f32⟩
  | 43 => ⟨S1x128, .f32⟩
  | 44 => ⟨S101916x128, .f32⟩
  | 45 => ⟨S101916x128, .f32⟩
  | 46 => ⟨S101916x128, .f32⟩
  | 47 => ⟨S101916x128, .f32⟩
  | 48 => ⟨S101916x128, .f32⟩
  | 49 => ⟨S_, .f32⟩
  | 50 => ⟨S101916x128, .f32⟩
  | 51 => ⟨S101916x128, .f32⟩
  | 52 => ⟨S1x128, .f32⟩
  | 53 => ⟨S101916x128, .f32⟩
  | 54 => ⟨S101916x128, .f32⟩
  | 55 => ⟨S101916x128, .f32⟩
  | 56 => ⟨S101916x128, .f32⟩
  | 57 => ⟨S101916x128, .f32⟩
  | 58 => ⟨S_, .f32⟩
  | 59 => ⟨S101916x128, .f32⟩
  | 60 => ⟨S101916x128, .f32⟩
  | 61 => ⟨S101916x128, .f32⟩
  | 62 => ⟨S_, .f32⟩
  | 63 => ⟨S101916, .f32⟩
  | 64 => ⟨S101916, .f32⟩
  | 65 => ⟨S_, .f32⟩
  | 66 => ⟨S101916, .f32⟩
  | 67 => ⟨S101916, .f32⟩
  | 68 => ⟨S101916x128, .f32⟩
  | 69 => ⟨S_, .f32⟩
  | 70 => ⟨S101916, .f32⟩
  | 71 => ⟨S101916, .f32⟩
  | 72 => ⟨S_, .f32⟩
  | 73 => ⟨S101916, .f32⟩
  | 74 => ⟨S101916, .f32⟩
  | 75 => ⟨S101916x128, .f32⟩
  | 76 => ⟨S_, .f32⟩
  | 77 => ⟨S101916, .f32⟩
  | 78 => ⟨S101916, .f32⟩
  | 79 => ⟨S101916, .f32⟩
  | 80 => ⟨S101916x128, .f32⟩
  | 81 => ⟨S_, .f32⟩
  | 82 => ⟨S101916, .f32⟩
  | 83 => ⟨S101916, .f32⟩
  | 84 => ⟨S_, .f32⟩
  | 85 => ⟨S101916, .f32⟩
  | 86 => ⟨S101916, .f32⟩
  | 87 => ⟨S101916x128, .f32⟩
  | 88 => ⟨S_, .f32⟩
  | 89 => ⟨S101916, .f32⟩
  | 90 => ⟨S101916, .f32⟩
  | 91 => ⟨S_, .f32⟩
  | 92 => ⟨S101916, .f32⟩
  | 93 => ⟨S101916, .f32⟩
  | 94 => ⟨S101916x128, .f32⟩
  | 95 => ⟨S_, .f32⟩
  | 96 => ⟨S101916, .f32⟩
  | 97 => ⟨S101916, .f32⟩
  | 98 => ⟨S101916, .f32⟩
  | 99 => ⟨S1x101916, .f32⟩
  | 100 => ⟨S1x101916, .f32⟩
  | 101 => ⟨S2x101916, .f32⟩
  | 102 => ⟨S2x63180, .f32⟩
  | 103 => ⟨S63180x2, .f32⟩
  | 104 => ⟨S_, .f32⟩
  | 105 => ⟨S63180, .f32⟩
  | 106 => ⟨S_, .f32⟩
  | 107 => ⟨S63180, .f32⟩
  | 108 => ⟨S63180, .f32⟩
  | 109 => ⟨S63180x1, .f32⟩
  | 110 => ⟨S63180x2, .f32⟩
  | 111 => ⟨S63180x2, .f32⟩
  | 112 => ⟨S63180x2, .f32⟩
  | 113 => ⟨S_, .f32⟩
  | 114 => ⟨S63180, .f32⟩
  | 115 => ⟨S63180x1, .f32⟩
  | 116 => ⟨S63180x1, .f32⟩
  | 117 => ⟨S63180x2, .f32⟩
  | 118 => ⟨S63180x2, .f32⟩
  | 119 => ⟨S63180x1, .i32⟩
  | 120 => ⟨S_, .i32⟩
  | 121 => ⟨S63180x1, .i32⟩
  | 122 => ⟨S63180x1, .i1⟩
  | 123 => ⟨S_, .i32⟩
  | 124 => ⟨S63180x1, .i32⟩
  | 125 => ⟨S63180x1, .i32⟩
  | 126 => ⟨S63180x1, .i32⟩
  | 127 => ⟨S63180x1x1, .i32⟩
  | _ => ⟨S63180x128, .f32⟩

abbrev hbmTy0_1 (i : Nat) : BufTy := match i % 128 with
  | 0 => ⟨S1, .i32⟩
  | 1 => ⟨S_, .i32⟩
  | 2 => ⟨S63180x1x1, .i32⟩
  | 3 => ⟨S63180x1x1, .i1⟩
  | 4 => ⟨S1x1x1, .i32⟩
  | 5 => ⟨S63180x1x1, .i32⟩
  | 6 => ⟨S63180x1x1, .i1⟩
  | 7 => ⟨S63180x1x1, .i1⟩
  | 8 => ⟨S_, .i1⟩
  | 9 => ⟨S63180x1, .i1⟩
  | 10 => ⟨S63180x1, .f32⟩
  | 11 => ⟨S_, .f32⟩
  | 12 => ⟨S63180x1, .f32⟩
  | 13 => ⟨S63180x1, .f32⟩
  | 14 => ⟨S_, .f32⟩
  | 15 => ⟨S_, .f32⟩
  | 16 => ⟨S_, .f32⟩
  | 17 => ⟨S_, .f32⟩
  | 18 => ⟨S_, .f32⟩
  | 19 => ⟨S1x63180, .f32⟩
  | 20 => ⟨S63180, .f32⟩
  | 21 => ⟨S1x63180, .f32⟩
  | 22 => ⟨S63180, .f32⟩
  | 23 => ⟨S63180, .i1⟩
  | 24 => ⟨S63180, .i32⟩
  | 25 => ⟨S1x34588, .f32⟩
  | 26 => ⟨S34588, .f32⟩
  | 27 => ⟨S1x34588, .f32⟩
  | 28 => ⟨S34588, .f32⟩
  | 29 => ⟨S34588, .i1⟩
  | 30 => ⟨S34588, .i32⟩
  | 31 => ⟨S1x4148, .f32⟩
  | 32 => ⟨S4148, .f32⟩
  | 33 => ⟨S1x4148, .f32⟩
  | 34 => ⟨S4148, .f32⟩
  | 35 => ⟨S4148, .i1⟩
  | 36 => ⟨S4148, .i32⟩
  | _ => ⟨S63180x128, .f32⟩

abbrev hbmTy (i : Nat) : BufTy := match i / 128 with
  | 0 => hbmTy0_0 i
  | 1 => hbmTy0_1 i
  | _ => ⟨S63180x128, .f32⟩

abbrev bufTy : (tb : Table) → Fin (tcTables nBuf tb) → BufTy
  | .hbm, ⟨i, _⟩ => hbmTy i
  | _, _ => ⟨S63180x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call0_cst : Ref sig .tc := ⟨.hbm, 104, rfl⟩
abbrev main_call0_v0 : Ref sig .tc := ⟨.hbm, 105, rfl⟩
abbrev main_call0_cst_0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_v5 : Ref sig .tc := ⟨.hbm, 111, rfl⟩
abbrev main_call0_v6 : Ref sig .tc := ⟨.hbm, 112, rfl⟩
abbrev main_call0_cst_1 : Ref sig .tc := ⟨.hbm, 113, rfl⟩
abbrev main_call0_v7 : Ref sig .tc := ⟨.hbm, 114, rfl⟩
abbrev main_call0_v8 : Ref sig .tc := ⟨.hbm, 115, rfl⟩
abbrev main_call0_v9 : Ref sig .tc := ⟨.hbm, 116, rfl⟩
abbrev main_call0_v10 : Ref sig .tc := ⟨.hbm, 117, rfl⟩
abbrev main_v77 : Ref sig .tc := ⟨.hbm, 118, rfl⟩
abbrev main_v78 : Ref sig .tc := ⟨.hbm, 119, rfl⟩
abbrev main_call1_c : Ref sig .tc := ⟨.hbm, 120, rfl⟩
abbrev main_call1_v0 : Ref sig .tc := ⟨.hbm, 121, rfl⟩
abbrev main_call1_v1 : Ref sig .tc := ⟨.hbm, 122, rfl⟩
abbrev main_call1_c_0 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_call1_v5 : Ref sig .tc := ⟨.hbm, 127, rfl⟩
abbrev main_call1_c_1 : Ref sig .tc := ⟨.hbm, 128, rfl⟩
abbrev main_call1_c_2 : Ref sig .tc := ⟨.hbm, 129, rfl⟩
abbrev main_call1_v6 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_call1_v11 : Ref sig .tc := ⟨.hbm, 135, rfl⟩
abbrev main_call1_c_3 : Ref sig .tc := ⟨.hbm, 136, rfl⟩
abbrev main_call1_v12 : Ref sig .tc := ⟨.hbm, 137, rfl⟩
abbrev main_call1_v13 : Ref sig .tc := ⟨.hbm, 138, rfl⟩
abbrev main_call1_cst : Ref sig .tc := ⟨.hbm, 139, rfl⟩
abbrev main_call1_v14 : Ref sig .tc := ⟨.hbm, 140, rfl⟩
abbrev main_v79 : Ref sig .tc := ⟨.hbm, 141, rfl⟩
abbrev main_cst_19 : Ref sig .tc := ⟨.hbm, 142, rfl⟩
abbrev main_v80 : Ref sig .tc := ⟨.hbm, 143, rfl⟩
abbrev main_cst_20 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩

abbrev nD : Nat := 1
abbrev τ : Topo := Topo.v7x

variable {F : FTy → Type} [FloatOps F]
-- ==== Proof.Ideal.Names.lean ====
/-
  The names the body's transfers are told by: block `b` of one of the two big arrays (the rows the `b`-th copy reads),
  slot `s` of a double buffer, and the semaphore of slot `s` for array `j`; the closed forms of the offsets the program
  computes from its grid coordinate; and at which coordinates each of the program's conditions holds.
-/
module

public import proofs.«01_k».proof.Proof.Gen.KernelIdeal.Skeleton
public import proofs.«01_k».proof.Proof.Gen.KernelIdeal.Frame
public import Idealize.ShloMosaic.Lib.Ring
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

/-! ## Blocks, slots, semaphores -/

/-- The row the `b`-th copy starts at: the company rows in steps of 2048, then the brand rows likewise. -/
def rowOf (b : ℕ) : ℕ := if b < 31 then b * 2048 else 63180 + (b - 31) * 2048

abbrev blkOff (b : Fin 48) : Fin 2 → Nat := ![rowOf b.val, 0]
theorem blkOff_inb (b : Fin 48) : ∀ a, blkOff b a + S2048x128.size a ≤ S101916x128.size a := by
  have := b.isLt; intro a; fin_cases a
  · show rowOf b.val + 2048 ≤ 101916; unfold rowOf; split <;> omega
  · show 0 + 128 ≤ 128; omega
abbrev slotOff (s : Fin 2) : Fin 3 → Nat := ![s.val, 0, 0]
theorem slotOff_inb (s : Fin 2) : ∀ a, slotOff s a + S1x2048x128.size a ≤ S2x2048x128.size a := by
  have := s.isLt; intro a; fin_cases a
  · show s.val + 1 ≤ 2; omega
  · show 0 + 2048 ≤ 2048; omega
  · show 0 + 128 ≤ 128; omega
abbrev semOff (s j : Fin 2) : Fin 2 → Nat := ![s.val, j.val]
theorem semOff_inb (s j : Fin 2) : ∀ a, semOff s j a + S1x1.size a ≤ S2x2.size a := by
  have := s.isLt; have := j.isLt; intro a; fin_cases a
  · show s.val + 1 ≤ 2; omega
  · show j.val + 1 ≤ 2; omega

/-- Block `b` of a big array. -/
def blk (A : Memref sig .tc .hbm S101916x128 .f32) (b : Fin 48) : Memref sig .tc .hbm S2048x128 .f32 :=
  A.slice (Rect.unit (s := S101916x128) (blkOff b) S2048x128.size (blkOff_inb b)) (fun _ => rfl)
/-- Slot `s` of a double buffer. -/
def rslot (B : Memref sig .tc .vmem S2x2048x128 .f32) (s : Fin 2) : Memref sig .tc .vmem S2048x128 .f32 :=
  (B.slice (Rect.unit (s := S2x2048x128) (slotOff s) S1x2048x128.size (slotOff_inb s)) (fun _ => rfl)).squeeze S2048x128 squeezes_S1x2048x128_S2048x128
/-- The semaphore of slot `s` for array `j`. -/
def csm (s j : Fin 2) : DmaSems sig S_ :=
  (cc0_scratch5.slice (Rect.unit (s := S2x2) (semOff s j) S1x1.size (semOff_inb s j))).squeeze S_ squeezes_S1x1_S_

instance (s : Fin 2) : ClosedOff (slotOff s) := ⟨slotOff s, rfl⟩
instance (b : Fin 48) : ClosedOff (blkOff b) := ⟨blkOff b, rfl⟩

theorem csm_congr {off : Fin 2 → Nat} {s j : Fin 2} (e : off = semOff s j) (hh) :
    (cc0_scratch5.slice (Rect.unit (s := S2x2) off S1x1.size hh)).squeeze S_ squeezes_S1x1_S_ = csm s j :=
  congrArg (fun A : DmaSems sig S1x1 => A.squeeze S_ squeezes_S1x1_S_) (SemArray.slice_unit_congr _ e _ _)
theorem rslot_congr (B : Memref sig .tc .vmem S2x2048x128 .f32) {off : Fin 3 → Nat} {s : Fin 2} (e : off = slotOff s) (hh hs) :
    (B.slice (Rect.unit (s := S2x2048x128) off S1x2048x128.size hh) hs).squeeze S2048x128 squeezes_S1x2048x128_S2048x128 = rslot B s :=
  congrArg (fun M : Memref sig .tc .vmem S1x2048x128 .f32 => M.squeeze S2048x128 squeezes_S1x2048x128_S2048x128) (Memref.slice_unit_congr _ e _ _ _ _)
theorem blk_congr (A : Memref sig .tc .hbm S101916x128 .f32) {off : Fin 2 → Nat} {b : Fin 48} (e : off = blkOff b) (hh hs) :
    A.slice (Rect.unit (s := S101916x128) off S2048x128.size hh) hs = blk A b := Memref.slice_unit_congr _ e _ _ _ (fun _ => rfl)

/-! ## The grid coordinate -/

/-- A coordinate is its one number. -/
theorem coords_eq (i : grid0.Coords) : i = fun a => Fin.cast (by fin_cases a; rfl) (i 0) := by
  funext a; fin_cases a; rfl

/-- The coordinate whose number is `n`. -/
abbrev at82 (n : Fin 82) : grid0.Coords := fun a => Fin.cast (by fin_cases a; rfl) n

theorem of_at82 (P : grid0.Coords → Prop) (h : ∀ n : Fin 82, P (at82 n)) (i : grid0.Coords) : P i := by
  rw [coords_eq i]; exact h (i 0)

theorem coord_lt (i : grid0.Coords) : (i 0).val < 82 := (i 0).isLt

/-- Coordinate `t` is the `t`-th point's. -/
theorem coords_val : ∀ t : Fin grid0.N, (grid0.coords t 0).val = t.val := by decide +kernel

theorem cond1_iff (i : grid0.Coords) : k0_cond1 i = 1#1 ↔ (i 0).val = 30 :=
  of_at82 (fun i => k0_cond1 i = 1#1 ↔ (i 0).val = 30) (by decide +kernel) i
theorem cond2_iff (i : grid0.Coords) : k0_cond2 i = 1#1 ↔ 31 ≤ (i 0).val ∧ (i 0).val < 78 :=
  of_at82 (fun i => k0_cond2 i = 1#1 ↔ 31 ≤ (i 0).val ∧ (i 0).val < 78) (by decide +kernel) i
theorem cond6_iff (i : grid0.Coords) : k0_cond6 i = 1#1 ↔ 31 ≤ (i 0).val ∧ (i 0).val < 62 :=
  of_at82 (fun i => k0_cond6 i = 1#1 ↔ 31 ≤ (i 0).val ∧ (i 0).val < 62) (by decide +kernel) i
theorem cond7_iff (i : grid0.Coords) : k0_cond7 i = 1#1 ↔ (i 0).val = 31 :=
  of_at82 (fun i => k0_cond7 i = 1#1 ↔ (i 0).val = 31) (by decide +kernel) i
theorem cond8_iff (i : grid0.Coords) : k0_cond8 i = 1#1 ↔ 62 ≤ (i 0).val ∧ (i 0).val < 79 :=
  of_at82 (fun i => k0_cond8 i = 1#1 ↔ 62 ≤ (i 0).val ∧ (i 0).val < 79) (by decide +kernel) i
theorem cond9_iff (i : grid0.Coords) : k0_cond9 i = 1#1 ↔ 79 ≤ (i 0).val :=
  of_at82 (fun i => k0_cond9 i = 1#1 ↔ 79 ≤ (i 0).val) (by decide +kernel) i

/-- The three conditions the program spells in place. -/
abbrev condMeans (i : grid0.Coords) : BitVec 1 := Scalar.cmpi .ne (Scalar.extui (Scalar.cmpi .slt (BitVec.ofNat 32 (i 0).val) 31#32) : BitVec 32) 0#32
abbrev condLast (i : grid0.Coords) : BitVec 1 := Scalar.cmpi .ne (Scalar.extui (Scalar.cmpi .eq (BitVec.ofNat 32 (i 0).val) 30#32) : BitVec 32) 0#32
abbrev condFirst (i : grid0.Coords) : BitVec 1 := Scalar.cmpi .ne (Scalar.extui (Scalar.cmpi .eq (BitVec.ofNat 32 (i 0).val) 0#32) : BitVec 32) 0#32
theorem condMeans_iff (i : grid0.Coords) : condMeans i = 1#1 ↔ (i 0).val < 31 :=
  of_at82 (fun i => condMeans i = 1#1 ↔ (i 0).val < 31) (by decide +kernel) i
theorem condLast_iff (i : grid0.Coords) : condLast i = 1#1 ↔ (i 0).val = 30 :=
  of_at82 (fun i => condLast i = 1#1 ↔ (i 0).val = 30) (by decide +kernel) i
theorem condFirst_iff (i : grid0.Coords) : condFirst i = 1#1 ↔ (i 0).val = 0 :=
  of_at82 (fun i => condFirst i = 1#1 ↔ (i 0).val = 0) (by decide +kernel) i

/-! ## The offsets -/

theorem off1_eq : k0_off1 = blkOff 0 := by decide +kernel
theorem off2_eq (i : grid0.Coords) : k0_off2 i = semOff (Ring.sl 2 (i 0).val) 0 :=
  of_at82 (fun i => k0_off2 i = semOff (Ring.sl 2 (i 0).val) 0) (by decide +kernel) i
theorem off3_eq (i : grid0.Coords) : k0_off3 i = slotOff (Ring.sl 2 (i 0).val) :=
  of_at82 (fun i => k0_off3 i = slotOff (Ring.sl 2 (i 0).val)) (by decide +kernel) i
theorem off4_eq (i : grid0.Coords) (h : 31 ≤ (i 0).val ∧ (i 0).val < 78) : k0_off4 i = blkOff (Ring.bk 48 ((i 0).val - 31 + 1)) :=
  of_at82 (fun i => 31 ≤ (i 0).val ∧ (i 0).val < 78 → k0_off4 i = blkOff (Ring.bk 48 ((i 0).val - 31 + 1))) (by decide +kernel) i h
theorem off5_eq (i : grid0.Coords) : k0_off5 i = semOff (Ring.sl 2 (i 0).val) 1 :=
  of_at82 (fun i => k0_off5 i = semOff (Ring.sl 2 (i 0).val) 1) (by decide +kernel) i
theorem off6_eq (i : grid0.Coords) : k0_off6 i = semOff (Ring.sl 2 ((i 0).val + 1)) 0 :=
  of_at82 (fun i => k0_off6 i = semOff (Ring.sl 2 ((i 0).val + 1)) 0) (by decide +kernel) i
theorem off7_eq (i : grid0.Coords) : k0_off7 i = slotOff (Ring.sl 2 ((i 0).val + 1)) :=
  of_at82 (fun i => k0_off7 i = slotOff (Ring.sl 2 ((i 0).val + 1))) (by decide +kernel) i
theorem off8_eq (i : grid0.Coords) (h : 31 ≤ (i 0).val ∧ (i 0).val < 62) : k0_off8 i = blkOff (Ring.bk 48 ((i 0).val - 31)) :=
  of_at82 (fun i => 31 ≤ (i 0).val ∧ (i 0).val < 62 → k0_off8 i = blkOff (Ring.bk 48 ((i 0).val - 31))) (by decide +kernel) i h
theorem off9_eq (i : grid0.Coords) : k0_off9 i = semOff (Ring.sl 2 ((i 0).val + 1)) 1 :=
  of_at82 (fun i => k0_off9 i = semOff (Ring.sl 2 ((i 0).val + 1)) 1) (by decide +kernel) i
theorem off10_eq (i : grid0.Coords) : k0_off10 i = slotOff (Ring.sl 2 ((i 0).val + 1)) :=
  of_at82 (fun i => k0_off10 i = slotOff (Ring.sl 2 ((i 0).val + 1))) (by decide +kernel) i
theorem off11_eq (i : grid0.Coords) : k0_off11 i = semOff (Ring.sl 2 ((i 0).val + 1)) 0 :=
  of_at82 (fun i => k0_off11 i = semOff (Ring.sl 2 ((i 0).val + 1)) 0) (by decide +kernel) i
theorem off12_eq (i : grid0.Coords) : k0_off12 i = slotOff (Ring.sl 2 ((i 0).val + 1)) :=
  of_at82 (fun i => k0_off12 i = slotOff (Ring.sl 2 ((i 0).val + 1))) (by decide +kernel) i
theorem off13_eq (i : grid0.Coords) (h : 62 ≤ (i 0).val ∧ (i 0).val < 79) : k0_off13 i = blkOff (Ring.bk 48 ((i 0).val - 31)) :=
  of_at82 (fun i => 62 ≤ (i 0).val ∧ (i 0).val < 79 → k0_off13 i = blkOff (Ring.bk 48 ((i 0).val - 31))) (by decide +kernel) i h
theorem off14_eq (i : grid0.Coords) : k0_off14 i = semOff (Ring.sl 2 ((i 0).val + 1)) 1 :=
  of_at82 (fun i => k0_off14 i = semOff (Ring.sl 2 ((i 0).val + 1)) 1) (by decide +kernel) i
theorem off15_eq (i : grid0.Coords) : k0_off15 i = slotOff (Ring.sl 2 ((i 0).val + 1)) :=
  of_at82 (fun i => k0_off15 i = slotOff (Ring.sl 2 ((i 0).val + 1))) (by decide +kernel) i

instance (i : grid0.Coords) : ClosedOff (k0_off10 i) := ⟨slotOff (Ring.sl 2 ((i 0).val + 1)), off10_eq i⟩
instance (i : grid0.Coords) : ClosedOff (k0_off15 i) := ⟨slotOff (Ring.sl 2 ((i 0).val + 1)), off15_eq i⟩

/-! ## The program's slices are those names -/

section Canon
variable (i : grid0.Coords) (A : Memref sig .tc .hbm S101916x128 .f32) (B : Memref sig .tc .vmem S2x2048x128 .f32)

@[sl_canon] theorem sem_lit00 (hh) : (cc0_scratch5.slice (Rect.unit (s := S2x2) ![0, 0] S1x1.size hh)).squeeze S_ squeezes_S1x1_S_ = csm 0 0 := csm_congr (by decide) _
@[sl_canon] theorem sem_lit01 (hh) : (cc0_scratch5.slice (Rect.unit (s := S2x2) ![0, 1] S1x1.size hh)).squeeze S_ squeezes_S1x1_S_ = csm 0 1 := csm_congr (by decide) _
@[sl_canon] theorem slot_lit0 (hh hs) : (B.slice (Rect.unit (s := S2x2048x128) ![0, 0, 0] S1x2048x128.size hh) hs).squeeze S2048x128 squeezes_S1x2048x128_S2048x128 = rslot B 0 := rslot_congr B (by decide) _ _
@[sl_canon] theorem blk_lit0 (hh hs) : A.slice (Rect.unit (s := S101916x128) k0_off1 S2048x128.size hh) hs = blk A 0 := blk_congr A off1_eq _ _

@[sl_canon] theorem sem_out0 (hh) :
    (cc0_scratch5.slice (Rect.unit (s := S2x2) (k0_off2 i) S1x1.size hh)).squeeze S_ squeezes_S1x1_S_ = csm (Ring.sl 2 (i 0).val) 0 := csm_congr (off2_eq i) _
@[sl_canon] theorem sem_out1 (hh) :
    (cc0_scratch5.slice (Rect.unit (s := S2x2) (k0_off5 i) S1x1.size hh)).squeeze S_ squeezes_S1x1_S_ = csm (Ring.sl 2 (i 0).val) 1 := csm_congr (off5_eq i) _
@[sl_canon] theorem slot_out (hh hs) :
    (B.slice (Rect.unit (s := S2x2048x128) (k0_off3 i) S1x2048x128.size hh) hs).squeeze S2048x128 squeezes_S1x2048x128_S2048x128 = rslot B (Ring.sl 2 (i 0).val) := rslot_congr B (off3_eq i) _ _
@[sl_canon] theorem blk_out (h : 31 ≤ (i 0).val ∧ (i 0).val < 78) (hh hs) :
    A.slice (Rect.unit (s := S101916x128) (k0_off4 i) S2048x128.size hh) hs = blk A (Ring.bk 48 ((i 0).val - 31 + 1)) := blk_congr A (off4_eq i h) _ _

@[sl_canon] theorem sem_co0 (hh) :
    (cc0_scratch5.slice (Rect.unit (s := S2x2) (k0_off6 i) S1x1.size hh)).squeeze S_ squeezes_S1x1_S_ = csm (Ring.sl 2 ((i 0).val + 1)) 0 := csm_congr (off6_eq i) _
@[sl_canon] theorem sem_co1 (hh) :
    (cc0_scratch5.slice (Rect.unit (s := S2x2) (k0_off9 i) S1x1.size hh)).squeeze S_ squeezes_S1x1_S_ = csm (Ring.sl 2 ((i 0).val + 1)) 1 := csm_congr (off9_eq i) _
@[sl_canon] theorem slot_co (hh hs) :
    (B.slice (Rect.unit (s := S2x2048x128) (k0_off7 i) S1x2048x128.size hh) hs).squeeze S2048x128 squeezes_S1x2048x128_S2048x128 = rslot B (Ring.sl 2 ((i 0).val + 1)) := rslot_congr B (off7_eq i) _ _
@[sl_canon] theorem blk_co (h : 31 ≤ (i 0).val ∧ (i 0).val < 62) (hh hs) :
    A.slice (Rect.unit (s := S101916x128) (k0_off8 i) S2048x128.size hh) hs = blk A (Ring.bk 48 ((i 0).val - 31)) := blk_congr A (off8_eq i h) _ _

@[sl_canon] theorem sem_br0 (hh) :
    (cc0_scratch5.slice (Rect.unit (s := S2x2) (k0_off11 i) S1x1.size hh)).squeeze S_ squeezes_S1x1_S_ = csm (Ring.sl 2 ((i 0).val + 1)) 0 := csm_congr (off11_eq i) _
@[sl_canon] theorem sem_br1 (hh) :
    (cc0_scratch5.slice (Rect.unit (s := S2x2) (k0_off14 i) S1x1.size hh)).squeeze S_ squeezes_S1x1_S_ = csm (Ring.sl 2 ((i 0).val + 1)) 1 := csm_congr (off14_eq i) _
@[sl_canon] theorem slot_br (hh hs) :
    (B.slice (Rect.unit (s := S2x2048x128) (k0_off12 i) S1x2048x128.size hh) hs).squeeze S2048x128 squeezes_S1x2048x128_S2048x128 = rslot B (Ring.sl 2 ((i 0).val + 1)) := rslot_congr B (off12_eq i) _ _
@[sl_canon] theorem blk_br (h : 62 ≤ (i 0).val ∧ (i 0).val < 79) (hh hs) :
    A.slice (Rect.unit (s := S101916x128) (k0_off13 i) S2048x128.size hh) hs = blk A (Ring.bk 48 ((i 0).val - 31)) := blk_congr A (off13_eq i h) _ _

end Canon

end Cert.Proof.KernelIdeal

end
-- ==== Proof.Ideal.Body.lean ====
/-
  One run of the body at each kind of grid point.
-/
module

public import proofs.«01_k».proof.Proof.Ideal.Names
public import Idealize.ShloMosaic.Lib.Pipeline.Value

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ (Pipeline.UD sig nD τ) ℕ

abbrev A3 : Memref sig .tc .hbm S101916x128 .f32 := Memref.whole main_arg3
abbrev A4 : Memref sig .tc .hbm S101916x128 .f32 := Memref.whole main_arg4
abbrev B0 : Memref sig .tc .vmem S2x2048x128 .f32 := Memref.whole cc0_scratch0
abbrev B1 : Memref sig .tc .vmem S2x2048x128 .f32 := Memref.whole cc0_scratch1
abbrev SU : Memref sig .tc .vmem S2x128 .f32 := Memref.whole cc0_scratch2
abbrev CN : Memref sig .tc .vmem S1x1 .f32 := Memref.whole cc0_scratch3
abbrev VE : Memref sig .tc .vmem S4x128 .f32 := Memref.whole cc0_scratch4

/-- A buffer's contents type, and a memref's elements held outright at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

section Pieces
variable (c : Dev nD) (A : Memref sig .tc .hbm S101916x128 .f32) (B : Memref sig .tc .vmem S2x2048x128 .f32) (j : Fin 2)
  (q : Fin 2 → PosShare TreeShare) (V : Bf (F := F) c A)

abbrev cellP (s : Fin 2) : sProp 𝕄 := semVal ((c : Thread nD τ), SemLoc.dma (csm s j).sem) 0
abbrev slotP (s : Fin 2) (f : Bf (F := F) c (rslot B s)) : sProp 𝕄 :=
  (rslot B s).view.loc (c : Thread nD τ) ↦[(rslot B s).view.set]{fullShare} f
/-- Block `b` of the array, at the share slot `s`'s copies read by. -/
abbrev blkP (s : Fin 2) (b : Fin 48) : sProp 𝕄 := (blk A b).view.loc (c : Thread nD τ) ↦[(blk A b).view.set]{q s} V
abbrev payload (b : Fin 48) : S2048x128.Idx → Elt F .f32 := ReadAs.same.apply ((blk A b).view.read (Elt F) V)
abbrev landed (s : Fin 2) (b : Fin 48) (f : Bf (F := F) c (rslot B s)) : Bf (F := F) c (rslot B s) :=
  (rslot B s).view.writes (Elt F) f [⟨Rect.whole S2048x128, payload c A V b⟩]
/-- Slot `s` filling with block `b`. -/
abbrev flightP (s : Fin 2) (b : Fin 48) (f : Bf (F := F) c (rslot B s)) : sProp 𝕄 :=
  Transfers.Flight countersEmb (c : Thread nD τ) (SemLoc.dma (csm s j).sem) () 32768 iprop(slotP c B s (landed c A B V s b f) ∗ blkP c A q V s b)
end Pieces

theorem z2 : (![0, 0] : Fin 2 → ℕ) = fun _ => 0 := by funext a; fin_cases a <;> rfl

/-- A whole-block load reads the view. -/
theorem rd2 {sp : Space} {d : Fin 2 → ℕ} {e : EltTy} (v : View sig .tc sp ⟨2, d⟩ e) (f : v.ty.Contents (Elt F))
    (inb : ∀ a, (![0, 0] : Fin 2 → ℕ) a + d a ≤ d a) {x : (⟨2, d⟩ : Shape).Idx → Elt F e} (h : v.read (Elt F) f = x) :
    v.readAt (Elt F) (Rect.unit (s := ⟨2, d⟩) ![0, 0] d inb).toLoadRect f = x := by
  rw [View.readAt_eq_ld, h]; exact View.ld_unit_zero (S := ⟨2, d⟩) z2 inb x

theorem rw_full {sp : Space} {S : Shape} {e : EltTy} (v : View sig .tc sp S e) (g : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) g (⟨Rect.unit off S.size inb, w⟩ :: L)) = w := by
  rw [View.read_writes_eq_canon _ _ _ (fun y => ⟨_, List.mem_cons_self, View.mem_set_unit_zero h inb y⟩)]
  exact View.canon_cons_unit_zero h inb w L

theorem rc_part {sp : Space} {S : Shape} {e : EltTy} (v : View sig .tc sp S e) {off : Fin S.rank → ℕ} (h : off = fun _ => 0)
    (inb : ∀ a, off a + S.size a ≤ S.size a) (r : Rect S) (w : S.Idx → Elt F e) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩), View.canon_unit_zero h inb w]

/-- A buffer whose last store was of the whole block is held at that store's values. -/
theorem owns_full (c : Dev nD) {sp : Space} {d : Fin 2 → ℕ} {e : EltTy} (M : Memref sig .tc sp ⟨2, d⟩ e) (g : Bf (F := F) c M)
    (inb : ∀ a, (![0, 0] : Fin 2 → ℕ) a + d a ≤ d a) {w w' : (⟨2, d⟩ : Shape).Idx → Elt F e} (L : List (View.Piece (Elt F) ⟨2, d⟩ e)) (hw : w = w') :
    (M.view.loc (c : Thread nD τ) ↦[M.view.set]{fullShare} M.view.writes (Elt F) g (⟨Rect.unit (s := ⟨2, d⟩) ![0, 0] d inb, w⟩ :: L) : sProp 𝕄)
      ⊢ iprop(∃ f, ⌜M.view.read (Elt F) f = w'⌝ ∗ (M.view.loc (c : Thread nD τ) ↦[M.view.set]{fullShare} f)) := by
  subst hw
  iintro H; iexists _; isplitr
  swap; · iexact H
  ipureintro
  exact rw_full (S := ⟨2, d⟩) M.view g z2 inb w L

/-- The same, the values' equation left for afterwards. -/
theorem owns_full' (c : Dev nD) {sp : Space} {d : Fin 2 → ℕ} {e : EltTy} (M : Memref sig .tc sp ⟨2, d⟩ e) {g : Bf (F := F) c M}
    {inb : ∀ a, (![0, 0] : Fin 2 → ℕ) a + d a ≤ d a} {w w' : (⟨2, d⟩ : Shape).Idx → Elt F e} {L : List (View.Piece (Elt F) ⟨2, d⟩ e)} :
    (M.view.loc (c : Thread nD τ) ↦[M.view.set]{fullShare} M.view.writes (Elt F) g (⟨Rect.unit (s := ⟨2, d⟩) ![0, 0] d inb, w⟩ :: L) : sProp 𝕄)
      ⊢ iprop(⌜w = w'⌝ -∗ ∃ f, ⌜M.view.read (Elt F) f = w'⌝ ∗ (M.view.loc (c : Thread nD τ) ↦[M.view.set]{fullShare} f)) := by
  iintro H %h
  iapply (owns_full c M g inb L h) $$ H

/-- The block landed in a slot, read back through the enclosing buffer. -/
theorem slot_read (c : Dev nD) (B : Memref sig .tc .vmem S2x2048x128 .f32) (s : Fin 2) {off : Fin 3 → ℕ} (h : off = slotOff s)
    (inb : ∀ a, off a + S1x2048x128.size a ≤ S2x2048x128.size a) (f : Bf (F := F) c (rslot B s)) (p : S2048x128.Idx → Elt F .f32) :
    shapeCast S2048x128 (B.view.readAt (Elt F) (Rect.unit (s := S2x2048x128) off S1x2048x128.size inb).toLoadRect
      ((rslot B s).view.writes (Elt F) f [⟨Rect.whole S2048x128, p⟩])) shapeCasts_S1x2048x128_S2048x128 = p := by
  subst h
  show (rslot B s).view.read (Elt F) ((rslot B s).view.writes (Elt F) f [⟨Rect.whole S2048x128, p⟩]) = p
  rw [View.read_writes_eq_canon _ _ _ (fun y => ⟨_, List.mem_cons_self, by
    show y ∈ (Rect.whole S2048x128).set; rw [Rect.set_whole]; exact Finset.mem_univ y⟩)]
  funext y
  have e := View.canon_cons_emb (Val := Elt F) (Rect.whole S2048x128) p [] y
  rw [Rect.emb_whole_apply] at e
  exact e

/-- A load of the whole block after one store of the whole block reads the stored values. -/
theorem rdc_full {sp : Space} {d : Fin 2 → ℕ} {e : EltTy} (v : View sig .tc sp ⟨2, d⟩ e)
    (inb : ∀ a, (![0, 0] : Fin 2 → ℕ) a + d a ≤ d a) {w w' : (⟨2, d⟩ : Shape).Idx → Elt F e} (h : w = w') :
    v.readCov [(⟨Rect.unit (s := ⟨2, d⟩) ![0, 0] d inb, w⟩ : View.Piece (Elt F) ⟨2, d⟩ e)] (Rect.unit (s := ⟨2, d⟩) ![0, 0] d inb).toLoadRect = w' := by
  subst h; exact View.readCov_unit_zero (S := ⟨2, d⟩) v z2 inb w

/-- A load of a part after one store of the whole block reads that part of the stored values. -/
theorem rdc_row {sp : Space} {d : Fin 2 → ℕ} {e : EltTy} (v : View sig .tc sp ⟨2, d⟩ e)
    (inb : ∀ a, (![0, 0] : Fin 2 → ℕ) a + d a ≤ d a) (r : Rect ⟨2, d⟩) {w w' : (⟨2, d⟩ : Shape).Idx → Elt F e} (h : w = w') :
    v.readCov [(⟨Rect.unit (s := ⟨2, d⟩) ![0, 0] d inb, w⟩ : View.Piece (Elt F) ⟨2, d⟩ e)] r.toLoadRect = View.ld w' r := by
  subst h; exact rc_part (S := ⟨2, d⟩) v z2 inb r w

theorem congr4 {α β γ δ ε : Sort _} (f : α → β → γ → δ → ε) {a a' b b' x x' d d'} (h1 : a = a') (h2 : b = b') (h3 : x = x') (h4 : d = d') :
    f a b x d = f a' b' x' d' := by subst h1 h2 h3 h4; rfl

section Run
variable (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S1x2048 .f32) (harg6 : arg6.IsWhole)
  (arg7 : Memref sig .tc .vmem S2048x1 .f32) (harg7 : arg7.IsWhole)
  (arg10 : Memref sig .tc .vmem S2048x2 .f32) (harg10 : arg10.IsWhole) (arg11 : Memref sig .tc .vmem S2048x1 .i32) (harg11 : arg11.IsWhole)
  (arg12 : Memref sig .tc .vmem S2048x2 .f32) (harg12 : arg12.IsWhole) (arg13 : Memref sig .tc .vmem S2048x1 .i32) (harg13 : arg13.IsWhole)
  (arg14 : Memref sig .tc .vmem S2048x2 .f32) (harg14 : arg14.IsWhole) (arg15 : Memref sig .tc .vmem S2048x1 .i32) (harg15 : arg15.IsWhole)
  (arg16 : Memref sig .tc .vmem S1x1 .f32) (harg16 : arg16.IsWhole)

/-- The body on the given staging memrefs, the two big arrays and the scratch its own. -/
abbrev bodyG : Prog (TpuEff nD τ sig (Elt F) Λ₀ .tc) PUnit :=
  cc0__body i arg1 harg1 arg2 harg2 arg3 harg3 arg4 harg4 arg5 harg5 arg6 harg6 arg7 harg7 A3 (Memref.isWhole_whole _) A4 (Memref.isWhole_whole _)
    arg10 harg10 arg11 harg11 arg12 harg12 arg13 harg13 arg14 harg14 arg15 harg15 arg16 harg16
    B0 (Memref.isWhole_whole _) B1 (Memref.isWhole_whole _) SU (Memref.isWhole_whole _) CN (Memref.isWhole_whole _) VE (Memref.isWhole_whole _) cc0_scratch5

theorem co_run (q0 q1 : Fin 2 → PosShare TreeShare) (V3 : Bf (F := F) c A3) (V4 : Bf (F := F) c A4)
    (x1 : S2048x128.Idx → Elt F .f32) (x7 : S2048x1.Idx → Elt F .f32) (xv : S4x128.Idx → Elt F .f32) (l : S1x1.Idx → Elt F .f32)
    (hn : 31 < (i 0).val ∧ (i 0).val < 62)
    (W : Waits sig Unit) (Q : PUnit → sProp 𝕄) :
    iprop(owns (c : Thread nD τ) arg1 fullShare x1
        ∗ owns (c : Thread nD τ) arg7 fullShare x7
        ∗ owns (c : Thread nD τ) VE fullShare xv
        ∗ (∃ d, owns (c : Thread nD τ) arg10 fullShare d)
        ∗ (∃ d, owns (c : Thread nD τ) arg11 fullShare d)
        ∗ owns (c : Thread nD τ) arg16 fullShare l
        ∗ (∃ u, flightP c A3 B0 0 q0 V3 (Ring.sl 2 ((i 0).val + 1)) (Ring.bk 48 ((i 0).val - 31)) u)
        ∗ (∃ u, flightP c A4 B1 1 q1 V4 (Ring.sl 2 ((i 0).val + 1)) (Ring.bk 48 ((i 0).val - 31)) u)
        ∗ (∃ u, slotP c B0 (Ring.sl 2 (i 0).val) u)
        ∗ (∃ u, slotP c B1 (Ring.sl 2 (i 0).val) u)
        ∗ cellP c 0 (Ring.sl 2 (i 0).val)
        ∗ cellP c 1 (Ring.sl 2 (i 0).val)
        ∗ blkP c A3 q0 V3 (Ring.sl 2 (i 0).val) (Ring.bk 48 ((i 0).val - 31 + 1))
        ∗ blkP c A4 q1 V4 (Ring.sl 2 (i 0).val) (Ring.bk 48 ((i 0).val - 31 + 1))
        ∗ owes (c : Thread nD τ) 0 W
        ∗ (iprop(owns (c : Thread nD τ) arg1 fullShare x1
            ∗ owns (c : Thread nD τ) arg7 fullShare x7
            ∗ owns (c : Thread nD τ) VE fullShare xv
            ∗ owns (c : Thread nD τ) arg10 fullShare (k0_pay16 x1 (payload c A3 V3 (Ring.bk 48 ((i 0).val - 31))) (payload c A4 V4 (Ring.bk 48 ((i 0).val - 31))) xv)
            ∗ owns (c : Thread nD τ) arg11 fullShare (k0_pay18 x1 (payload c A3 V3 (Ring.bk 48 ((i 0).val - 31))) (payload c A4 V4 (Ring.bk 48 ((i 0).val - 31))) xv)
            ∗ owns (c : Thread nD τ) arg16 fullShare (k0_pay4 i (k0_pay17 x1 (payload c A3 V3 (Ring.bk 48 ((i 0).val - 31))) (payload c A4 V4 (Ring.bk 48 ((i 0).val - 31))) xv) x7 l)
            ∗ (∃ u, flightP c A3 B0 0 q0 V3 (Ring.sl 2 (i 0).val) (Ring.bk 48 ((i 0).val - 31 + 1)) u)
            ∗ (∃ u, flightP c A4 B1 1 q1 V4 (Ring.sl 2 (i 0).val) (Ring.bk 48 ((i 0).val - 31 + 1)) u)
            ∗ (∃ u, slotP c B0 (Ring.sl 2 ((i 0).val + 1)) u)
            ∗ (∃ u, slotP c B1 (Ring.sl 2 ((i 0).val + 1)) u)
            ∗ cellP c 0 (Ring.sl 2 ((i 0).val + 1))
            ∗ cellP c 1 (Ring.sl 2 ((i 0).val + 1))
            ∗ blkP c A3 q0 V3 (Ring.sl 2 ((i 0).val + 1)) (Ring.bk 48 ((i 0).val - 31))
            ∗ blkP c A4 q1 V4 (Ring.sl 2 ((i 0).val + 1)) (Ring.bk 48 ((i 0).val - 31))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : ¬ k0_cond1 i = 1#1 := by rw [cond1_iff]; omega
  have h2 : k0_cond2 i = 1#1 := by rw [cond2_iff]; omega
  have h3 : ¬ condMeans i = 1#1 := by rw [condMeans_iff]; omega
  have h6 : k0_cond6 i = 1#1 := by rw [cond6_iff]; omega
  have h7 : ¬ k0_cond7 i = 1#1 := by rw [cond7_iff]; omega
  have h8 : ¬ k0_cond8 i = 1#1 := by rw [cond8_iff]; omega
  have h9 : ¬ k0_cond9 i = 1#1 := by rw [cond9_iff]; omega
  have hr2 : 31 ≤ (i 0).val ∧ (i 0).val < 78 := by omega
  have hr6 : 31 ≤ (i 0).val ∧ (i 0).val < 62 := by omega
  unfold owns
  iintro ⟨⟨%f1, %e1, H1⟩, ⟨%f7, %e7, H7⟩, ⟨%fv, %ev, Hv⟩, ⟨%d10, %f10, -, H10⟩, ⟨%d11, %f11, -, H11⟩, ⟨%f16, %e16, H16⟩, ⟨%u0, HF0⟩, ⟨%u1, HF1⟩, ⟨%w0, HS0⟩, ⟨%w1, HS1⟩, HC0, HC1, HB0, HB1, HW, Hk⟩
  sl_exec
  sl_step
  iapply Hk
  isplitl [H1]
  · iexists _; isplitr; swap; · iexact H1
    ipureintro; exact e1
  isplitl [H7]
  · iexists _; isplitr; swap; · iexact H7
    ipureintro; exact e7
  isplitl [Hv]
  · iexists _; isplitr; swap; · iexact Hv
    ipureintro; exact ev
  isplitl [H10]
  · iapply (owns_full' c arg10) $$ H10
    ipureintro; exact (congr4 k0_pay16 (rd2 _ _ _ e1) (slot_read c B0 _ (off10_eq i) _ _ _) (slot_read c B1 _ (off10_eq i) _ _ _) (rd2 _ _ _ ev))
  isplitl [H11]
  · iapply (owns_full' c arg11) $$ H11
    ipureintro; exact (congr4 k0_pay18 (rd2 _ _ _ e1) (slot_read c B0 _ (off10_eq i) _ _ _) (slot_read c B1 _ (off10_eq i) _ _ _) (rd2 _ _ _ ev))
  isplitl [H16]
  · iapply (owns_full' c arg16) $$ H16
    ipureintro; exact (congr4 (k0_pay4 (F := F)) rfl (congr4 k0_pay17 (rd2 _ _ _ e1) (slot_read c B0 _ (off10_eq i) _ _ _) (slot_read c B1 _ (off10_eq i) _ _ _) (rd2 _ _ _ ev)) (rd2 _ _ _ e7) (rd2 _ _ _ e16))
  isplitl [HC0]; · iexists _; iexact HC0
  isplitl [HC1]; · iexists _; iexact HC1
  isplitl [HF0_dst]; · iexists _; iexact HF0_dst
  isplitl [HF1_dst]; · iexists _; iexact HF1_dst
  isplitl [HF0]; · iexact HF0
  isplitl [HF1]; · iexact HF1
  isplitl [HF0_src]; · iexact HF0_src
  isplitl [HF1_src]; · iexact HF1_src
  iexists _; iexact HW

theorem co_first (q0 q1 : Fin 2 → PosShare TreeShare) (V3 : Bf (F := F) c A3) (V4 : Bf (F := F) c A4)
    (x1 : S2048x128.Idx → Elt F .f32) (x7 : S2048x1.Idx → Elt F .f32) (xv : S4x128.Idx → Elt F .f32)
    (hn : (i 0).val = 31)
    (W : Waits sig Unit) (Q : PUnit → sProp 𝕄) :
    iprop(owns (c : Thread nD τ) arg1 fullShare x1
        ∗ owns (c : Thread nD τ) arg7 fullShare x7
        ∗ owns (c : Thread nD τ) VE fullShare xv
        ∗ (∃ d, owns (c : Thread nD τ) arg10 fullShare d)
        ∗ (∃ d, owns (c : Thread nD τ) arg11 fullShare d)
        ∗ (∃ d, owns (c : Thread nD τ) arg16 fullShare d)
        ∗ (∃ u, flightP c A3 B0 0 q0 V3 (Ring.sl 2 ((i 0).val + 1)) (Ring.bk 48 ((i 0).val - 31)) u)
        ∗ (∃ u, flightP c A4 B1 1 q1 V4 (Ring.sl 2 ((i 0).val + 1)) (Ring.bk 48 ((i 0).val - 31)) u)
        ∗ (∃ u, slotP c B0 (Ring.sl 2 (i 0).val) u)
        ∗ (∃ u, slotP c B1 (Ring.sl 2 (i 0).val) u)
        ∗ cellP c 0 (Ring.sl 2 (i 0).val)
        ∗ cellP c 1 (Ring.sl 2 (i 0).val)
        ∗ blkP c A3 q0 V3 (Ring.sl 2 (i 0).val) (Ring.bk 48 ((i 0).val - 31 + 1))
        ∗ blkP c A4 q1 V4 (Ring.sl 2 (i 0).val) (Ring.bk 48 ((i 0).val - 31 + 1))
        ∗ owes (c : Thread nD τ) 0 W
        ∗ (iprop(owns (c : Thread nD τ) arg1 fullShare x1
            ∗ owns (c : Thread nD τ) arg7 fullShare x7
            ∗ owns (c : Thread nD τ) VE fullShare xv
            ∗ owns (c : Thread nD τ) arg10 fullShare (k0_pay16 x1 (payload c A3 V3 (Ring.bk 48 ((i 0).val - 31))) (payload c A4 V4 (Ring.bk 48 ((i 0).val - 31))) xv)
            ∗ owns (c : Thread nD τ) arg11 fullShare (k0_pay18 x1 (payload c A3 V3 (Ring.bk 48 ((i 0).val - 31))) (payload c A4 V4 (Ring.bk 48 ((i 0).val - 31))) xv)
            ∗ owns (c : Thread nD τ) arg16 fullShare (k0_pay4 i (k0_pay17 x1 (payload c A3 V3 (Ring.bk 48 ((i 0).val - 31))) (payload c A4 V4 (Ring.bk 48 ((i 0).val - 31))) xv) x7 k0_pay3)
            ∗ (∃ u, flightP c A3 B0 0 q0 V3 (Ring.sl 2 (i 0).val) (Ring.bk 48 ((i 0).val - 31 + 1)) u)
            ∗ (∃ u, flightP c A4 B1 1 q1 V4 (Ring.sl 2 (i 0).val) (Ring.bk 48 ((i 0).val - 31 + 1)) u)
            ∗ (∃ u, slotP c B0 (Ring.sl 2 ((i 0).val + 1)) u)
            ∗ (∃ u, slotP c B1 (Ring.sl 2 ((i 0).val + 1)) u)
            ∗ cellP c 0 (Ring.sl 2 ((i 0).val + 1))
            ∗ cellP c 1 (Ring.sl 2 ((i 0).val + 1))
            ∗ blkP c A3 q0 V3 (Ring.sl 2 ((i 0).val + 1)) (Ring.bk 48 ((i 0).val - 31))
            ∗ blkP c A4 q1 V4 (Ring.sl 2 ((i 0).val + 1)) (Ring.bk 48 ((i 0).val - 31))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : ¬ k0_cond1 i = 1#1 := by rw [cond1_iff]; omega
  have h2 : k0_cond2 i = 1#1 := by rw [cond2_iff]; omega
  have h3 : ¬ condMeans i = 1#1 := by rw [condMeans_iff]; omega
  have h6 : k0_cond6 i = 1#1 := by rw [cond6_iff]; omega
  have h7 : k0_cond7 i = 1#1 := by rw [cond7_iff]; omega
  have h8 : ¬ k0_cond8 i = 1#1 := by rw [cond8_iff]; omega
  have h9 : ¬ k0_cond9 i = 1#1 := by rw [cond9_iff]; omega
  have hr2 : 31 ≤ (i 0).val ∧ (i 0).val < 78 := by omega
  have hr6 : 31 ≤ (i 0).val ∧ (i 0).val < 62 := by omega
  unfold owns
  iintro ⟨⟨%f1, %e1, H1⟩, ⟨%f7, %e7, H7⟩, ⟨%fv, %ev, Hv⟩, ⟨%d10, %f10, -, H10⟩, ⟨%d11, %f11, -, H11⟩, ⟨%d16, %f16, -, H16⟩, ⟨%u0, HF0⟩, ⟨%u1, HF1⟩, ⟨%w0, HS0⟩, ⟨%w1, HS1⟩, HC0, HC1, HB0, HB1, HW, Hk⟩
  sl_exec
  sl_step
  iapply Hk
  isplitl [H1]
  · iexists _; isplitr; swap; · iexact H1
    ipureintro; exact e1
  isplitl [H7]
  · iexists _; isplitr; swap; · iexact H7
    ipureintro; exact e7
  isplitl [Hv]
  · iexists _; isplitr; swap; · iexact Hv
    ipureintro; exact ev
  isplitl [H10]
  · iapply (owns_full' c arg10) $$ H10
    ipureintro; exact (congr4 k0_pay16 (rd2 _ _ _ e1) (slot_read c B0 _ (off10_eq i) _ _ _) (slot_read c B1 _ (off10_eq i) _ _ _) (rd2 _ _ _ ev))
  isplitl [H11]
  · iapply (owns_full' c arg11) $$ H11
    ipureintro; exact (congr4 k0_pay18 (rd2 _ _ _ e1) (slot_read c B0 _ (off10_eq i) _ _ _) (slot_read c B1 _ (off10_eq i) _ _ _) (rd2 _ _ _ ev))
  isplitl [H16]
  · iapply (owns_full' c arg16) $$ H16
    ipureintro; exact (congr4 (k0_pay4 (F := F)) rfl (congr4 k0_pay17 (rd2 _ _ _ e1) (slot_read c B0 _ (off10_eq i) _ _ _) (slot_read c B1 _ (off10_eq i) _ _ _) (rd2 _ _ _ ev)) (rd2 _ _ _ e7) (View.readCov_unit_zero (S := S1x1) _ z2 _ _))
  isplitl [HC0]; · iexists _; iexact HC0
  isplitl [HC1]; · iexists _; iexact HC1
  isplitl [HF0_dst]; · iexists _; iexact HF0_dst
  isplitl [HF1_dst]; · iexists _; iexact HF1_dst
  isplitl [HF0]; · iexact HF0
  isplitl [HF1]; · iexact HF1
  isplitl [HF0_src]; · iexact HF0_src
  isplitl [HF1_src]; · iexact HF1_src
  iexists _; iexact HW

theorem br_run (q0 q1 : Fin 2 → PosShare TreeShare) (V3 : Bf (F := F) c A3) (V4 : Bf (F := F) c A4)
    (x2 : S2048x128.Idx → Elt F .f32) (xv : S4x128.Idx → Elt F .f32)
    (hn : 62 ≤ (i 0).val ∧ (i 0).val < 78)
    (W : Waits sig Unit) (Q : PUnit → sProp 𝕄) :
    iprop(owns (c : Thread nD τ) arg2 fullShare x2
        ∗ owns (c : Thread nD τ) VE fullShare xv
        ∗ (∃ d, owns (c : Thread nD τ) arg12 fullShare d)
        ∗ (∃ d, owns (c : Thread nD τ) arg13 fullShare d)
        ∗ (∃ u, flightP c A3 B0 0 q0 V3 (Ring.sl 2 ((i 0).val + 1)) (Ring.bk 48 ((i 0).val - 31)) u)
        ∗ (∃ u, flightP c A4 B1 1 q1 V4 (Ring.sl 2 ((i 0).val + 1)) (Ring.bk 48 ((i 0).val - 31)) u)
        ∗ (∃ u, slotP c B0 (Ring.sl 2 (i 0).val) u)
        ∗ (∃ u, slotP c B1 (Ring.sl 2 (i 0).val) u)
        ∗ cellP c 0 (Ring.sl 2 (i 0).val)
        ∗ cellP c 1 (Ring.sl 2 (i 0).val)
        ∗ blkP c A3 q0 V3 (Ring.sl 2 (i 0).val) (Ring.bk 48 ((i 0).val - 31 + 1))
        ∗ blkP c A4 q1 V4 (Ring.sl 2 (i 0).val) (Ring.bk 48 ((i 0).val - 31 + 1))
        ∗ owes (c : Thread nD τ) 0 W
        ∗ (iprop(owns (c : Thread nD τ) arg2 fullShare x2
            ∗ owns (c : Thread nD τ) VE fullShare xv
            ∗ owns (c : Thread nD τ) arg12 fullShare (k0_pay5 x2 (payload c A3 V3 (Ring.bk 48 ((i 0).val - 31))) (payload c A4 V4 (Ring.bk 48 ((i 0).val - 31))) xv)
            ∗ owns (c : Thread nD τ) arg13 fullShare (k0_pay6 x2 (payload c A3 V3 (Ring.bk 48 ((i 0).val - 31))) (payload c A4 V4 (Ring.bk 48 ((i 0).val - 31))) xv)
            ∗ (∃ u, flightP c A3 B0 0 q0 V3 (Ring.sl 2 (i 0).val) (Ring.bk 48 ((i 0).val - 31 + 1)) u)
            ∗ (∃ u, flightP c A4 B1 1 q1 V4 (Ring.sl 2 (i 0).val) (Ring.bk 48 ((i 0).val - 31 + 1)) u)
            ∗ (∃ u, slotP c B0 (Ring.sl 2 ((i 0).val + 1)) u)
            ∗ (∃ u, slotP c B1 (Ring.sl 2 ((i 0).val + 1)) u)
            ∗ cellP c 0 (Ring.sl 2 ((i 0).val + 1))
            ∗ cellP c 1 (Ring.sl 2 ((i 0).val + 1))
            ∗ blkP c A3 q0 V3 (Ring.sl 2 ((i 0).val + 1)) (Ring.bk 48 ((i 0).val - 31))
            ∗ blkP c A4 q1 V4 (Ring.sl 2 ((i 0).val + 1)) (Ring.bk 48 ((i 0).val - 31))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : ¬ k0_cond1 i = 1#1 := by rw [cond1_iff]; omega
  have h2 : k0_cond2 i = 1#1 := by rw [cond2_iff]; omega
  have h3 : ¬ condMeans i = 1#1 := by rw [condMeans_iff]; omega
  have h6 : ¬ k0_cond6 i = 1#1 := by rw [cond6_iff]; omega
  have h8 : k0_cond8 i = 1#1 := by rw [cond8_iff]; omega
  have h9 : ¬ k0_cond9 i = 1#1 := by rw [cond9_iff]; omega
  have hr2 : 31 ≤ (i 0).val ∧ (i 0).val < 78 := by omega
  have hr8 : 62 ≤ (i 0).val ∧ (i 0).val < 79 := by omega
  unfold owns
  iintro ⟨⟨%f2, %e2, H2⟩, ⟨%fv, %ev, Hv⟩, ⟨%d12, %f12, -, H12⟩, ⟨%d13, %f13, -, H13⟩, ⟨%u0, HF0⟩, ⟨%u1, HF1⟩, ⟨%w0, HS0⟩, ⟨%w1, HS1⟩, HC0, HC1, HB0, HB1, HW, Hk⟩
  sl_exec
  sl_step
  iapply Hk
  isplitl [H2]
  · iexists _; isplitr; swap; · iexact H2
    ipureintro; exact e2
  isplitl [Hv]
  · iexists _; isplitr; swap; · iexact Hv
    ipureintro; exact ev
  isplitl [H12]
  · iapply (owns_full' c arg12) $$ H12
    ipureintro; exact (congr4 k0_pay5 (rd2 _ _ _ e2) (slot_read c B0 _ (off15_eq i) _ _ _) (slot_read c B1 _ (off15_eq i) _ _ _) (rd2 _ _ _ ev))
  isplitl [H13]
  · iapply (owns_full' c arg13) $$ H13
    ipureintro; exact (congr4 k0_pay6 (rd2 _ _ _ e2) (slot_read c B0 _ (off15_eq i) _ _ _) (slot_read c B1 _ (off15_eq i) _ _ _) (rd2 _ _ _ ev))
  isplitl [HC0]; · iexists _; iexact HC0
  isplitl [HC1]; · iexists _; iexact HC1
  isplitl [HF0_dst]; · iexists _; iexact HF0_dst
  isplitl [HF1_dst]; · iexists _; iexact HF1_dst
  isplitl [HF0]; · iexact HF0
  isplitl [HF1]; · iexact HF1
  isplitl [HF0_src]; · iexact HF0_src
  isplitl [HF1_src]; · iexact HF1_src
  iexists _; iexact HW

theorem br_last (q0 q1 : Fin 2 → PosShare TreeShare) (V3 : Bf (F := F) c A3) (V4 : Bf (F := F) c A4)
    (x2 : S2048x128.Idx → Elt F .f32) (xv : S4x128.Idx → Elt F .f32)
    (hn : (i 0).val = 78)
    (W : Waits sig Unit) (Q : PUnit → sProp 𝕄) :
    iprop(owns (c : Thread nD τ) arg2 fullShare x2
        ∗ owns (c : Thread nD τ) VE fullShare xv
        ∗ (∃ d, owns (c : Thread nD τ) arg12 fullShare d)
        ∗ (∃ d, owns (c : Thread nD τ) arg13 fullShare d)
        ∗ (∃ u, flightP c A3 B0 0 q0 V3 (Ring.sl 2 ((i 0).val + 1)) (Ring.bk 48 ((i 0).val - 31)) u)
        ∗ (∃ u, flightP c A4 B1 1 q1 V4 (Ring.sl 2 ((i 0).val + 1)) (Ring.bk 48 ((i 0).val - 31)) u)
        ∗ owes (c : Thread nD τ) 0 W
        ∗ (iprop(owns (c : Thread nD τ) arg2 fullShare x2
            ∗ owns (c : Thread nD τ) VE fullShare xv
            ∗ owns (c : Thread nD τ) arg12 fullShare (k0_pay5 x2 (payload c A3 V3 (Ring.bk 48 ((i 0).val - 31))) (payload c A4 V4 (Ring.bk 48 ((i 0).val - 31))) xv)
            ∗ owns (c : Thread nD τ) arg13 fullShare (k0_pay6 x2 (payload c A3 V3 (Ring.bk 48 ((i 0).val - 31))) (payload c A4 V4 (Ring.bk 48 ((i 0).val - 31))) xv)
            ∗ (∃ u, slotP c B0 (Ring.sl 2 ((i 0).val + 1)) u)
            ∗ (∃ u, slotP c B1 (Ring.sl 2 ((i 0).val + 1)) u)
            ∗ cellP c 0 (Ring.sl 2 ((i 0).val + 1))
            ∗ cellP c 1 (Ring.sl 2 ((i 0).val + 1))
            ∗ blkP c A3 q0 V3 (Ring.sl 2 ((i 0).val + 1)) (Ring.bk 48 ((i 0).val - 31))
            ∗ blkP c A4 q1 V4 (Ring.sl 2 ((i 0).val + 1)) (Ring.bk 48 ((i 0).val - 31))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : ¬ k0_cond1 i = 1#1 := by rw [cond1_iff]; omega
  have h2 : ¬ k0_cond2 i = 1#1 := by rw [cond2_iff]; omega
  have h3 : ¬ condMeans i = 1#1 := by rw [condMeans_iff]; omega
  have h6 : ¬ k0_cond6 i = 1#1 := by rw [cond6_iff]; omega
  have h8 : k0_cond8 i = 1#1 := by rw [cond8_iff]; omega
  have h9 : ¬ k0_cond9 i = 1#1 := by rw [cond9_iff]; omega
  have hr8 : 62 ≤ (i 0).val ∧ (i 0).val < 79 := by omega
  unfold owns
  iintro ⟨⟨%f2, %e2, H2⟩, ⟨%fv, %ev, Hv⟩, ⟨%d12, %f12, -, H12⟩, ⟨%d13, %f13, -, H13⟩, ⟨%u0, HF0⟩, ⟨%u1, HF1⟩, HW, Hk⟩
  sl_exec
  sl_step
  iapply Hk
  isplitl [H2]
  · iexists _; isplitr; swap; · iexact H2
    ipureintro; exact e2
  isplitl [Hv]
  · iexists _; isplitr; swap; · iexact Hv
    ipureintro; exact ev
  isplitl [H12]
  · iapply (owns_full' c arg12) $$ H12
    ipureintro; exact (congr4 k0_pay5 (rd2 _ _ _ e2) (slot_read c B0 _ (off15_eq i) _ _ _) (slot_read c B1 _ (off15_eq i) _ _ _) (rd2 _ _ _ ev))
  isplitl [H13]
  · iapply (owns_full' c arg13) $$ H13
    ipureintro; exact (congr4 k0_pay6 (rd2 _ _ _ e2) (slot_read c B0 _ (off15_eq i) _ _ _) (slot_read c B1 _ (off15_eq i) _ _ _) (rd2 _ _ _ ev))
  isplitl [HF0_dst]; · iexists _; iexact HF0_dst
  isplitl [HF1_dst]; · iexists _; iexact HF1_dst
  isplitl [HF0]; · iexact HF0
  isplitl [HF1]; · iexact HF1
  isplitl [HF0_src]; · iexact HF0_src
  isplitl [HF1_src]; · iexact HF1_src
  iexists _; iexact HW

theorem org_run (x3 x4 x5 : S2048x128.Idx → Elt F .f32) (xv : S4x128.Idx → Elt F .f32)
    (hn : 79 ≤ (i 0).val)
    (W : Waits sig Unit) (Q : PUnit → sProp 𝕄) :
    iprop(owns (c : Thread nD τ) arg3 fullShare x3
        ∗ owns (c : Thread nD τ) arg4 fullShare x4
        ∗ owns (c : Thread nD τ) arg5 fullShare x5
        ∗ owns (c : Thread nD τ) VE fullShare xv
        ∗ (∃ d, owns (c : Thread nD τ) arg14 fullShare d)
        ∗ (∃ d, owns (c : Thread nD τ) arg15 fullShare d)
        ∗ owes (c : Thread nD τ) 0 W
        ∗ (iprop(owns (c : Thread nD τ) arg3 fullShare x3
            ∗ owns (c : Thread nD τ) arg4 fullShare x4
            ∗ owns (c : Thread nD τ) arg5 fullShare x5
            ∗ owns (c : Thread nD τ) VE fullShare xv
            ∗ owns (c : Thread nD τ) arg14 fullShare (k0_pay21 x3 x4 x5 xv)
            ∗ owns (c : Thread nD τ) arg15 fullShare (k0_pay7 (k0_pay21 x3 x4 x5 xv))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : ¬ k0_cond1 i = 1#1 := by rw [cond1_iff]; omega
  have h2 : ¬ k0_cond2 i = 1#1 := by rw [cond2_iff]; omega
  have h3 : ¬ condMeans i = 1#1 := by rw [condMeans_iff]; omega
  have h6 : ¬ k0_cond6 i = 1#1 := by rw [cond6_iff]; omega
  have h8 : ¬ k0_cond8 i = 1#1 := by rw [cond8_iff]; omega
  have h9 : k0_cond9 i = 1#1 := by rw [cond9_iff]; omega
  unfold owns
  iintro ⟨⟨%f3, %e3, H3⟩, ⟨%f4, %e4, H4⟩, ⟨%f5, %e5, H5⟩, ⟨%fv, %ev, Hv⟩, ⟨%d14, %f14, -, H14⟩, ⟨%d15, %f15, -, H15⟩, HW, Hk⟩
  sl_exec
  sl_step
  iapply Hk
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [Hv]
  · iexists _; isplitr; swap; · iexact Hv
    ipureintro; exact ev
  isplitl [H14]
  · iapply (owns_full' c arg14) $$ H14
    ipureintro; exact (congr4 k0_pay21 (rd2 _ _ _ e3) (rd2 _ _ _ e4) (rd2 _ _ _ e5) (rd2 _ _ _ ev))
  isplitl [H15]
  · iapply (owns_full' c arg15) $$ H15
    ipureintro; exact (congrArg k0_pay7 (congr4 k0_pay21 (rd2 _ _ _ e3) (rd2 _ _ _ e4) (rd2 _ _ _ e5) (rd2 _ _ _ ev)))
  iexists _; iexact HW

theorem mean_first (x1 : S2048x128.Idx → Elt F .f32) (y : S1x2048.Idx → Elt F .f32)
    (hn : (i 0).val = 0)
    (W : Waits sig Unit) (Q : PUnit → sProp 𝕄) :
    iprop(owns (c : Thread nD τ) arg1 fullShare x1
        ∗ owns (c : Thread nD τ) arg6 fullShare y
        ∗ (∃ d, owns (c : Thread nD τ) SU fullShare d)
        ∗ (∃ d, owns (c : Thread nD τ) CN fullShare d)
        ∗ owes (c : Thread nD τ) 0 W
        ∗ (iprop(owns (c : Thread nD τ) arg1 fullShare x1
            ∗ owns (c : Thread nD τ) arg6 fullShare y
            ∗ owns (c : Thread nD τ) SU fullShare (k0_pay12 (BitVec.ofNat 32 (i 0).val) x1 y k0_pay10)
            ∗ owns (c : Thread nD τ) CN fullShare (k0_pay1 (k0_pay13 (BitVec.ofNat 32 (i 0).val) y k0_pay11))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : ¬ k0_cond1 i = 1#1 := by rw [cond1_iff]; omega
  have h2 : ¬ k0_cond2 i = 1#1 := by rw [cond2_iff]; omega
  have h3 : condMeans i = 1#1 := by rw [condMeans_iff]; omega
  have h4 : condFirst i = 1#1 := by rw [condFirst_iff]; omega
  have h5 : ¬ condLast i = 1#1 := by rw [condLast_iff]; omega
  have h6 : ¬ k0_cond6 i = 1#1 := by rw [cond6_iff]; omega
  have h8 : ¬ k0_cond8 i = 1#1 := by rw [cond8_iff]; omega
  have h9 : ¬ k0_cond9 i = 1#1 := by rw [cond9_iff]; omega
  unfold owns
  iintro ⟨⟨%f1, %e1, H1⟩, ⟨%f6, %e6, H6⟩, ⟨%ds, %fs, -, Hs⟩, ⟨%dc, %fc, -, Hc⟩, HW, Hk⟩
  sl_exec
  sl_step
  iapply Hk
  isplitl [H1]
  · iexists _; isplitr; swap; · iexact H1
    ipureintro; exact e1
  isplitl [H6]
  · iexists _; isplitr; swap; · iexact H6
    ipureintro; exact e6
  isplitl [Hs]
  · iapply (owns_full' c SU) $$ Hs
    ipureintro; exact (congr4 k0_pay12 rfl (rd2 _ _ _ e1) (rd2 _ _ _ e6) (View.readCov_unit_zero (S := S2x128) _ z2 _ _))
  isplitl [Hc]
  · iapply (owns_full' c CN) $$ Hc
    ipureintro; exact (congrArg k0_pay1 (congr4 (fun a b x (_ : Unit) => k0_pay13 a b x) rfl (rd2 _ _ _ e6) (View.readCov_unit_zero (S := S1x1) _ z2 _ _) (rfl : () = ())))
  iexists _; iexact HW

theorem mean_run (x1 : S2048x128.Idx → Elt F .f32) (y : S1x2048.Idx → Elt F .f32) (su : S2x128.Idx → Elt F .f32) (cn : S1x1.Idx → Elt F .f32)
    (hn : 0 < (i 0).val ∧ (i 0).val < 30)
    (W : Waits sig Unit) (Q : PUnit → sProp 𝕄) :
    iprop(owns (c : Thread nD τ) arg1 fullShare x1
        ∗ owns (c : Thread nD τ) arg6 fullShare y
        ∗ owns (c : Thread nD τ) SU fullShare su
        ∗ owns (c : Thread nD τ) CN fullShare cn
        ∗ owes (c : Thread nD τ) 0 W
        ∗ (iprop(owns (c : Thread nD τ) arg1 fullShare x1
            ∗ owns (c : Thread nD τ) arg6 fullShare y
            ∗ owns (c : Thread nD τ) SU fullShare (k0_pay12 (BitVec.ofNat 32 (i 0).val) x1 y su)
            ∗ owns (c : Thread nD τ) CN fullShare (k0_pay1 (k0_pay13 (BitVec.ofNat 32 (i 0).val) y cn))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : ¬ k0_cond1 i = 1#1 := by rw [cond1_iff]; omega
  have h2 : ¬ k0_cond2 i = 1#1 := by rw [cond2_iff]; omega
  have h3 : condMeans i = 1#1 := by rw [condMeans_iff]; omega
  have h4 : ¬ condFirst i = 1#1 := by rw [condFirst_iff]; omega
  have h5 : ¬ condLast i = 1#1 := by rw [condLast_iff]; omega
  have h6 : ¬ k0_cond6 i = 1#1 := by rw [cond6_iff]; omega
  have h8 : ¬ k0_cond8 i = 1#1 := by rw [cond8_iff]; omega
  have h9 : ¬ k0_cond9 i = 1#1 := by rw [cond9_iff]; omega
  unfold owns
  iintro ⟨⟨%f1, %e1, H1⟩, ⟨%f6, %e6, H6⟩, ⟨%fs, %es, Hs⟩, ⟨%fc, %ec, Hc⟩, HW, Hk⟩
  sl_exec
  sl_step
  iapply Hk
  isplitl [H1]
  · iexists _; isplitr; swap; · iexact H1
    ipureintro; exact e1
  isplitl [H6]
  · iexists _; isplitr; swap; · iexact H6
    ipureintro; exact e6
  isplitl [Hs]
  · iapply (owns_full' c SU) $$ Hs
    ipureintro; exact (congr4 k0_pay12 rfl (rd2 _ _ _ e1) (rd2 _ _ _ e6) (rd2 _ _ _ es))
  isplitl [Hc]
  · iapply (owns_full' c CN) $$ Hc
    ipureintro; exact (congrArg k0_pay1 (congr4 (fun a b x (_ : Unit) => k0_pay13 a b x) rfl (rd2 _ _ _ e6) (rd2 _ _ _ ec) (rfl : () = ())))
  iexists _; iexact HW

theorem mean_last (q0 q1 : Fin 2 → PosShare TreeShare) (V3 : Bf (F := F) c A3) (V4 : Bf (F := F) c A4)
    (x1 : S2048x128.Idx → Elt F .f32) (y : S1x2048.Idx → Elt F .f32) (su : S2x128.Idx → Elt F .f32) (cn : S1x1.Idx → Elt F .f32)
    (hn : (i 0).val = 30)
    (W : Waits sig Unit) (Q : PUnit → sProp 𝕄) :
    iprop(owns (c : Thread nD τ) arg1 fullShare x1
        ∗ owns (c : Thread nD τ) arg6 fullShare y
        ∗ owns (c : Thread nD τ) SU fullShare su
        ∗ owns (c : Thread nD τ) CN fullShare cn
        ∗ (∃ d, owns (c : Thread nD τ) VE fullShare d)
        ∗ (∃ u, slotP c B0 (0 : Fin 2) u)
        ∗ (∃ u, slotP c B1 (0 : Fin 2) u)
        ∗ cellP c 0 (0 : Fin 2)
        ∗ cellP c 1 (0 : Fin 2)
        ∗ blkP c A3 q0 V3 (0 : Fin 2) (0 : Fin 48)
        ∗ blkP c A4 q1 V4 (0 : Fin 2) (0 : Fin 48)
        ∗ owes (c : Thread nD τ) 0 W
        ∗ (iprop(owns (c : Thread nD τ) arg1 fullShare x1
            ∗ owns (c : Thread nD τ) arg6 fullShare y
            ∗ owns (c : Thread nD τ) SU fullShare (k0_pay12 (BitVec.ofNat 32 (i 0).val) x1 y su)
            ∗ owns (c : Thread nD τ) CN fullShare (k0_pay1 (k0_pay13 (BitVec.ofNat 32 (i 0).val) y cn))
            ∗ owns (c : Thread nD τ) VE fullShare (k0_pay2 (k0_pay1 (k0_pay13 (BitVec.ofNat 32 (i 0).val) y cn)) (View.ld (k0_pay12 (BitVec.ofNat 32 (i 0).val) x1 y su) (Rect.unit (s := S2x128) ![0, 0] S1x128.size inb_S2x128_S1x128_0_0)) (View.ld (k0_pay12 (BitVec.ofNat 32 (i 0).val) x1 y su) (Rect.unit (s := S2x128) ![1, 0] S1x128.size inb_S2x128_S1x128_1_0)) (View.ld (k0_pay12 (BitVec.ofNat 32 (i 0).val) x1 y su) (Rect.unit (s := S2x128) ![0, 0] S1x128.size inb_S2x128_S1x128_0_0)))
            ∗ (∃ u, flightP c A3 B0 0 q0 V3 (0 : Fin 2) (0 : Fin 48) u)
            ∗ (∃ u, flightP c A4 B1 1 q1 V4 (0 : Fin 2) (0 : Fin 48) u)
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  have h1 : k0_cond1 i = 1#1 := by rw [cond1_iff]; omega
  have h2 : ¬ k0_cond2 i = 1#1 := by rw [cond2_iff]; omega
  have h3 : condMeans i = 1#1 := by rw [condMeans_iff]; omega
  have h4 : ¬ condFirst i = 1#1 := by rw [condFirst_iff]; omega
  have h5 : condLast i = 1#1 := by rw [condLast_iff]; omega
  have h6 : ¬ k0_cond6 i = 1#1 := by rw [cond6_iff]; omega
  have h8 : ¬ k0_cond8 i = 1#1 := by rw [cond8_iff]; omega
  have h9 : ¬ k0_cond9 i = 1#1 := by rw [cond9_iff]; omega
  unfold owns
  iintro ⟨⟨%f1, %e1, H1⟩, ⟨%f6, %e6, H6⟩, ⟨%fs, %es, Hs⟩, ⟨%fc, %ec, Hc⟩, ⟨%dv, %fv, -, Hv⟩, ⟨%w0, HS0⟩, ⟨%w1, HS1⟩, HC0, HC1, HB0, HB1, HW, Hk⟩
  sl_exec
  sl_step
  iapply Hk
  isplitl [H1]
  · iexists _; isplitr; swap; · iexact H1
    ipureintro; exact e1
  isplitl [H6]
  · iexists _; isplitr; swap; · iexact H6
    ipureintro; exact e6
  isplitl [Hs]
  · unfold mean_last.sl.Hs_1; iapply (owns_full' c SU) $$ Hs
    ipureintro; exact (congr4 k0_pay12 rfl (rd2 _ _ _ e1) (rd2 _ _ _ e6) (rd2 _ _ _ es))
  isplitl [Hc]
  · unfold mean_last.sl.Hc_1; iapply (owns_full' c CN) $$ Hc
    ipureintro; exact (congrArg k0_pay1 (congr4 (fun a b x (_ : Unit) => k0_pay13 a b x) rfl (rd2 _ _ _ e6) (rd2 _ _ _ ec) (rfl : () = ())))
  isplitl [Hv]
  · iapply (owns_full' c VE) $$ Hv
    ipureintro
    exact congr4 k0_pay2 (rdc_full _ _ (congrArg k0_pay1 (congr4 (fun a b x (_ : Unit) => k0_pay13 a b x) rfl (rd2 _ _ _ e6) (rd2 _ _ _ ec) (rfl : () = ())))) (rdc_row _ _ _ (congr4 k0_pay12 rfl (rd2 _ _ _ e1) (rd2 _ _ _ e6) (rd2 _ _ _ es))) (rdc_row _ _ _ (congr4 k0_pay12 rfl (rd2 _ _ _ e1) (rd2 _ _ _ e6) (rd2 _ _ _ es))) (rdc_row _ _ _ (congr4 k0_pay12 rfl (rd2 _ _ _ e1) (rd2 _ _ _ e6) (rd2 _ _ _ es)))
  isplitl [HC0]; · iexists _; iexact HC0
  isplitl [HC1]; · iexists _; iexact HC1
  iexists _; iexact HW

end Run
end Cert.Proof.KernelIdeal
end
-- ==== Proof.Ideal.Track.lean ====
/-
  What the body carries from one grid point to the next: the column sums, the label count and the folded rows kept in
  scratch, and, for each of the two big arrays, the two slots of its double buffer, one of them filling while a copy is
  in flight. The facts about the carried values are parameters (`Trk`), so that the same steps serve a frame that knows
  the values and a frame that does not.
-/
module

public import proofs.«01_k».proof.Proof.Ideal.Body

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ (Pipeline.UD sig nD τ) ℕ

/-! ## One array's double buffer -/

section Half
variable (c : Dev nD) (A : Memref sig .tc .hbm S101916x128 .f32) (B : Memref sig .tc .vmem S2x2048x128 .f32) (j : Fin 2)
  (q : Fin 2 → PosShare TreeShare) (V : Bf (F := F) c A)

/-- What slot `s`'s share of the array keeps while block `b` is lent. -/
abbrev restP (s : Fin 2) (b : Fin 48) : sProp 𝕄 := A.view.loc (c : Thread nD τ) ↦[Finset.univ \ (blk A b).view.set]{q s} V
/-- Slot `s` at rest. -/
def freeP (s : Fin 2) : sProp 𝕄 := iprop((∃ u, slotP c B s u) ∗ cellP c j s ∗ (A.view.loc (c : Thread nD τ) ↦{q s} V))
/-- Slot `s` filling with block `b`. -/
def busyP (s : Fin 2) (b : Fin 48) : sProp 𝕄 := iprop((∃ u, flightP c A B j q V s b u) ∗ restP c A q V s b)
/-- The double buffer before point `n`. -/
def ringP (n : ℕ) : sProp 𝕄 :=
  if 31 ≤ n ∧ n < 79 then iprop(busyP c A B j q V (Ring.sl 2 (n + 1)) (Ring.bk 48 (n - 31)) ∗ freeP c A B j q V (Ring.sl 2 n))
  else iprop(freeP c A B j q V 0 ∗ freeP c A B j q V 1)

theorem whole_lend (s : Fin 2) (b : Fin 48) :
    (A.view.loc (c : Thread nD τ) ↦{q s} V : sProp 𝕄) ⊢ iprop(blkP c A q V s b ∗ restP c A q V s b) :=
  (pointsTo_split_subset (Finset.subset_univ (blk A b).view.set)).1
theorem whole_back (s : Fin 2) (b : Fin 48) :
    iprop(blkP c A q V s b ∗ restP c A q V s b) ⊢ (A.view.loc (c : Thread nD τ) ↦{q s} V : sProp 𝕄) :=
  (pointsTo_split_subset (Finset.subset_univ (blk A b).view.set)).2

theorem free_open (s : Fin 2) (b : Fin 48) :
    freeP c A B j q V s ⊢ iprop((∃ u, slotP c B s u) ∗ cellP c j s ∗ blkP c A q V s b ∗ restP c A q V s b) := by
  unfold freeP
  iintro ⟨H1, H2, H3⟩
  isplitl [H1]; · iexact H1
  isplitl [H2]; · iexact H2
  iapply (whole_lend c A q V s b); iexact H3
theorem free_close (s : Fin 2) (b : Fin 48) :
    iprop((∃ u, slotP c B s u) ∗ cellP c j s ∗ blkP c A q V s b ∗ restP c A q V s b) ⊢ freeP c A B j q V s := by
  unfold freeP
  iintro ⟨H1, H2, H3⟩
  isplitl [H1]; · iexact H1
  isplitl [H2]; · iexact H2
  iapply (whole_back c A q V s b); iexact H3

theorem ring_out {n : ℕ} (h : ¬ (31 ≤ n ∧ n < 79)) : ringP c A B j q V n = iprop(freeP c A B j q V 0 ∗ freeP c A B j q V 1) := if_neg h
theorem ring_in {n : ℕ} (h : 31 ≤ n ∧ n < 79) : ringP c A B j q V n
    = iprop(busyP c A B j q V (Ring.sl 2 (n + 1)) (Ring.bk 48 (n - 31)) ∗ freeP c A B j q V (Ring.sl 2 n)) := if_pos h
theorem ring_same {n : ℕ} (h : n < 30 ∨ 79 ≤ n) : ringP c A B j q V n = ringP c A B j q V (n + 1) := by
  rw [ring_out, ring_out] <;> omega
theorem sl_two (n : ℕ) : Ring.sl 2 (n + 2) = Ring.sl 2 n := by
  apply Fin.ext; show (n + 2) % 2 = n % 2; omega
theorem ring_next {n : ℕ} (h : 31 ≤ n ∧ n < 78) : ringP c A B j q V (n + 1)
    = iprop(busyP c A B j q V (Ring.sl 2 n) (Ring.bk 48 (n - 31 + 1)) ∗ freeP c A B j q V (Ring.sl 2 (n + 1))) := by
  rw [ring_in c A B j q V (n := n + 1) (by omega), show n + 1 + 1 = n + 2 from rfl, sl_two, show n + 1 - 31 = n - 31 + 1 by omega]
theorem ring_30 : ringP c A B j q V 31 = iprop(busyP c A B j q V 0 0 ∗ freeP c A B j q V 1) := by
  rw [ring_in c A B j q V (n := 31) (by omega)]; rfl
theorem ring_78 : ringP c A B j q V 78 = iprop(busyP c A B j q V 1 (Ring.bk 48 47) ∗ freeP c A B j q V 0) := by
  rw [ring_in c A B j q V (n := 78) (by omega)]; rfl
end Half

/-! ## The carried state -/

/-- What is known of the carried values: the column sums and the label count before point `n`, the folded rows. -/
structure Trk (F : FTy → Type) where
  su : ℕ → (S2x128.Idx → Elt F .f32) → Prop
  cn : ℕ → (S1x1.Idx → Elt F .f32) → Prop
  ve : (S4x128.Idx → Elt F .f32) → Prop

/-- The two shares of an array, one for each slot's copies. -/
abbrev qh : Fin 2 → PosShare TreeShare := ![fullShare.left, fullShare.right]

section State
variable (T : Trk F) (c : Dev nD) (V3 : Bf (F := F) c A3) (V4 : Bf (F := F) c A4)

abbrev suP (n : ℕ) : sProp 𝕄 := iprop(∃ su, ⌜0 < n ∧ n ≤ 30 → T.su n su⌝ ∗ owns (c : Thread nD τ) SU fullShare su)
abbrev cnP (n : ℕ) : sProp 𝕄 := iprop(∃ cn, ⌜0 < n ∧ n ≤ 30 → T.cn n cn⌝ ∗ owns (c : Thread nD τ) CN fullShare cn)
abbrev veP (n : ℕ) : sProp 𝕄 := iprop(∃ xv, ⌜31 ≤ n → T.ve xv⌝ ∗ owns (c : Thread nD τ) VE fullShare xv)

/-- The state before point `n`. -/
def Phi (n : ℕ) : sProp 𝕄 :=
  iprop((∃ r, prngReg c r) ∗ suP T c n ∗ cnP T c n ∗ veP T c n
    ∗ ringP c A3 B0 0 qh V3 n ∗ ringP c A4 B1 1 qh V4 n)

theorem suP_mono {n : ℕ} (h : 30 ≤ n) : suP T c n ⊢ suP T c (n + 1) := by
  iintro ⟨%su, -, H⟩
  iexists su; isplitr; · ipureintro; intro h'; omega
  iexact H
theorem cnP_mono {n : ℕ} (h : 30 ≤ n) : cnP T c n ⊢ cnP T c (n + 1) := by
  iintro ⟨%su, -, H⟩
  iexists su; isplitr; · ipureintro; intro h'; omega
  iexact H
theorem veP_mono {n : ℕ} (h : n < 30) : veP T c n ⊢ veP T c (n + 1) := by
  iintro ⟨%su, -, H⟩
  iexists su; isplitr; · ipureintro; intro h'; omega
  iexact H
end State

/-! ## The steps -/

section Steps
variable (T : Trk F) (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S1x2048 .f32) (harg6 : arg6.IsWhole)
  (arg7 : Memref sig .tc .vmem S2048x1 .f32) (harg7 : arg7.IsWhole)
  (arg10 : Memref sig .tc .vmem S2048x2 .f32) (harg10 : arg10.IsWhole) (arg11 : Memref sig .tc .vmem S2048x1 .i32) (harg11 : arg11.IsWhole)
  (arg12 : Memref sig .tc .vmem S2048x2 .f32) (harg12 : arg12.IsWhole) (arg13 : Memref sig .tc .vmem S2048x1 .i32) (harg13 : arg13.IsWhole)
  (arg14 : Memref sig .tc .vmem S2048x2 .f32) (harg14 : arg14.IsWhole) (arg15 : Memref sig .tc .vmem S2048x1 .i32) (harg15 : arg15.IsWhole)
  (arg16 : Memref sig .tc .vmem S1x1 .f32) (harg16 : arg16.IsWhole)
  (V3 : Bf (F := F) c A3) (V4 : Bf (F := F) c A4)

/-- A company point after the first. -/
theorem step_co (x1 : S2048x128.Idx → Elt F .f32) (x7 : S2048x1.Idx → Elt F .f32) (l : S1x1.Idx → Elt F .f32)
    (hn : 31 < (i 0).val ∧ (i 0).val < 62)
    (W : Waits sig Unit) (Q : PUnit → sProp 𝕄) :
    iprop(Phi T c V3 V4 (i 0).val
        ∗ owns (c : Thread nD τ) arg1 fullShare x1
        ∗ owns (c : Thread nD τ) arg7 fullShare x7
        ∗ (∃ d, owns (c : Thread nD τ) arg10 fullShare d)
        ∗ (∃ d, owns (c : Thread nD τ) arg11 fullShare d)
        ∗ owns (c : Thread nD τ) arg16 fullShare l
        ∗ owes (c : Thread nD τ) 0 W
        ∗ (iprop(Phi T c V3 V4 ((i 0).val + 1)
            ∗ owns (c : Thread nD τ) arg1 fullShare x1
            ∗ owns (c : Thread nD τ) arg7 fullShare x7
            ∗ (∃ xv, ⌜T.ve xv⌝ ∗ owns (c : Thread nD τ) arg10 fullShare (k0_pay16 x1 (payload c A3 V3 (Ring.bk 48 ((i 0).val - 31))) (payload c A4 V4 (Ring.bk 48 ((i 0).val - 31))) xv) ∗ owns (c : Thread nD τ) arg11 fullShare (k0_pay18 x1 (payload c A3 V3 (Ring.bk 48 ((i 0).val - 31))) (payload c A4 V4 (Ring.bk 48 ((i 0).val - 31))) xv) ∗ owns (c : Thread nD τ) arg16 fullShare (k0_pay4 i (k0_pay17 x1 (payload c A3 V3 (Ring.bk 48 ((i 0).val - 31))) (payload c A4 V4 (Ring.bk 48 ((i 0).val - 31))) xv) x7 l))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [ring_in c A3 B0 0 qh V3 (n := (i 0).val) (by omega), ring_in c A4 B1 1 qh V4 (n := (i 0).val) (by omega)]
  rw [ring_next c A3 B0 0 qh V3 (n := (i 0).val) (by omega), ring_next c A4 B1 1 qh V4 (n := (i 0).val) (by omega)]
  unfold busyP
  iintro ⟨⟨Hg, Hsu, Hcn, ⟨%xv, %hv, Hv⟩, ⟨⟨HF0, HR0⟩, HE0⟩, ⟨⟨HF1, HR1⟩, HE1⟩⟩, Ha, Hb, Ho1, Ho2, Ho3, HW, Hk⟩
  have hve : T.ve xv := hv (by omega)
  ihave HE0 := (free_open c A3 B0 0 qh V3 (Ring.sl 2 (i 0).val) (Ring.bk 48 ((i 0).val - 31 + 1))) $$ HE0
  icases HE0 with ⟨HS0, HC0, HB0, HT0⟩
  ihave HE1 := (free_open c A4 B1 1 qh V4 (Ring.sl 2 (i 0).val) (Ring.bk 48 ((i 0).val - 31 + 1))) $$ HE1
  icases HE1 with ⟨HS1, HC1, HB1, HT1⟩
  iapply (co_run c i arg1 harg1 arg2 harg2 arg3 harg3 arg4 harg4 arg5 harg5 arg6 harg6 arg7 harg7 arg10 harg10 arg11 harg11 arg12 harg12 arg13 harg13 arg14 harg14 arg15 harg15 arg16 harg16 qh qh V3 V4 x1 x7 xv l hn W Q)
  isplitl [Ha]; · iexact Ha
  isplitl [Hb]; · iexact Hb
  isplitl [Hv]; · iexact Hv
  isplitl [Ho1]; · iexact Ho1
  isplitl [Ho2]; · iexact Ho2
  isplitl [Ho3]; · iexact Ho3
  isplitl [HF0]; · iexact HF0
  isplitl [HF1]; · iexact HF1
  isplitl [HS0]; · iexact HS0
  isplitl [HS1]; · iexact HS1
  isplitl [HC0]; · iexact HC0
  isplitl [HC1]; · iexact HC1
  isplitl [HB0]; · iexact HB0
  isplitl [HB1]; · iexact HB1
  isplitl [HW]; · iexact HW
  iintro ⟨Ha, Hb, Hv, Hr0, Hr1, Hr2, HF0, HF1, HS0, HS1, HC0, HC1, HB0, HB1, HW⟩
  iapply Hk
  isplitl [Hg Hsu Hcn Hv HS0 HS1 HC0 HC1 HB0 HB1 HR0 HR1 HF0 HF1 HT0 HT1]
  · isplitl [Hg]; · iexact Hg
    isplitl [Hsu]; · iapply (suP_mono T c (by omega)); iexact Hsu
    isplitl [Hcn]; · iapply (cnP_mono T c (by omega)); iexact Hcn
    isplitl [Hv]
    · iexists xv; isplitr; · ipureintro; exact fun _ => hve
      iexact Hv
    isplitl [HS0 HC0 HB0 HR0 HF0 HT0]
    · isplitl [HF0 HT0]
      · isplitl [HF0]; · iexact HF0
        iexact HT0
      iapply (free_close c A3 B0 0 qh V3 (Ring.sl 2 ((i 0).val + 1)) (Ring.bk 48 ((i 0).val - 31)))
      isplitl [HS0]; · iexact HS0
      isplitl [HC0]; · iexact HC0
      isplitl [HB0]; · iexact HB0
      iexact HR0
    isplitl [HF1 HT1]
    · isplitl [HF1]; · iexact HF1
      iexact HT1
    iapply (free_close c A4 B1 1 qh V4 (Ring.sl 2 ((i 0).val + 1)) (Ring.bk 48 ((i 0).val - 31)))
    isplitl [HS1]; · iexact HS1
    isplitl [HC1]; · iexact HC1
    isplitl [HB1]; · iexact HB1
    iexact HR1
  isplitl [Ha]; · iexact Ha
  isplitl [Hb]; · iexact Hb
  isplitl [Hr0 Hr1 Hr2]
  · iexists xv; isplitr; · ipureintro; exact hve
    isplitl [Hr0]; · iexact Hr0
    isplitl [Hr1]; · iexact Hr1
    iexact Hr2
  iexact HW

/-- The first company point. -/
theorem step_co_first (x1 : S2048x128.Idx → Elt F .f32) (x7 : S2048x1.Idx → Elt F .f32)
    (hn : (i 0).val = 31)
    (W : Waits sig Unit) (Q : PUnit → sProp 𝕄) :
    iprop(Phi T c V3 V4 (i 0).val
        ∗ owns (c : Thread nD τ) arg1 fullShare x1
        ∗ owns (c : Thread nD τ) arg7 fullShare x7
        ∗ (∃ d, owns (c : Thread nD τ) arg10 fullShare d)
        ∗ (∃ d, owns (c : Thread nD τ) arg11 fullShare d)
        ∗ (∃ d, owns (c : Thread nD τ) arg16 fullShare d)
        ∗ owes (c : Thread nD τ) 0 W
        ∗ (iprop(Phi T c V3 V4 ((i 0).val + 1)
            ∗ owns (c : Thread nD τ) arg1 fullShare x1
            ∗ owns (c : Thread nD τ) arg7 fullShare x7
            ∗ (∃ xv, ⌜T.ve xv⌝ ∗ owns (c : Thread nD τ) arg10 fullShare (k0_pay16 x1 (payload c A3 V3 (Ring.bk 48 ((i 0).val - 31))) (payload c A4 V4 (Ring.bk 48 ((i 0).val - 31))) xv) ∗ owns (c : Thread nD τ) arg11 fullShare (k0_pay18 x1 (payload c A3 V3 (Ring.bk 48 ((i 0).val - 31))) (payload c A4 V4 (Ring.bk 48 ((i 0).val - 31))) xv) ∗ owns (c : Thread nD τ) arg16 fullShare (k0_pay4 i (k0_pay17 x1 (payload c A3 V3 (Ring.bk 48 ((i 0).val - 31))) (payload c A4 V4 (Ring.bk 48 ((i 0).val - 31))) xv) x7 k0_pay3))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [ring_in c A3 B0 0 qh V3 (n := (i 0).val) (by omega), ring_in c A4 B1 1 qh V4 (n := (i 0).val) (by omega)]
  rw [ring_next c A3 B0 0 qh V3 (n := (i 0).val) (by omega), ring_next c A4 B1 1 qh V4 (n := (i 0).val) (by omega)]
  unfold busyP
  iintro ⟨⟨Hg, Hsu, Hcn, ⟨%xv, %hv, Hv⟩, ⟨⟨HF0, HR0⟩, HE0⟩, ⟨⟨HF1, HR1⟩, HE1⟩⟩, Ha, Hb, Ho1, Ho2, Ho3, HW, Hk⟩
  have hve : T.ve xv := hv (by omega)
  ihave HE0 := (free_open c A3 B0 0 qh V3 (Ring.sl 2 (i 0).val) (Ring.bk 48 ((i 0).val - 31 + 1))) $$ HE0
  icases HE0 with ⟨HS0, HC0, HB0, HT0⟩
  ihave HE1 := (free_open c A4 B1 1 qh V4 (Ring.sl 2 (i 0).val) (Ring.bk 48 ((i 0).val - 31 + 1))) $$ HE1
  icases HE1 with ⟨HS1, HC1, HB1, HT1⟩
  iapply (co_first c i arg1 harg1 arg2 harg2 arg3 harg3 arg4 harg4 arg5 harg5 arg6 harg6 arg7 harg7 arg10 harg10 arg11 harg11 arg12 harg12 arg13 harg13 arg14 harg14 arg15 harg15 arg16 harg16 qh qh V3 V4 x1 x7 xv hn W Q)
  isplitl [Ha]; · iexact Ha
  isplitl [Hb]; · iexact Hb
  isplitl [Hv]; · iexact Hv
  isplitl [Ho1]; · iexact Ho1
  isplitl [Ho2]; · iexact Ho2
  isplitl [Ho3]; · iexact Ho3
  isplitl [HF0]; · iexact HF0
  isplitl [HF1]; · iexact HF1
  isplitl [HS0]; · iexact HS0
  isplitl [HS1]; · iexact HS1
  isplitl [HC0]; · iexact HC0
  isplitl [HC1]; · iexact HC1
  isplitl [HB0]; · iexact HB0
  isplitl [HB1]; · iexact HB1
  isplitl [HW]; · iexact HW
  iintro ⟨Ha, Hb, Hv, Hr0, Hr1, Hr2, HF0, HF1, HS0, HS1, HC0, HC1, HB0, HB1, HW⟩
  iapply Hk
  isplitl [Hg Hsu Hcn Hv HS0 HS1 HC0 HC1 HB0 HB1 HR0 HR1 HF0 HF1 HT0 HT1]
  · isplitl [Hg]; · iexact Hg
    isplitl [Hsu]; · iapply (suP_mono T c (by omega)); iexact Hsu
    isplitl [Hcn]; · iapply (cnP_mono T c (by omega)); iexact Hcn
    isplitl [Hv]
    · iexists xv; isplitr; · ipureintro; exact fun _ => hve
      iexact Hv
    isplitl [HS0 HC0 HB0 HR0 HF0 HT0]
    · isplitl [HF0 HT0]
      · isplitl [HF0]; · iexact HF0
        iexact HT0
      iapply (free_close c A3 B0 0 qh V3 (Ring.sl 2 ((i 0).val + 1)) (Ring.bk 48 ((i 0).val - 31)))
      isplitl [HS0]; · iexact HS0
      isplitl [HC0]; · iexact HC0
      isplitl [HB0]; · iexact HB0
      iexact HR0
    isplitl [HF1 HT1]
    · isplitl [HF1]; · iexact HF1
      iexact HT1
    iapply (free_close c A4 B1 1 qh V4 (Ring.sl 2 ((i 0).val + 1)) (Ring.bk 48 ((i 0).val - 31)))
    isplitl [HS1]; · iexact HS1
    isplitl [HC1]; · iexact HC1
    isplitl [HB1]; · iexact HB1
    iexact HR1
  isplitl [Ha]; · iexact Ha
  isplitl [Hb]; · iexact Hb
  isplitl [Hr0 Hr1 Hr2]
  · iexists xv; isplitr; · ipureintro; exact hve
    isplitl [Hr0]; · iexact Hr0
    isplitl [Hr1]; · iexact Hr1
    iexact Hr2
  iexact HW

/-- A brand point before the last. -/
theorem step_br (x2 : S2048x128.Idx → Elt F .f32)
    (hn : 62 ≤ (i 0).val ∧ (i 0).val < 78)
    (W : Waits sig Unit) (Q : PUnit → sProp 𝕄) :
    iprop(Phi T c V3 V4 (i 0).val
        ∗ owns (c : Thread nD τ) arg2 fullShare x2
        ∗ (∃ d, owns (c : Thread nD τ) arg12 fullShare d)
        ∗ (∃ d, owns (c : Thread nD τ) arg13 fullShare d)
        ∗ owes (c : Thread nD τ) 0 W
        ∗ (iprop(Phi T c V3 V4 ((i 0).val + 1)
            ∗ owns (c : Thread nD τ) arg2 fullShare x2
            ∗ (∃ xv, ⌜T.ve xv⌝ ∗ owns (c : Thread nD τ) arg12 fullShare (k0_pay5 x2 (payload c A3 V3 (Ring.bk 48 ((i 0).val - 31))) (payload c A4 V4 (Ring.bk 48 ((i 0).val - 31))) xv) ∗ owns (c : Thread nD τ) arg13 fullShare (k0_pay6 x2 (payload c A3 V3 (Ring.bk 48 ((i 0).val - 31))) (payload c A4 V4 (Ring.bk 48 ((i 0).val - 31))) xv))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [ring_in c A3 B0 0 qh V3 (n := (i 0).val) (by omega), ring_in c A4 B1 1 qh V4 (n := (i 0).val) (by omega)]
  rw [ring_next c A3 B0 0 qh V3 (n := (i 0).val) (by omega), ring_next c A4 B1 1 qh V4 (n := (i 0).val) (by omega)]
  unfold busyP
  iintro ⟨⟨Hg, Hsu, Hcn, ⟨%xv, %hv, Hv⟩, ⟨⟨HF0, HR0⟩, HE0⟩, ⟨⟨HF1, HR1⟩, HE1⟩⟩, Ha, Ho1, Ho2, HW, Hk⟩
  have hve : T.ve xv := hv (by omega)
  ihave HE0 := (free_open c A3 B0 0 qh V3 (Ring.sl 2 (i 0).val) (Ring.bk 48 ((i 0).val - 31 + 1))) $$ HE0
  icases HE0 with ⟨HS0, HC0, HB0, HT0⟩
  ihave HE1 := (free_open c A4 B1 1 qh V4 (Ring.sl 2 (i 0).val) (Ring.bk 48 ((i 0).val - 31 + 1))) $$ HE1
  icases HE1 with ⟨HS1, HC1, HB1, HT1⟩
  iapply (br_run c i arg1 harg1 arg2 harg2 arg3 harg3 arg4 harg4 arg5 harg5 arg6 harg6 arg7 harg7 arg10 harg10 arg11 harg11 arg12 harg12 arg13 harg13 arg14 harg14 arg15 harg15 arg16 harg16 qh qh V3 V4 x2 xv hn W Q)
  isplitl [Ha]; · iexact Ha
  isplitl [Hv]; · iexact Hv
  isplitl [Ho1]; · iexact Ho1
  isplitl [Ho2]; · iexact Ho2
  isplitl [HF0]; · iexact HF0
  isplitl [HF1]; · iexact HF1
  isplitl [HS0]; · iexact HS0
  isplitl [HS1]; · iexact HS1
  isplitl [HC0]; · iexact HC0
  isplitl [HC1]; · iexact HC1
  isplitl [HB0]; · iexact HB0
  isplitl [HB1]; · iexact HB1
  isplitl [HW]; · iexact HW
  iintro ⟨Ha, Hv, Hr0, Hr1, HF0, HF1, HS0, HS1, HC0, HC1, HB0, HB1, HW⟩
  iapply Hk
  isplitl [Hg Hsu Hcn Hv HS0 HS1 HC0 HC1 HB0 HB1 HR0 HR1 HF0 HF1 HT0 HT1]
  · isplitl [Hg]; · iexact Hg
    isplitl [Hsu]; · iapply (suP_mono T c (by omega)); iexact Hsu
    isplitl [Hcn]; · iapply (cnP_mono T c (by omega)); iexact Hcn
    isplitl [Hv]
    · iexists xv; isplitr; · ipureintro; exact fun _ => hve
      iexact Hv
    isplitl [HS0 HC0 HB0 HR0 HF0 HT0]
    · isplitl [HF0 HT0]
      · isplitl [HF0]; · iexact HF0
        iexact HT0
      iapply (free_close c A3 B0 0 qh V3 (Ring.sl 2 ((i 0).val + 1)) (Ring.bk 48 ((i 0).val - 31)))
      isplitl [HS0]; · iexact HS0
      isplitl [HC0]; · iexact HC0
      isplitl [HB0]; · iexact HB0
      iexact HR0
    isplitl [HF1 HT1]
    · isplitl [HF1]; · iexact HF1
      iexact HT1
    iapply (free_close c A4 B1 1 qh V4 (Ring.sl 2 ((i 0).val + 1)) (Ring.bk 48 ((i 0).val - 31)))
    isplitl [HS1]; · iexact HS1
    isplitl [HC1]; · iexact HC1
    isplitl [HB1]; · iexact HB1
    iexact HR1
  isplitl [Ha]; · iexact Ha
  isplitl [Hr0 Hr1]
  · iexists xv; isplitr; · ipureintro; exact hve
    isplitl [Hr0]; · iexact Hr0
    iexact Hr1
  iexact HW

/-- The last brand point. -/
theorem step_br_last (x2 : S2048x128.Idx → Elt F .f32)
    (hn : (i 0).val = 78)
    (W : Waits sig Unit) (Q : PUnit → sProp 𝕄) :
    iprop(Phi T c V3 V4 (i 0).val
        ∗ owns (c : Thread nD τ) arg2 fullShare x2
        ∗ (∃ d, owns (c : Thread nD τ) arg12 fullShare d)
        ∗ (∃ d, owns (c : Thread nD τ) arg13 fullShare d)
        ∗ owes (c : Thread nD τ) 0 W
        ∗ (iprop(Phi T c V3 V4 ((i 0).val + 1)
            ∗ owns (c : Thread nD τ) arg2 fullShare x2
            ∗ (∃ xv, ⌜T.ve xv⌝ ∗ owns (c : Thread nD τ) arg12 fullShare (k0_pay5 x2 (payload c A3 V3 (Ring.bk 48 ((i 0).val - 31))) (payload c A4 V4 (Ring.bk 48 ((i 0).val - 31))) xv) ∗ owns (c : Thread nD τ) arg13 fullShare (k0_pay6 x2 (payload c A3 V3 (Ring.bk 48 ((i 0).val - 31))) (payload c A4 V4 (Ring.bk 48 ((i 0).val - 31))) xv))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [ring_in c A3 B0 0 qh V3 (n := (i 0).val) (by omega), ring_in c A4 B1 1 qh V4 (n := (i 0).val) (by omega)]
  rw [ring_out c A3 B0 0 qh V3 (n := (i 0).val + 1) (by omega), ring_out c A4 B1 1 qh V4 (n := (i 0).val + 1) (by omega)]
  rw [show Ring.sl 2 (i 0).val = 0 by rw [hn]; rfl]
  unfold busyP
  iintro ⟨⟨Hg, Hsu, Hcn, ⟨%xv, %hv, Hv⟩, ⟨⟨HF0, HR0⟩, HE0⟩, ⟨⟨HF1, HR1⟩, HE1⟩⟩, Ha, Ho1, Ho2, HW, Hk⟩
  have hve : T.ve xv := hv (by omega)
  iapply (br_last c i arg1 harg1 arg2 harg2 arg3 harg3 arg4 harg4 arg5 harg5 arg6 harg6 arg7 harg7 arg10 harg10 arg11 harg11 arg12 harg12 arg13 harg13 arg14 harg14 arg15 harg15 arg16 harg16 qh qh V3 V4 x2 xv hn W Q)
  isplitl [Ha]; · iexact Ha
  isplitl [Hv]; · iexact Hv
  isplitl [Ho1]; · iexact Ho1
  isplitl [Ho2]; · iexact Ho2
  isplitl [HF0]; · iexact HF0
  isplitl [HF1]; · iexact HF1
  isplitl [HW]; · iexact HW
  iintro ⟨Ha, Hv, Hr0, Hr1, HS0, HS1, HC0, HC1, HB0, HB1, HW⟩
  iapply Hk
  isplitl [Hg Hsu Hcn Hv HS0 HS1 HC0 HC1 HB0 HB1 HR0 HR1 HE0 HE1]
  · isplitl [Hg]; · iexact Hg
    isplitl [Hsu]; · iapply (suP_mono T c (by omega)); iexact Hsu
    isplitl [Hcn]; · iapply (cnP_mono T c (by omega)); iexact Hcn
    isplitl [Hv]
    · iexists xv; isplitr; · ipureintro; exact fun _ => hve
      iexact Hv
    isplitl [HS0 HC0 HB0 HR0 HE0]
    · isplitl [HE0]; · iexact HE0
      rw [show Ring.sl 2 ((i 0).val + 1) = 1 by rw [hn]; rfl]
      iapply (free_close c A3 B0 0 qh V3 1 (Ring.bk 48 ((i 0).val - 31)))
      isplitl [HS0]; · iexact HS0
      isplitl [HC0]; · iexact HC0
      isplitl [HB0]; · iexact HB0
      iexact HR0
    isplitl [HE1]; · iexact HE1
    rw [show Ring.sl 2 ((i 0).val + 1) = 1 by rw [hn]; rfl]
    iapply (free_close c A4 B1 1 qh V4 1 (Ring.bk 48 ((i 0).val - 31)))
    isplitl [HS1]; · iexact HS1
    isplitl [HC1]; · iexact HC1
    isplitl [HB1]; · iexact HB1
    iexact HR1
  isplitl [Ha]; · iexact Ha
  isplitl [Hr0 Hr1]
  · iexists xv; isplitr; · ipureintro; exact hve
    isplitl [Hr0]; · iexact Hr0
    iexact Hr1
  iexact HW

/-- An organize point. -/
theorem step_org (x3 x4 x5 : S2048x128.Idx → Elt F .f32)
    (hn : 79 ≤ (i 0).val)
    (W : Waits sig Unit) (Q : PUnit → sProp 𝕄) :
    iprop(Phi T c V3 V4 (i 0).val
        ∗ owns (c : Thread nD τ) arg3 fullShare x3
        ∗ owns (c : Thread nD τ) arg4 fullShare x4
        ∗ owns (c : Thread nD τ) arg5 fullShare x5
        ∗ (∃ d, owns (c : Thread nD τ) arg14 fullShare d)
        ∗ (∃ d, owns (c : Thread nD τ) arg15 fullShare d)
        ∗ owes (c : Thread nD τ) 0 W
        ∗ (iprop(Phi T c V3 V4 ((i 0).val + 1)
            ∗ owns (c : Thread nD τ) arg3 fullShare x3
            ∗ owns (c : Thread nD τ) arg4 fullShare x4
            ∗ owns (c : Thread nD τ) arg5 fullShare x5
            ∗ (∃ xv, ⌜T.ve xv⌝ ∗ owns (c : Thread nD τ) arg14 fullShare (k0_pay21 x3 x4 x5 xv) ∗ owns (c : Thread nD τ) arg15 fullShare (k0_pay7 (k0_pay21 x3 x4 x5 xv)))
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [← ring_same c A3 B0 0 qh V3 (n := (i 0).val) (by omega), ← ring_same c A4 B1 1 qh V4 (n := (i 0).val) (by omega)]
  iintro ⟨⟨Hg, Hsu, Hcn, ⟨%xv, %hv, Hv⟩, HR0, HR1⟩, Ha, Hb, Hc, Ho1, Ho2, HW, Hk⟩
  have hve : T.ve xv := hv (by omega)
  iapply (org_run c i arg1 harg1 arg2 harg2 arg3 harg3 arg4 harg4 arg5 harg5 arg6 harg6 arg7 harg7 arg10 harg10 arg11 harg11 arg12 harg12 arg13 harg13 arg14 harg14 arg15 harg15 arg16 harg16 x3 x4 x5 xv hn W Q)
  isplitl [Ha]; · iexact Ha
  isplitl [Hb]; · iexact Hb
  isplitl [Hc]; · iexact Hc
  isplitl [Hv]; · iexact Hv
  isplitl [Ho1]; · iexact Ho1
  isplitl [Ho2]; · iexact Ho2
  isplitl [HW]; · iexact HW
  iintro ⟨Ha, Hb, Hc, Hv, Hr0, Hr1, HW⟩
  iapply Hk
  isplitl [Hg Hsu Hcn Hv HR0 HR1]
  · isplitl [Hg]; · iexact Hg
    isplitl [Hsu]; · iapply (suP_mono T c (by omega)); iexact Hsu
    isplitl [Hcn]; · iapply (cnP_mono T c (by omega)); iexact Hcn
    isplitl [Hv]
    · iexists xv; isplitr; · ipureintro; exact fun _ => hve
      iexact Hv
    isplitl [HR0]; · iexact HR0
    iexact HR1
  isplitl [Ha]; · iexact Ha
  isplitl [Hb]; · iexact Hb
  isplitl [Hc]; · iexact Hc
  isplitl [Hr0 Hr1]
  · iexists xv; isplitr; · ipureintro; exact hve
    isplitl [Hr0]; · iexact Hr0
    iexact Hr1
  iexact HW

/-- The first means point. -/
theorem step_mean_first (x1 : S2048x128.Idx → Elt F .f32) (y : S1x2048.Idx → Elt F .f32)
    (hn : (i 0).val = 0)
    (hsu : T.su 1 (k0_pay12 (BitVec.ofNat 32 (i 0).val) x1 y k0_pay10)) (hcn : T.cn 1 (k0_pay1 (k0_pay13 (BitVec.ofNat 32 (i 0).val) y k0_pay11)))
    (W : Waits sig Unit) (Q : PUnit → sProp 𝕄) :
    iprop(Phi T c V3 V4 (i 0).val
        ∗ owns (c : Thread nD τ) arg1 fullShare x1
        ∗ owns (c : Thread nD τ) arg6 fullShare y
        ∗ owes (c : Thread nD τ) 0 W
        ∗ (iprop(Phi T c V3 V4 ((i 0).val + 1)
            ∗ owns (c : Thread nD τ) arg1 fullShare x1
            ∗ owns (c : Thread nD τ) arg6 fullShare y
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [← ring_same c A3 B0 0 qh V3 (n := (i 0).val) (by omega), ← ring_same c A4 B1 1 qh V4 (n := (i 0).val) (by omega)]
  iintro ⟨⟨Hg, ⟨%su, %hs, Hsu⟩, ⟨%cn, %hc, Hcn⟩, Hve, HR0, HR1⟩, Ha, Hb, HW, Hk⟩
  iapply (mean_first c i arg1 harg1 arg2 harg2 arg3 harg3 arg4 harg4 arg5 harg5 arg6 harg6 arg7 harg7 arg10 harg10 arg11 harg11 arg12 harg12 arg13 harg13 arg14 harg14 arg15 harg15 arg16 harg16 x1 y hn W Q)
  isplitl [Ha]; · iexact Ha
  isplitl [Hb]; · iexact Hb
  isplitl [Hsu]; · iexists _; iexact Hsu
  isplitl [Hcn]; · iexists _; iexact Hcn
  isplitl [HW]; · iexact HW
  iintro ⟨Ha, Hb, Hsu, Hcn, HW⟩
  iapply Hk
  isplitl [Hg Hsu Hcn Hve HR0 HR1]
  · isplitl [Hg]; · iexact Hg
    isplitl [Hsu]
    · iexists _; isplitr; swap; · iexact Hsu
      ipureintro; intro _; rw [show (i 0).val + 1 = 1 by omega]; exact hsu
    isplitl [Hcn]
    · iexists _; isplitr; swap; · iexact Hcn
      ipureintro; intro _; rw [show (i 0).val + 1 = 1 by omega]; exact hcn
    isplitl [Hve]; · iapply (veP_mono T c (by omega)); iexact Hve
    isplitl [HR0]; · iexact HR0
    iexact HR1
  isplitl [Ha]; · iexact Ha
  isplitl [Hb]; · iexact Hb
  iexact HW

/-- A means point between the first and the last. -/
theorem step_mean (x1 : S2048x128.Idx → Elt F .f32) (y : S1x2048.Idx → Elt F .f32)
    (hn : 0 < (i 0).val ∧ (i 0).val < 30)
    (hsu : ∀ su, T.su (i 0).val su → T.su ((i 0).val + 1) (k0_pay12 (BitVec.ofNat 32 (i 0).val) x1 y su))
    (hcn : ∀ cn, T.cn (i 0).val cn → T.cn ((i 0).val + 1) (k0_pay1 (k0_pay13 (BitVec.ofNat 32 (i 0).val) y cn)))
    (W : Waits sig Unit) (Q : PUnit → sProp 𝕄) :
    iprop(Phi T c V3 V4 (i 0).val
        ∗ owns (c : Thread nD τ) arg1 fullShare x1
        ∗ owns (c : Thread nD τ) arg6 fullShare y
        ∗ owes (c : Thread nD τ) 0 W
        ∗ (iprop(Phi T c V3 V4 ((i 0).val + 1)
            ∗ owns (c : Thread nD τ) arg1 fullShare x1
            ∗ owns (c : Thread nD τ) arg6 fullShare y
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [← ring_same c A3 B0 0 qh V3 (n := (i 0).val) (by omega), ← ring_same c A4 B1 1 qh V4 (n := (i 0).val) (by omega)]
  iintro ⟨⟨Hg, ⟨%su, %hs, Hsu⟩, ⟨%cn, %hc, Hcn⟩, Hve, HR0, HR1⟩, Ha, Hb, HW, Hk⟩
  iapply (mean_run c i arg1 harg1 arg2 harg2 arg3 harg3 arg4 harg4 arg5 harg5 arg6 harg6 arg7 harg7 arg10 harg10 arg11 harg11 arg12 harg12 arg13 harg13 arg14 harg14 arg15 harg15 arg16 harg16 x1 y su cn hn W Q)
  isplitl [Ha]; · iexact Ha
  isplitl [Hb]; · iexact Hb
  isplitl [Hsu]; · iexact Hsu
  isplitl [Hcn]; · iexact Hcn
  isplitl [HW]; · iexact HW
  iintro ⟨Ha, Hb, Hsu, Hcn, HW⟩
  iapply Hk
  isplitl [Hg Hsu Hcn Hve HR0 HR1]
  · isplitl [Hg]; · iexact Hg
    isplitl [Hsu]
    · iexists _; isplitr; swap; · iexact Hsu
      ipureintro; intro _; exact hsu _ (hs (by omega))
    isplitl [Hcn]
    · iexists _; isplitr; swap; · iexact Hcn
      ipureintro; intro _; exact hcn _ (hc (by omega))
    isplitl [Hve]; · iapply (veP_mono T c (by omega)); iexact Hve
    isplitl [HR0]; · iexact HR0
    iexact HR1
  isplitl [Ha]; · iexact Ha
  isplitl [Hb]; · iexact Hb
  iexact HW

/-- The last means point: the rows are folded and the first copies start. -/
theorem step_mean_last (x1 : S2048x128.Idx → Elt F .f32) (y : S1x2048.Idx → Elt F .f32)
    (hn : (i 0).val = 30)
    (hve : ∀ su cn, T.su (i 0).val su → T.cn (i 0).val cn → T.ve (k0_pay2 (k0_pay1 (k0_pay13 (BitVec.ofNat 32 (i 0).val) y cn)) (View.ld (k0_pay12 (BitVec.ofNat 32 (i 0).val) x1 y su) (Rect.unit (s := S2x128) ![0, 0] S1x128.size inb_S2x128_S1x128_0_0)) (View.ld (k0_pay12 (BitVec.ofNat 32 (i 0).val) x1 y su) (Rect.unit (s := S2x128) ![1, 0] S1x128.size inb_S2x128_S1x128_1_0)) (View.ld (k0_pay12 (BitVec.ofNat 32 (i 0).val) x1 y su) (Rect.unit (s := S2x128) ![0, 0] S1x128.size inb_S2x128_S1x128_0_0))))
    (W : Waits sig Unit) (Q : PUnit → sProp 𝕄) :
    iprop(Phi T c V3 V4 (i 0).val
        ∗ owns (c : Thread nD τ) arg1 fullShare x1
        ∗ owns (c : Thread nD τ) arg6 fullShare y
        ∗ owes (c : Thread nD τ) 0 W
        ∗ (iprop(Phi T c V3 V4 ((i 0).val + 1)
            ∗ owns (c : Thread nD τ) arg1 fullShare x1
            ∗ owns (c : Thread nD τ) arg6 fullShare y
            ∗ (∃ W', owes (c : Thread nD τ) 0 W')) -∗ Q ⟨⟩))
      ⊢ wp frame (wpE (defs₀ (F := F)) Variants.none (c : Thread nD τ) none) Set.univ
          (bodyG i arg1 harg1 arg2 harg2 arg3 harg3 arg4 harg4 arg5 harg5 arg6 harg6 arg7 harg7 arg10 harg10 arg11 harg11 arg12 harg12 arg13 harg13 arg14 harg14 arg15 harg15 arg16 harg16) Q := by
  unfold Phi
  rw [show (i 0).val + 1 = 31 by omega, ring_30, ring_30]
  rw [ring_out c A3 B0 0 qh V3 (n := (i 0).val) (by omega), ring_out c A4 B1 1 qh V4 (n := (i 0).val) (by omega)]
  unfold busyP
  iintro ⟨⟨Hg, ⟨%su, %hs, Hsu⟩, ⟨%cn, %hc, Hcn⟩, ⟨%xv, -, Hve⟩, ⟨HE0, HX0⟩, ⟨HE1, HX1⟩⟩, Ha, Hb, HW, Hk⟩
  ihave HE0 := (free_open c A3 B0 0 qh V3 0 0) $$ HE0
  icases HE0 with ⟨HS0, HC0, HB0, HT0⟩
  ihave HE1 := (free_open c A4 B1 1 qh V4 0 0) $$ HE1
  icases HE1 with ⟨HS1, HC1, HB1, HT1⟩
  iapply (mean_last c i arg1 harg1 arg2 harg2 arg3 harg3 arg4 harg4 arg5 harg5 arg6 harg6 arg7 harg7 arg10 harg10 arg11 harg11 arg12 harg12 arg13 harg13 arg14 harg14 arg15 harg15 arg16 harg16 qh qh V3 V4 x1 y su cn hn W Q)
  isplitl [Ha]; · iexact Ha
  isplitl [Hb]; · iexact Hb
  isplitl [Hsu]; · iexact Hsu
  isplitl [Hcn]; · iexact Hcn
  isplitl [Hve]; · iexists _; iexact Hve
  isplitl [HS0]; · iexact HS0
  isplitl [HS1]; · iexact HS1
  isplitl [HC0]; · iexact HC0
  isplitl [HC1]; · iexact HC1
  isplitl [HB0]; · iexact HB0
  isplitl [HB1]; · iexact HB1
  isplitl [HW]; · iexact HW
  iintro ⟨Ha, Hb, Hsu, Hcn, Hve, HF0, HF1, HW⟩
  iapply Hk
  isplitl [Hg Hsu Hcn Hve HF0 HF1 HT0 HT1 HX0 HX1]
  · isplitl [Hg]; · iexact Hg
    isplitl [Hsu]
    · iexists _; isplitr; swap; · iexact Hsu
      ipureintro; intro h; omega
    isplitl [Hcn]
    · iexists _; isplitr; swap; · iexact Hcn
      ipureintro; intro h; omega
    isplitl [Hve]
    · iexists _; isplitr; swap; · iexact Hve
      ipureintro; intro _; exact hve _ _ (hs (by omega)) (hc (by omega))
    isplitl [HF0 HT0 HX0]
    · isplitl [HF0 HT0]
      · isplitl [HF0]; · iexact HF0
        iexact HT0
      iexact HX0
    isplitl [HF1 HT1]
    · isplitl [HF1]; · iexact HF1
      iexact HT1
    iexact HX1
  isplitl [Ha]; · iexact Ha
  isplitl [Hb]; · iexact Hb
  iexact HW

end Steps

end Cert.Proof.KernelIdeal

end
-- ==== Proof.Ideal.Ends.lean ====
/-
  The carried state at the region's two ends: the scratch whole, the four semaphores at zero and the two big arrays whole
  are the state before the first point, and the state after the last point is that again.
-/
module

public import proofs.«01_k».proof.Proof.Ideal.Track

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ (Pipeline.UD sig nD τ) ℕ

/-! ## The kernel's own semaphores -/

abbrev osem0 : Fin 4 → SemLoc sig := fun j => (![SemLoc.dma 27, SemLoc.dma 28, SemLoc.dma 29, SemLoc.dma 30] : Fin 4 → SemLoc sig) j
theorem ownSemFacts0 : Pipeline.OwnSemFacts spec0 osem0 := by decide
theorem csm00 : SemLoc.dma (csm 0 0).sem = (SemLoc.dma 27 : SemLoc sig) := by decide +kernel
theorem csm01 : SemLoc.dma (csm 0 1).sem = (SemLoc.dma 28 : SemLoc sig) := by decide +kernel
theorem csm10 : SemLoc.dma (csm 1 0).sem = (SemLoc.dma 29 : SemLoc sig) := by decide +kernel
theorem csm11 : SemLoc.dma (csm 1 1).sem = (SemLoc.dma 30 : SemLoc sig) := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 1 0 ∗ cellP c 0 1 ∗ cellP c 1 1) := by
  unfold cellP
  rw [Pipeline.ownSems0_eq_of_list c osem0 [0, 1, 2, 3] (by decide) (by decide), csm00, csm01, csm10, csm11]; rfl

/-! ## The two big arrays -/

def H0 : Finset (Ref sig .tc) := {main_arg3, main_arg4}
theorem H0_sub : H0 ⊆ Pipeline.restRefs sig spec0 := by decide
theorem bigs_eq (c : Dev nD) (W : (b : Ref sig .tc) → Buf (Elt F) ((c : Thread nD τ).loc b)) :
    (bigSep H0 (fun b => ((c : Thread nD τ).loc b) ↦{fullShare} W b) : sProp 𝕄)
      = iprop((A3.view.loc (c : Thread nD τ) ↦{fullShare} W main_arg3) ∗ (A4.view.loc (c : Thread nD τ) ↦{fullShare} W main_arg4)) := by
  rw [BI.bigSep_eq_bigSepL_of_eq [main_arg3, main_arg4] (by decide) (by decide)]; rfl

theorem whole_halves (c : Dev nD) (A : Memref sig .tc .hbm S101916x128 .f32) (V : Bf (F := F) c A) :
    (A.view.loc (c : Thread nD τ) ↦{fullShare} V : sProp 𝕄)
      ⊢ iprop((A.view.loc (c : Thread nD τ) ↦{qh 0} V) ∗ (A.view.loc (c : Thread nD τ) ↦{qh 1} V)) :=
  (pointsTo_share (PosShare.mem_left_op_right fullShare)).1
theorem halves_whole (c : Dev nD) (A : Memref sig .tc .hbm S101916x128 .f32) (V : Bf (F := F) c A) :
    iprop((A.view.loc (c : Thread nD τ) ↦{qh 0} V) ∗ (A.view.loc (c : Thread nD τ) ↦{qh 1} V))
      ⊢ (A.view.loc (c : Thread nD τ) ↦{fullShare} V : sProp 𝕄) :=
  (pointsTo_share (PosShare.mem_left_op_right fullShare)).2

/-! ## The double buffers' slots -/

abbrev S2 (s : Fin 2) : Finset S2x2048x128.Idx := (Rect.unit (s := S2x2048x128) (slotOff s) S1x2048x128.size (slotOff_inb s)).set
theorem mem_S2 (s : Fin 2) (y : S2x2048x128.Idx) : y ∈ S2 s ↔ (y 0).val = s.val := by
  rw [Rect.mem_set_unit]
  have h1 : (y 1).val < 2048 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 128; omega
theorem S2_disjoint : ∀ s s' : Fin 2, s ≠ s' → Disjoint (S2 s) (S2 s') := by
  intro s s' hne; rw [Finset.disjoint_left]; intro y hy hy'; rw [mem_S2] at hy hy'; exact hne (Fin.ext (hy.symm.trans hy'))
theorem S2_cover : (Finset.univ : Finset (Fin 2)).biUnion S2 = Finset.univ := by
  ext y; simp only [Finset.mem_biUnion, Finset.mem_univ, true_and, iff_true]; exact ⟨(y 0).cast (by decide), by rw [mem_S2]; rfl⟩

theorem set_B0 (s : Fin 2) : (rslot B0 s).view.set = S2 s := (View.set_reshape _ _).trans (View.set_slice_whole _ _)
theorem set_B1 (s : Fin 2) : (rslot B1 s).view.set = S2 s := (View.set_reshape _ _).trans (View.set_slice_whole _ _)
theorem slot_B0 (c : Dev nD) (s : Fin 2) (f) : slotP (F := F) c B0 s f = (((c : Thread nD τ).loc cc0_scratch0) ↦[S2 s]{fullShare} f : sProp 𝕄) :=
  congrArg (fun S => (_ ↦[S]{fullShare} f : sProp 𝕄)) (set_B0 s)
theorem split_B0 (c : Dev nD) :
    iprop(∃ f : Buf (Elt F) ((c : Thread nD τ).loc cc0_scratch0), ((c : Thread nD τ).loc cc0_scratch0) ↦{fullShare} f)
      ⊢ (iprop((∃ f, slotP c B0 0 f) ∗ ∃ f, slotP c B0 1 f) : sProp 𝕄) :=
  Ring.slots2_split (ℓ := (c : Thread nD τ).loc cc0_scratch0) (q := fullShare) S2 S2_disjoint S2_cover (fun f => slotP (F := F) c B0 0 f) (fun f => slotP (F := F) c B0 1 f)
    (fun f => slot_B0 c 0 f) (fun f => slot_B0 c 1 f)
theorem join_B0 (c : Dev nD) :
    iprop((∃ f, slotP c B0 0 f) ∗ ∃ f, slotP c B0 1 f)
      ⊢ (iprop(∃ f : Buf (Elt F) ((c : Thread nD τ).loc cc0_scratch0), ((c : Thread nD τ).loc cc0_scratch0) ↦{fullShare} f) : sProp 𝕄) :=
  Ring.slots2_join (ℓ := (c : Thread nD τ).loc cc0_scratch0) (q := fullShare) S2 S2_disjoint S2_cover (fun f => slotP (F := F) c B0 0 f) (fun f => slotP (F := F) c B0 1 f)
    (fun f => slot_B0 c 0 f) (fun f => slot_B0 c 1 f)
theorem slot_B1 (c : Dev nD) (s : Fin 2) (f) : slotP (F := F) c B1 s f = (((c : Thread nD τ).loc cc0_scratch1) ↦[S2 s]{fullShare} f : sProp 𝕄) :=
  congrArg (fun S => (_ ↦[S]{fullShare} f : sProp 𝕄)) (set_B1 s)
theorem split_B1 (c : Dev nD) :
    iprop(∃ f : Buf (Elt F) ((c : Thread nD τ).loc cc0_scratch1), ((c : Thread nD τ).loc cc0_scratch1) ↦{fullShare} f)
      ⊢ (iprop((∃ f, slotP c B1 0 f) ∗ ∃ f, slotP c B1 1 f) : sProp 𝕄) :=
  Ring.slots2_split (ℓ := (c : Thread nD τ).loc cc0_scratch1) (q := fullShare) S2 S2_disjoint S2_cover (fun f => slotP (F := F) c B1 0 f) (fun f => slotP (F := F) c B1 1 f)
    (fun f => slot_B1 c 0 f) (fun f => slot_B1 c 1 f)
theorem join_B1 (c : Dev nD) :
    iprop((∃ f, slotP c B1 0 f) ∗ ∃ f, slotP c B1 1 f)
      ⊢ (iprop(∃ f : Buf (Elt F) ((c : Thread nD τ).loc cc0_scratch1), ((c : Thread nD τ).loc cc0_scratch1) ↦{fullShare} f) : sProp 𝕄) :=
  Ring.slots2_join (ℓ := (c : Thread nD τ).loc cc0_scratch1) (q := fullShare) S2 S2_disjoint S2_cover (fun f => slotP (F := F) c B1 0 f) (fun f => slotP (F := F) c B1 1 f)
    (fun f => slot_B1 c 0 f) (fun f => slot_B1 c 1 f)

/-! ## The ends -/

theorem pt_owns (c : Dev nD) {b : Ref sig .tc} :
    iprop(∃ f : Buf (Elt F) ((c : Thread nD τ).loc b), ((c : Thread nD τ).loc b) ↦{fullShare} f)
      ⊢ (iprop(∃ d, owns (c : Thread nD τ) (Memref.whole b) fullShare d) : sProp 𝕄) := by
  simp only [owns_whole]; exact .rfl
theorem owns_pt (c : Dev nD) {b : Ref sig .tc} :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]; exact .rfl

theorem ends_in (T : Trk F) (V : (c : Dev nD) → (b : Ref sig .tc) → Buf (Elt F) ((c : Thread nD τ).loc b)) (c : Dev nD) :
    (Pipeline.ΦD osem0 spec0 H0 V c : sProp 𝕄) ⊢ Phi T c (V c main_arg3) (V c main_arg4) 0 := by
  rw [Pipeline.ΦD_eq, scopedRest0_eq, ownSems00_eq, bigs_eq]
  unfold Phi
  rw [ring_out c A3 B0 0 qh _ (n := 0) (by omega), ring_out c A4 B1 1 qh _ (n := 0) (by omega)]
  unfold freeP
  iintro ⟨⟨H0, H1, H2, H3, H4⟩, Hg, ⟨C00, C01, C10, C11⟩, HA, HB⟩
  ihave H0 := (split_B0 c) $$ H0
  icases H0 with ⟨S00, S01⟩
  ihave H1 := (split_B1 c) $$ H1
  icases H1 with ⟨S10, S11⟩
  ihave HA := (whole_halves c A3 _) $$ HA
  icases HA with ⟨A0, A1⟩
  ihave HB := (whole_halves c A4 _) $$ HB
  icases HB with ⟨D0, D1⟩
  ihave H2 := (pt_owns c) $$ H2
  icases H2 with ⟨%d2, H2⟩
  ihave H3 := (pt_owns c) $$ H3
  icases H3 with ⟨%d3, H3⟩
  ihave H4 := (pt_owns c) $$ H4
  icases H4 with ⟨%d4, H4⟩
  isplitl [Hg]; · iexact Hg
  isplitl [H2]
  · iexists d2; isplitr; · ipureintro; intro h; omega
    iexact H2
  isplitl [H3]
  · iexists d3; isplitr; · ipureintro; intro h; omega
    iexact H3
  isplitl [H4]
  · iexists d4; isplitr; · ipureintro; intro h; omega
    iexact H4
  isplitl [S00 S01 C00 C10 A0 A1]
  · isplitl [S00 C00 A0]
    · isplitl [S00]; · iexact S00
      isplitl [C00]; · iexact C00
      iexact A0
    isplitl [S01]; · iexact S01
    isplitl [C10]; · iexact C10
    iexact A1
  isplitl [S10 C01 D0]
  · isplitl [S10]; · iexact S10
    isplitl [C01]; · iexact C01
    iexact D0
  isplitl [S11]; · iexact S11
  isplitl [C11]; · iexact C11
  iexact D1

theorem ends_out (T : Trk F) (V : (c : Dev nD) → (b : Ref sig .tc) → Buf (Elt F) ((c : Thread nD τ).loc b)) (c : Dev nD) :
    Phi T c (V c main_arg3) (V c main_arg4) 82 ⊢ (Pipeline.ΦD osem0 spec0 H0 V c : sProp 𝕄) := by
  rw [Pipeline.ΦD_eq, scopedRest0_eq, ownSems00_eq, bigs_eq]
  unfold Phi
  rw [ring_out c A3 B0 0 qh _ (n := 82) (by omega), ring_out c A4 B1 1 qh _ (n := 82) (by omega)]
  unfold freeP
  iintro ⟨Hg, ⟨%d2, -, H2⟩, ⟨%d3, -, H3⟩, ⟨%d4, -, H4⟩, ⟨⟨S00, C00, A0⟩, ⟨S01, C10, A1⟩⟩, ⟨⟨S10, C01, D0⟩, ⟨S11, C11, D1⟩⟩⟩
  isplitl [S00 S01 S10 S11 H2 H3 H4]
  · isplitl [S00 S01]
    · iapply (join_B0 c)
      isplitl [S00]; · iexact S00
      iexact S01
    isplitl [S10 S11]
    · iapply (join_B1 c)
      isplitl [S10]; · iexact S10
      iexact S11
    isplitl [H2]; · iapply (owns_pt c); iexists _; iexact H2
    isplitl [H3]; · iapply (owns_pt c); iexists _; iexact H3
    iapply (owns_pt c); iexists _; iexact H4
  isplitl [Hg]; · iexact Hg
  isplitl [C00 C01 C10 C11]
  · isplitl [C00]; · iexact C00
    isplitl [C01]; · iexact C01
    isplitl [C10]; · iexact C10
    iexact C11
  isplitl [A0 A1]
  · iapply (halves_whole c A3 _)
    isplitl [A0]; · iexact A0
    iexact A1
  iapply (halves_whole c A4 _)
  isplitl [D0]; · iexact D0
  iexact D1

end Cert.Proof.KernelIdeal

end
-- ==== Proof.Ideal.Frame0.lean ====
/-
  The frame that says nothing of the windows: at every point the body runs, from any contents of the staging buffers to
  some, keeping the carried state; so the kernel ends with its arguments as they were and every semaphore at zero.
-/
module

public import proofs.«01_k».proof.Proof.Ideal.Ends
public import Idealize.ShloMosaic.Lib.Pipeline.FrameSuffixR

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ (Pipeline.UD sig nD τ) ℕ

/-- Nothing known of the carried values. -/
abbrev T0 : Trk F := ⟨fun _ _ => True, fun _ _ => True, fun _ => True⟩

section Any
variable (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S1x2048 .f32) (harg6 : arg6.IsWhole)
  (arg7 : Memref sig .tc .vmem S2048x1 .f32) (harg7 : arg7.IsWhole)
  (arg10 : Memref sig .tc .vmem S2048x2 .f32) (harg10 : arg10.IsWhole) (arg11 : Memref sig .tc .vmem S2048x1 .i32) (harg11 : arg11.IsWhole)
  (arg12 : Memref sig .tc .vmem S2048x2 .f32) (harg12 : arg12.IsWhole) (arg13 : Memref sig .tc .vmem S2048x1 .i32) (harg13 : arg13.IsWhole)
  (arg14 : Memref sig .tc .vmem S2048x2 .f32) (harg14 : arg14.IsWhole) (arg15 : Memref sig .tc .vmem S2048x1 .i32) (harg15 : arg15.IsWhole)
  (arg16 : Memref sig .tc .vmem S1x1 .f32) (harg16 : arg16.IsWhole)
  (V3 : Bf (F := F) c A3) (V4 : Bf (F := F) c A4)

/-- What the body is given at a point, and what it leaves. -/
abbrev anyP (n : ℕ) : sProp 𝕄 :=
  iprop(Phi T0 c V3 V4 n
        ∗ (∃ W, owes (c : Thread nD τ) 0 W)
        ∗ (∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d))

theorem any_mean_first (hn : (i 0).val = 0) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, ⟨%x1, H1⟩, H2, H3, H4, H5, ⟨%x6, H6⟩, H7, H10, H11, H12, H13, H14, H15, H16⟩
  iapply (step_mean_first T0 c i arg1 harg1 arg2 harg2 arg3 harg3 arg4 harg4 arg5 harg5 arg6 harg6 arg7 harg7 arg10 harg10 arg11 harg11 arg12 harg12 arg13 harg13 arg14 harg14 arg15 harg15 arg16 harg16 V3 V4 x1 x6 hn trivial trivial W _)
  isplitl [HP]; · iexact HP
  isplitl [H1]; · iexact H1
  isplitl [H6]; · iexact H6
  isplitl [HW]; · iexact HW
  iintro ⟨HP, H1, H6, HW⟩
  isplitl [HP]; · iexact HP
  isplitl [HW]; · iexact HW
  isplitl [H1]; · iexists _; iexact H1
  isplitl [H2]; · iexact H2
  isplitl [H3]; · iexact H3
  isplitl [H4]; · iexact H4
  isplitl [H5]; · iexact H5
  isplitl [H6]; · iexists _; iexact H6
  isplitl [H7]; · iexact H7
  isplitl [H10]; · iexact H10
  isplitl [H11]; · iexact H11
  isplitl [H12]; · iexact H12
  isplitl [H13]; · iexact H13
  isplitl [H14]; · iexact H14
  isplitl [H15]; · iexact H15
  iexact H16

theorem any_mean (hn : 0 < (i 0).val ∧ (i 0).val < 30) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, ⟨%x1, H1⟩, H2, H3, H4, H5, ⟨%x6, H6⟩, H7, H10, H11, H12, H13, H14, H15, H16⟩
  iapply (step_mean T0 c i arg1 harg1 arg2 harg2 arg3 harg3 arg4 harg4 arg5 harg5 arg6 harg6 arg7 harg7 arg10 harg10 arg11 harg11 arg12 harg12 arg13 harg13 arg14 harg14 arg15 harg15 arg16 harg16 V3 V4 x1 x6 hn (fun _ _ => trivial) (fun _ _ => trivial) W _)
  isplitl [HP]; · iexact HP
  isplitl [H1]; · iexact H1
  isplitl [H6]; · iexact H6
  isplitl [HW]; · iexact HW
  iintro ⟨HP, H1, H6, HW⟩
  isplitl [HP]; · iexact HP
  isplitl [HW]; · iexact HW
  isplitl [H1]; · iexists _; iexact H1
  isplitl [H2]; · iexact H2
  isplitl [H3]; · iexact H3
  isplitl [H4]; · iexact H4
  isplitl [H5]; · iexact H5
  isplitl [H6]; · iexists _; iexact H6
  isplitl [H7]; · iexact H7
  isplitl [H10]; · iexact H10
  isplitl [H11]; · iexact H11
  isplitl [H12]; · iexact H12
  isplitl [H13]; · iexact H13
  isplitl [H14]; · iexact H14
  isplitl [H15]; · iexact H15
  iexact H16

theorem any_mean_last (hn : (i 0).val = 30) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, ⟨%x1, H1⟩, H2, H3, H4, H5, ⟨%x6, H6⟩, H7, H10, H11, H12, H13, H14, H15, H16⟩
  iapply (step_mean_last T0 c i arg1 harg1 arg2 harg2 arg3 harg3 arg4 harg4 arg5 harg5 arg6 harg6 arg7 harg7 arg10 harg10 arg11 harg11 arg12 harg12 arg13 harg13 arg14 harg14 arg15 harg15 arg16 harg16 V3 V4 x1 x6 hn (fun _ _ _ _ => trivial) W _)
  isplitl [HP]; · iexact HP
  isplitl [H1]; · iexact H1
  isplitl [H6]; · iexact H6
  isplitl [HW]; · iexact HW
  iintro ⟨HP, H1, H6, HW⟩
  isplitl [HP]; · iexact HP
  isplitl [HW]; · iexact HW
  isplitl [H1]; · iexists _; iexact H1
  isplitl [H2]; · iexact H2
  isplitl [H3]; · iexact H3
  isplitl [H4]; · iexact H4
  isplitl [H5]; · iexact H5
  isplitl [H6]; · iexists _; iexact H6
  isplitl [H7]; · iexact H7
  isplitl [H10]; · iexact H10
  isplitl [H11]; · iexact H11
  isplitl [H12]; · iexact H12
  isplitl [H13]; · iexact H13
  isplitl [H14]; · iexact H14
  isplitl [H15]; · iexact H15
  iexact H16

theorem any_co_first (hn : (i 0).val = 31) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, ⟨%x1, H1⟩, H2, H3, H4, H5, H6, ⟨%x7, H7⟩, H10, H11, H12, H13, H14, H15, H16⟩
  iapply (step_co_first T0 c i arg1 harg1 arg2 harg2 arg3 harg3 arg4 harg4 arg5 harg5 arg6 harg6 arg7 harg7 arg10 harg10 arg11 harg11 arg12 harg12 arg13 harg13 arg14 harg14 arg15 harg15 arg16 harg16 V3 V4 x1 x7 hn W _)
  isplitl [HP]; · iexact HP
  isplitl [H1]; · iexact H1
  isplitl [H7]; · iexact H7
  isplitl [H10]; · iexact H10
  isplitl [H11]; · iexact H11
  isplitl [H16]; · iexact H16
  isplitl [HW]; · iexact HW
  iintro ⟨HP, H1, H7, ⟨%xv, -, H10, H11, H16⟩, HW⟩
  isplitl [HP]; · iexact HP
  isplitl [HW]; · iexact HW
  isplitl [H1]; · iexists _; iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexists _; iexact H10
  isplitl [H11]; · iexists _; iexact H11
  isplitl [H12]; · iexact H12
  isplitl [H13]; · iexact H13
  isplitl [H14]; · iexact H14
  isplitl [H15]; · iexact H15
  iexists _; iexact H16

theorem any_co (hn : 31 < (i 0).val ∧ (i 0).val < 62) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, ⟨%x1, H1⟩, H2, H3, H4, H5, H6, ⟨%x7, H7⟩, H10, H11, H12, H13, H14, H15, ⟨%x16, H16⟩⟩
  iapply (step_co T0 c i arg1 harg1 arg2 harg2 arg3 harg3 arg4 harg4 arg5 harg5 arg6 harg6 arg7 harg7 arg10 harg10 arg11 harg11 arg12 harg12 arg13 harg13 arg14 harg14 arg15 harg15 arg16 harg16 V3 V4 x1 x7 x16 hn W _)
  isplitl [HP]; · iexact HP
  isplitl [H1]; · iexact H1
  isplitl [H7]; · iexact H7
  isplitl [H10]; · iexact H10
  isplitl [H11]; · iexact H11
  isplitl [H16]; · iexact H16
  isplitl [HW]; · iexact HW
  iintro ⟨HP, H1, H7, ⟨%xv, -, H10, H11, H16⟩, HW⟩
  isplitl [HP]; · iexact HP
  isplitl [HW]; · iexact HW
  isplitl [H1]; · iexists _; iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexists _; iexact H10
  isplitl [H11]; · iexists _; iexact H11
  isplitl [H12]; · iexact H12
  isplitl [H13]; · iexact H13
  isplitl [H14]; · iexact H14
  isplitl [H15]; · iexact H15
  iexists _; iexact H16

theorem any_br (hn : 62 ≤ (i 0).val ∧ (i 0).val < 78) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, H1, ⟨%x2, H2⟩, H3, H4, H5, H6, H7, H10, H11, H12, H13, H14, H15, H16⟩
  iapply (step_br T0 c i arg1 harg1 arg2 harg2 arg3 harg3 arg4 harg4 arg5 harg5 arg6 harg6 arg7 harg7 arg10 harg10 arg11 harg11 arg12 harg12 arg13 harg13 arg14 harg14 arg15 harg15 arg16 harg16 V3 V4 x2 hn W _)
  isplitl [HP]; · iexact HP
  isplitl [H2]; · iexact H2
  isplitl [H12]; · iexact H12
  isplitl [H13]; · iexact H13
  isplitl [HW]; · iexact HW
  iintro ⟨HP, H2, ⟨%xv, -, H12, H13⟩, HW⟩
  isplitl [HP]; · iexact HP
  isplitl [HW]; · iexact HW
  isplitl [H1]; · iexact H1
  isplitl [H2]; · iexists _; iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexists _; iexact H12
  isplitl [H13]; · iexists _; iexact H13
  isplitl [H14]; · iexact H14
  isplitl [H15]; · iexact H15
  iexact H16

theorem any_br_last (hn : (i 0).val = 78) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, H1, ⟨%x2, H2⟩, H3, H4, H5, H6, H7, H10, H11, H12, H13, H14, H15, H16⟩
  iapply (step_br_last T0 c i arg1 harg1 arg2 harg2 arg3 harg3 arg4 harg4 arg5 harg5 arg6 harg6 arg7 harg7 arg10 harg10 arg11 harg11 arg12 harg12 arg13 harg13 arg14 harg14 arg15 harg15 arg16 harg16 V3 V4 x2 hn W _)
  isplitl [HP]; · iexact HP
  isplitl [H2]; · iexact H2
  isplitl [H12]; · iexact H12
  isplitl [H13]; · iexact H13
  isplitl [HW]; · iexact HW
  iintro ⟨HP, H2, ⟨%xv, -, H12, H13⟩, HW⟩
  isplitl [HP]; · iexact HP
  isplitl [HW]; · iexact HW
  isplitl [H1]; · iexact H1
  isplitl [H2]; · iexists _; iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexists _; iexact H12
  isplitl [H13]; · iexists _; iexact H13
  isplitl [H14]; · iexact H14
  isplitl [H15]; · iexact H15
  iexact H16

theorem any_org (hn : 79 ≤ (i 0).val) :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  iintro ⟨HP, ⟨%W, HW⟩, H1, H2, ⟨%x3, H3⟩, ⟨%x4, H4⟩, ⟨%x5, H5⟩, H6, H7, H10, H11, H12, H13, H14, H15, H16⟩
  iapply (step_org T0 c i arg1 harg1 arg2 harg2 arg3 harg3 arg4 harg4 arg5 harg5 arg6 harg6 arg7 harg7 arg10 harg10 arg11 harg11 arg12 harg12 arg13 harg13 arg14 harg14 arg15 harg15 arg16 harg16 V3 V4 x3 x4 x5 hn W _)
  isplitl [HP]; · iexact HP
  isplitl [H3]; · iexact H3
  isplitl [H4]; · iexact H4
  isplitl [H5]; · iexact H5
  isplitl [H14]; · iexact H14
  isplitl [H15]; · iexact H15
  isplitl [HW]; · iexact HW
  iintro ⟨HP, H3, H4, H5, ⟨%xv, -, H14, H15⟩, HW⟩
  isplitl [HP]; · iexact HP
  isplitl [HW]; · iexact HW
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexact H7
  isplitl [H10]; · iexact H10
  isplitl [H11]; · iexact H11
  isplitl [H12]; · iexact H12
  isplitl [H13]; · iexact H13
  isplitl [H14]; · iexists _; iexact H14
  isplitl [H15]; · iexists _; iexact H15
  iexact H16

/-- At every point. -/
theorem any_point :
    anyP c arg1 arg2 arg3 arg4 arg5 arg6 arg7 arg10 arg11 arg12 arg13 arg14 arg15 arg16 V3 V4 (i 0).val
      ⊢ wp frame (wpE (defs₀ (F := F)) Variants.none (c : Thread nD τ) none) Set.univ (bodyG i arg1 harg1 arg2 harg2 arg3 harg3 arg4 harg4 arg5 harg5 arg6 harg6 arg7 harg7 arg10 harg10 arg11 harg11 arg12 harg12 arg13 harg13 arg14 harg14 arg15 harg15 arg16 harg16)
          (fun _ => anyP c arg1 arg2 arg3 arg4 arg5 arg6 arg7 arg10 arg11 arg12 arg13 arg14 arg15 arg16 V3 V4 ((i 0).val + 1)) := by
  by_cases hn : (i 0).val = 0
  · exact any_mean_first c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_mean_first
  by_cases hn : 0 < (i 0).val ∧ (i 0).val < 30
  · exact any_mean c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_mean
  by_cases hn : (i 0).val = 30
  · exact any_mean_last c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_mean_last
  by_cases hn : (i 0).val = 31
  · exact any_co_first c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_co_first
  by_cases hn : 31 < (i 0).val ∧ (i 0).val < 62
  · exact any_co c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_co
  by_cases hn : 62 ≤ (i 0).val ∧ (i 0).val < 78
  · exact any_br c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_br
  by_cases hn : (i 0).val = 78
  · exact any_br_last c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_br_last
  by_cases hn : 79 ≤ (i 0).val
  · exact any_org c i arg1 harg1 arg2 harg2 arg3 harg3 arg4 harg4 arg5 harg5 arg6 harg6 arg7 harg7 arg10 harg10 arg11 harg11 arg12 harg12 arg13 harg13 arg14 harg14 arg15 harg15 arg16 harg16 V3 V4 hn
  rename' hn => h_step_org
  omega

end Any

/-! ## The pipeline's proof data -/

variable (m : (ℓ : Loc nD τ sig) → Buf (Elt F) ℓ) (ρ : Dev nD → PrngReg)

def dats0 (_ : Fin 1) (c : Dev nD) : Dat τ (Elt F) Unit ℕ (Pipeline.UD sig nD τ) ℕ cfg0 c where
  A w := V m c (Pipeline.arrRef spec0 w)
  after w t := Classical.arbitrary _
  Φ k := Phi T0 c (V m c main_arg3) (V m c main_arg4) k.val
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem owes_in (c : Dev nD) (t : Fin (cfg0.N + 1)) : (dats0 m 0 c).owesAt () t ⊢ (iprop(∃ W, owes (c : Thread nD τ) 0 W) : sProp 𝕄) := by
  unfold Dat.owesAt Pipeline.owesWithin
  rw [show (dats0 m 0 c).owed t = 0 from rfl]
  iintro ⟨%W, -, HW⟩
  iexists W; iexact HW
theorem owes_out (c : Dev nD) (t : Fin (cfg0.N + 1)) : (iprop(∃ W, owes (c : Thread nD τ) 0 W) : sProp 𝕄) ⊢ (dats0 m 0 c).owesAt () t := by
  unfold Dat.owesAt Pipeline.owesWithin
  rw [show (dats0 m 0 c).owed t = 0 from rfl]
  iintro ⟨%W, HW⟩
  iexists W; isplitr; · ipureintro; exact fun _ _ => Or.inl trivial
  iexact HW

theorem any_body (c : Dev nD) (t : Fin cfg0.N) :
    anyP c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (V m c main_arg3) (V m c main_arg4) t.val
      ⊢ wp frame (wpE (defs₀ (F := F)) Variants.none (c : Thread nD τ) none) Set.univ (bodyAt0 t)
        (fun _ => anyP c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (V m c main_arg3) (V m c main_arg4) (t.val + 1)) := by
  have h := any_point (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    (V m c main_arg3) (V m c main_arg4)
  rw [coords_val t] at h
  exact h

theorem obligation0 (c : Dev nD) : Pipeline.BodyObligationLoose (dats0 (F := F) m 0 c) (defs₀ (F := F)) Variants.none () Set.univ (fun _ => true) := fun t => by
  rw [bigSep_W0]
  refine triple_restated (any_body m c t) (congrArg (wp frame (wpE (defs₀ (F := F)) Variants.none (c : Thread nD τ) none) Set.univ) (defs₀_row t).symm) ?_ fun _ => ?_
  · rw [show (dats0 m 0 c).Φ t.castSucc = Phi T0 c (V m c main_arg3) (V m c main_arg4) t.val from rfl]
    iintro ⟨HP, HW, Hr⟩
    isplitl [HP]; · iexact HP
    isplitl [HW]; · iapply (owes_in m c t.castSucc); iexact HW
    iexact Hr
  · rw [show (dats0 m 0 c).Φ t.succ = Phi T0 c (V m c main_arg3) (V m c main_arg4) (t.val + 1) from rfl]
    iintro ⟨HP, HW, Hr⟩
    isplitl [HP]; · iexact HP
    isplitl [HW]; · iapply (owes_out m c t.succ); iexact HW
    iexact Hr

/-! ## The run and the frame -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers the host writes after the region. -/
def TL : Finset (Ref sig .tc) := {main_v10, main_v11, main_v12, main_cst_1, main_v13, main_v14, main_v15, main_v16}

theorem not_bufs {op : HloOp τ sig (Elt F)} {L : List (Ref sig .tc)} (h : op.bufs = (L.map (Proc.devRef (τ := τ) .tc)).toFinset) {b : Ref sig .tc}
    (hb : b ∉ L) : Proc.devRef .tc b ∉ op.bufs := by
  rw [h, List.mem_toFinset, List.mem_map]
  rintro ⟨x, hx, e⟩
  exact hb (Proc.devRef_injective _ e ▸ hx)

theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  simp only [hostOps1, List.mem_cons, List.mem_nil_iff, or_false] at hop
  have hb' : b = main_arg3 ∨ b = main_arg4 := by simpa [H0] using hb
  rcases hop with rfl | rfl | rfl | rfl | rfl | rfl | rfl | rfl
  · refine not_bufs (L := [main_v10, main_v9_0, main_v9_2, main_v9_4]) (by rfl) ?_
    rcases hb' with rfl | rfl <;> decide
  · refine not_bufs (L := [main_v10, main_v11]) (by rfl) ?_
    rcases hb' with rfl | rfl <;> decide
  · refine not_bufs (L := [main_v9_6, main_v12]) (by rfl) ?_
    rcases hb' with rfl | rfl <;> decide
  · refine not_bufs (L := [main_cst_1]) (by rfl) ?_
    rcases hb' with rfl | rfl <;> decide
  · refine not_bufs (L := [main_v12, main_cst_1, main_v13]) (by rfl) ?_
    rcases hb' with rfl | rfl <;> decide
  · refine not_bufs (L := [main_v9_1, main_v14]) (by rfl) ?_
    rcases hb' with rfl | rfl <;> decide
  · refine not_bufs (L := [main_v9_3, main_v15]) (by rfl) ?_
    rcases hb' with rfl | rfl <;> decide
  · refine not_bufs (L := [main_v9_5, main_v16]) (by rfl) ?_
    rcases hb' with rfl | rfl <;> decide

theorem tail_writes : ∀ ops ∈ ([hostOps1] : List (List (HloOp τ sig (Elt F)))), ∀ op ∈ ops, ∀ b : Ref sig .tc,
    Proc.devRef .tc b ∈ op.writes → b ∈ TL := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl <;>
    simp only [StableHlo.nullary_writes, StableHlo.unary_writes, StableHlo.binary_writes, StableHlo.reshape_writes, StableHlo.nary_writes, Finset.mem_singleton] at hb <;>
    rw [Proc.devRef_injective _ hb] <;> decide

set_option backward.isDefEq.respectTransparency.types false in
theorem run0 : θ_run defs (onTc (τ := τ) (main (F := F))) (s₀ m ρ)
    (fun r => Pipeline.RDat.FramePostR cfg0 (fun c => (dats0 m 0 c).toRForget (fun _ => true)) TL (fun c b => V m c b) r ∧ r.2.sem = fun _ => 0) :=
  Pipeline.θ_run_frame_dma_around_T_forget (Q' := _) cfgs (dats0 m) (0 : Fin 1) launch0 osem0 defs₀ Variants.none (fun _ => true) ownSemFacts0 H0 TL H0_sub m ρ main
    (hbody := fun c => obligation0 m c) (hshare := fun c => (dats0 m 0 c).share_full fun _ => rfl)
    (howed := fun _ _ => rfl) (V₀ := V0 m) (opss := [hostOps1]) (hsub := tail_sub) (hfresh := sfx_fresh) (hkeep := sfx_keeps) (hT := tail_writes)
    (hmain := hmainD m Variants.none) (hA := fun _ _ => rfl)
    (hin := fun c => ends_in T0 (V m) c) (hout := fun c => ends_out T0 (V m) c)

/-- The kernel returns with its six arguments unchanged and every semaphore at zero. -/
theorem frame0 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans (V_main_arg0 m c),
      (h.1.arr_in c 1 rfl).trans (V_main_arg1 m c), (h.1.arr_in c 2 rfl).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run0 m ρ)

end Cert.Proof.KernelIdeal

end
-- ==== Proof.Value.Pay.lean ====
/-
  The kernel's payloads read at an index, over the extended reals.
-/
module

public import proofs.«01_k».proof.Proof.Gen.KernelIdeal.Skeleton
public import Idealize.ShloMosaic.Lib.Pointwise

@[expose] public section

noncomputable section

namespace Cert.Proof.KernelIdeal

open Cert.KernelIdeal Cert.KernelIdeal.Gen
open Idealize.ShloMosaic

/-- The clamp the kernel uses for squared norms. -/
def eps4 : EReal := ((126765058482001 / 316912650057057350374175801344 : ℝ) : EReal)

theorem named_eps4 : Named.named (F := Ideal) (φ := .f32) Cert.KernelIdeal.κ "eps4" (0x25E69595#32) = eps4 :=
  IdealRules.named_const.ideal_named_scalar _ _ _ _ rfl

/-- Whether a row of a block lies in the array, as the kernel's masks decide it. -/
theorem row_valid (n r : ℕ) (hn : n < 31) (hr : r < 2048) :
    IntOp.cmpi .slt (IntOp.addi (Scalar.muli (BitVec.ofNat 32 n) 2048#32) (BitVec.ofNat 32 r)) 63180#32
      = if n * 2048 + r < 63180 then 1#1 else 0#1 := by
  have e : IntOp.addi (Scalar.muli (BitVec.ofNat 32 n) 2048#32) (BitVec.ofNat 32 r) = BitVec.ofNat 32 (n * 2048 + r) := by
    simp [IntOp.addi, Scalar.muli, IntOp.muli, BitVec.ofNat_add, BitVec.ofNat_mul]
  rw [e]
  have e2 : (BitVec.ofNat 32 (n * 2048 + r)).toInt = ((n * 2048 + r : ℕ) : ℤ) := by
    rw [BitVec.toInt_ofNat', Int.bmod_eq_of_le] <;> omega
  have h : (BitVec.ofNat 32 (n * 2048 + r)).slt 63180#32 = decide (n * 2048 + r < 63180) := by
    simp only [BitVec.slt, e2, show (63180#32 : BitVec 32).toInt = 63180 from rfl]
    congr 1
    exact propext (by omega)
  simp only [IntOp.cmpi, h]
  by_cases hv : n * 2048 + r < 63180 <;> simp [hv]

/-- One similarity, as the kernel computes it: from a row of features, its two rows of weights, a vector and the vector's square. -/
def cosK (x w0 w1 v q : Fin 128 → EReal) : EReal :=
  (∑ j, (w0 j + w1 j) * (w0 j + w1 j) * x j * v j)
    * Ideal.rsqrt (max (∑ j, (w0 j + w1 j) * (w0 j + w1 j) * x j * x j) eps4 * max (∑ j, (w0 j + w1 j) * (w0 j + w1 j) * q j) eps4)

theorem pay16_0 (x w0 w1 : FVec Ideal S2048x128 .f32) (v : FVec Ideal S4x128 .f32) (r : Fin 2048) :
    k0_pay16 x w0 w1 v (ix2 r (0 : Fin 2)) = cosK (fun j => x (ix2 r j)) (fun j => w0 (ix2 r j)) (fun j => w1 (ix2 r j))
      (fun j => v (ix2 (0 : Fin 4) j)) (fun j => v (ix2 (2 : Fin 4) j)) := by
  pointwise [k0_pay16]
  simp only [named_eps4, cosK]

theorem pay16_1 (x w0 w1 : FVec Ideal S2048x128 .f32) (v : FVec Ideal S4x128 .f32) (r : Fin 2048) :
    k0_pay16 x w0 w1 v (ix2 r (1 : Fin 2)) = cosK (fun j => x (ix2 r j)) (fun j => w0 (ix2 r j)) (fun j => w1 (ix2 r j))
      (fun j => v (ix2 (1 : Fin 4) j)) (fun j => v (ix2 (3 : Fin 4) j)) := by
  pointwise [k0_pay16]
  simp only [named_eps4, cosK]

theorem pay5_eq (x w0 w1 : FVec Ideal S2048x128 .f32) (v : FVec Ideal S4x128 .f32) : k0_pay5 x w0 w1 v = k0_pay16 x w0 w1 v := rfl

theorem pay21_0 (x w0 w1 : FVec Ideal S2048x128 .f32) (v : FVec Ideal S4x128 .f32) (r : Fin 2048) :
    k0_pay21 (F := Ideal) x w0 w1 v (ix2 r (0 : Fin 2)) = cosK (fun j => x (ix2 r j)) (fun j => w0 (ix2 r j)) (fun j => w1 (ix2 r j))
      (fun j => v (ix2 (0 : Fin 4) j)) (fun j => v (ix2 (2 : Fin 4) j)) := by
  pointwise [k0_pay21]
  simp only [named_eps4, cosK]

theorem pay21_1 (x w0 w1 : FVec Ideal S2048x128 .f32) (v : FVec Ideal S4x128 .f32) (r : Fin 2048) :
    k0_pay21 (F := Ideal) x w0 w1 v (ix2 r (1 : Fin 2)) = cosK (fun j => x (ix2 r j)) (fun j => w0 (ix2 r j)) (fun j => w1 (ix2 r j))
      (fun j => v (ix2 (1 : Fin 4) j)) (fun j => v (ix2 (3 : Fin 4) j)) := by
  pointwise [k0_pay21]
  simp only [named_eps4, cosK]

/-- One block's contribution to a sum over the rows of the array. -/
def blockSum (n : ℕ) (f : Fin 2048 → EReal) : EReal := ∑ r : Fin 2048, if n * 2048 + r.val < 63180 then f r else 0

theorem sitofp_valid (P : Prop) [Decidable P] :
    FloatOps.sitofp (F := Ideal) .f32 (BitVec.setWidth 32 (if P then 1#1 else 0#1)) = if P then (1 : EReal) else 0 := by
  split <;> simp [FloatOps.sitofp]

theorem pay12_0 (n : ℕ) (hn : n < 31) (x : FVec Ideal S2048x128 .f32) (y : FVec Ideal S1x2048 .f32) (s : FVec Ideal S2x128 .f32) (j : Fin 128) :
    k0_pay12 (BitVec.ofNat 32 n) x y s (ix2 (0 : Fin 2) j) = s (ix2 (0 : Fin 2) j) + blockSum n fun r => y (ix2 0 r) * x (ix2 r j) := by
  pointwise [k0_pay12, k0_pay9, k0_pay8]
  unfold blockSum
  congr 1
  refine Finset.sum_congr rfl fun r _ => ?_
  rw [row_valid n r hn r.isLt, sitofp_valid]
  split <;> simp [Scalar.select]

theorem pay12_1 (n : ℕ) (hn : n < 31) (x : FVec Ideal S2048x128 .f32) (y : FVec Ideal S1x2048 .f32) (s : FVec Ideal S2x128 .f32) (j : Fin 128) :
    k0_pay12 (BitVec.ofNat 32 n) x y s (ix2 (1 : Fin 2) j) = s (ix2 (1 : Fin 2) j) + blockSum n fun r => x (ix2 r j) := by
  pointwise [k0_pay12, k0_pay9, k0_pay8]
  unfold blockSum
  congr 1
  refine Finset.sum_congr rfl fun r _ => ?_
  rw [row_valid n r hn r.isLt, sitofp_valid]
  split <;> simp [Scalar.select]

theorem pay13_0 (n : ℕ) (hn : n < 31) (y : FVec Ideal S1x2048 .f32) (s : FVec Ideal S1x1 .f32) :
    k0_pay1 (k0_pay13 (BitVec.ofNat 32 n) y s) (ix2 0 0) = s (ix2 0 0) + blockSum n fun r => y (ix2 0 r) := by
  pointwise [k0_pay1, k0_pay13, k0_pay9, k0_pay8]
  unfold blockSum
  rw [Fin.sum_univ_one]
  congr 1
  refine Finset.sum_congr rfl fun r _ => ?_
  rw [row_valid n r hn r.isLt, sitofp_valid]
  split <;> simp

theorem pay10_0 (i : Fin 2) (j : Fin 128) : (k0_pay10 : FVec Ideal S2x128 .f32) (ix2 i j) = 0 := by
  pointwise [k0_pay10]

theorem pay11_0 : (k0_pay11 : FVec Ideal S1x1 .f32) (ix2 0 0) = 0 := by
  pointwise [k0_pay11]

theorem pay3_0 : (k0_pay3 : FVec Ideal S1x1 .f32) (ix2 0 0) = 0 := by
  pointwise [k0_pay3]

/-- The number of companies. -/
theorem ofBits_rows : Ideal.ofBits .f32 1198967808#32 = 63180 := by
  have h : Ideal.ofBits .f32 1198967808#32 = ((63180 : ℝ) : EReal) := by
    simp [Ideal.ofBits, Ideal.ieee, -EReal.coe_mul]; norm_num
  exact h

section Vecs
variable (c : FVec Ideal S1x1 .f32) (r0 r1 : FVec Ideal S1x128 .f32) (j : Fin 128)

theorem pay2_0 : k0_pay2 (F := Ideal) c r0 r1 r0 (ix2 (0 : Fin 4) j) = Ideal.div (r0 (ix2 0 j)) (max (c (ix2 0 0)) 1) := by
  pointwise [k0_pay2]
theorem pay2_1 : k0_pay2 (F := Ideal) c r0 r1 r0 (ix2 (1 : Fin 4) j) = Ideal.div (r1 (ix2 0 j) - r0 (ix2 0 j)) (max (63180 - c (ix2 0 0)) 1) := by
  pointwise [k0_pay2]
  rw [ofBits_rows]
theorem pay2_2 : k0_pay2 (F := Ideal) c r0 r1 r0 (ix2 (2 : Fin 4) j) = k0_pay2 (F := Ideal) c r0 r1 r0 (ix2 (0 : Fin 4) j) * k0_pay2 (F := Ideal) c r0 r1 r0 (ix2 (0 : Fin 4) j) := by
  pointwise [k0_pay2]
theorem pay2_3 : k0_pay2 (F := Ideal) c r0 r1 r0 (ix2 (3 : Fin 4) j) = k0_pay2 (F := Ideal) c r0 r1 r0 (ix2 (1 : Fin 4) j) * k0_pay2 (F := Ideal) c r0 r1 r0 (ix2 (1 : Fin 4) j) := by
  pointwise [k0_pay2]
end Vecs

/-- One row's loss, from the difference of its similarities and its sign. -/
def lossK (d s : EReal) : EReal := max ((0 - s) * d) 0 + Ideal.log1p (Ideal.exp (0 - (FloatOps.absf (F := Ideal) (φ := .f32) d)))

theorem pay4_0 (i : grid0.Coords) (n : ℕ) (hi : (i 0).val = n + 31) (hn : n < 31) (d s : FVec Ideal S2048x1 .f32) (l : FVec Ideal S1x1 .f32) :
    k0_pay4 i d s l (ix2 0 0) = l (ix2 0 0) + blockSum n fun r => lossK (d (ix2 r 0)) (s (ix2 r 0)) := by
  pointwise [k0_pay4]
  unfold blockSum lossK
  congr 1
  refine Finset.sum_congr rfl fun r _ => ?_
  rw [Fin.sum_univ_one, hi, show Scalar.subi (BitVec.ofNat 32 (n + 31)) 31#32 = BitVec.ofNat 32 n by
    simp [Scalar.subi, IntOp.subi, BitVec.ofNat_add, BitVec.add_sub_cancel], row_valid n r hn r.isLt]
  split <;> simp [Scalar.select]

theorem pay17_0 (x w0 w1 : FVec Ideal S2048x128 .f32) (v : FVec Ideal S4x128 .f32) (r : Fin 2048) :
    k0_pay17 x w0 w1 v (ix2 r (0 : Fin 1)) = k0_pay16 x w0 w1 v (ix2 r (0 : Fin 2)) - k0_pay16 x w0 w1 v (ix2 r (1 : Fin 2)) := by
  pointwise [k0_pay17]

theorem pay18_0 (x w0 w1 : FVec Ideal S2048x128 .f32) (v : FVec Ideal S4x128 .f32) (r : Fin 2048) :
    k0_pay18 x w0 w1 v (ix2 r (0 : Fin 1)) = BitVec.setWidth 32 (BitVec.ofBool (decide (k0_pay16 x w0 w1 v (ix2 r (0 : Fin 2)) - k0_pay16 x w0 w1 v (ix2 r (1 : Fin 2)) < 0))) := by
  pointwise [k0_pay18, k0_pay17]

theorem pay6_0 (x w0 w1 : FVec Ideal S2048x128 .f32) (v : FVec Ideal S4x128 .f32) (r : Fin 2048) :
    k0_pay6 x w0 w1 v (ix2 r (0 : Fin 1)) = BitVec.setWidth 32 (BitVec.ofBool (decide (k0_pay16 x w0 w1 v (ix2 r (0 : Fin 2)) < k0_pay16 x w0 w1 v (ix2 r (1 : Fin 2))))) := by
  pointwise [k0_pay6, pay5_eq]

theorem pay7_0 (s : FVec Ideal S2048x2 .f32) (r : Fin 2048) :
    k0_pay7 s (ix2 r (0 : Fin 1)) = BitVec.setWidth 32 (BitVec.ofBool (decide (s (ix2 r (0 : Fin 2)) < s (ix2 r (1 : Fin 2))))) := by
  pointwise [k0_pay7]

end Cert.Proof.KernelIdeal

end
-- ==== Proof.Value.Data.lean ====
/-
  What the kernel's windows hold, in closed form over the extended reals: every block it reads is some rows of an array,
  every block it leaves is some rows of a result, and the loss is a running sum.
-/
module

public import proofs.«01_k».proof.Proof.Ideal.Frame0
public import proofs.«01_k».proof.Proof.Value.Pay
public import Idealize.ShloMosaic.Lib.Pipeline.ValueKit

@[expose] public section

set_option maxRecDepth 16384

noncomputable section

namespace Cert.Proof.KernelIdeal

open Cert.KernelIdeal Cert.KernelIdeal.Gen
open Idealize.ShloMosaic
open Idealize.ShloMosaic.TcCoe
open Idealize.SL Idealize.SL.RA
open Idealize.ShloMosaic.Pipeline (Dat Cfg Window)

/-! ## Where each window stands -/

/-- The row block of the company features. -/
def iA (n : ℕ) : ℕ := if n < 31 then n else min (n - 31) 30
/-- The row block of the company results. -/
def iB (n : ℕ) : ℕ := min (n - 31) 30
/-- The row block of the brands. -/
def iC (n : ℕ) : ℕ := min (n - 62) 16
/-- The row block of the organizers. -/
def iD (n : ℕ) : ℕ := min (n - 79) 2

theorem ixw0 : ∀ t : Fin grid0.N, win0_0.index t = ![iA t.val, 0] := by decide +kernel
theorem ixw1 : ∀ t : Fin grid0.N, win0_1.index t = ![iC t.val, 0] := by decide +kernel
theorem ixw2 : ∀ t : Fin grid0.N, win0_2.index t = ![iD t.val, 0] := by decide +kernel
theorem ixw3 : ∀ t : Fin grid0.N, win0_3.index t = ![iD t.val, 0] := by decide +kernel
theorem ixw4 : ∀ t : Fin grid0.N, win0_4.index t = ![iD t.val, 0] := by decide +kernel
theorem ixw5 : ∀ t : Fin grid0.N, win0_5.index t = ![0, min t.val 30] := by decide +kernel
theorem ixw6 : ∀ t : Fin grid0.N, win0_6.index t = ![iB t.val, 0] := by decide +kernel
theorem ixw7 : ∀ t : Fin grid0.N, win0_7.index t = ![iB t.val, 0] := by decide +kernel
theorem ixw8 : ∀ t : Fin grid0.N, win0_8.index t = ![iB t.val, 0] := by decide +kernel
theorem ixw9 : ∀ t : Fin grid0.N, win0_9.index t = ![iC t.val, 0] := by decide +kernel
theorem ixw10 : ∀ t : Fin grid0.N, win0_10.index t = ![iC t.val, 0] := by decide +kernel
theorem ixw11 : ∀ t : Fin grid0.N, win0_11.index t = ![iD t.val, 0] := by decide +kernel
theorem ixw12 : ∀ t : Fin grid0.N, win0_12.index t = ![iD t.val, 0] := by decide +kernel

theorem xs0 : ∀ t : Fin grid0.N, win0_0.xsize (grid0.coords t) = ![min 2048 (63180 - 2048 * iA t.val), 128] := by decide +kernel
theorem xs1 : ∀ t : Fin grid0.N, win0_1.xsize (grid0.coords t) = ![min 2048 (34588 - 2048 * iC t.val), 128] := by decide +kernel
theorem xs2 : ∀ t : Fin grid0.N, win0_2.xsize (grid0.coords t) = ![min 2048 (4148 - 2048 * iD t.val), 128] := by decide +kernel
theorem xs3 : ∀ t : Fin grid0.N, win0_3.xsize (grid0.coords t) = ![min 2048 (4148 - 2048 * iD t.val), 128] := by decide +kernel
theorem xs4 : ∀ t : Fin grid0.N, win0_4.xsize (grid0.coords t) = ![min 2048 (4148 - 2048 * iD t.val), 128] := by decide +kernel
theorem xs5 : ∀ t : Fin grid0.N, win0_5.xsize (grid0.coords t) = ![1, min 2048 (63180 - 2048 * min t.val 30)] := by decide +kernel
theorem xs6 : ∀ t : Fin grid0.N, win0_6.xsize (grid0.coords t) = ![min 2048 (63180 - 2048 * iB t.val), 1] := by decide +kernel
theorem xs7 : ∀ t : Fin grid0.N, win0_7.xsize (grid0.coords t) = ![min 2048 (63180 - 2048 * iB t.val), 2] := by decide +kernel
theorem xs8 : ∀ t : Fin grid0.N, win0_8.xsize (grid0.coords t) = ![min 2048 (63180 - 2048 * iB t.val), 1] := by decide +kernel
theorem xs9 : ∀ t : Fin grid0.N, win0_9.xsize (grid0.coords t) = ![min 2048 (34588 - 2048 * iC t.val), 2] := by decide +kernel
theorem xs10 : ∀ t : Fin grid0.N, win0_10.xsize (grid0.coords t) = ![min 2048 (34588 - 2048 * iC t.val), 1] := by decide +kernel
theorem xs11 : ∀ t : Fin grid0.N, win0_11.xsize (grid0.coords t) = ![min 2048 (4148 - 2048 * iD t.val), 2] := by decide +kernel
theorem xs12 : ∀ t : Fin grid0.N, win0_12.xsize (grid0.coords t) = ![min 2048 (4148 - 2048 * iD t.val), 1] := by decide +kernel

/-! ## Rows and their results -/

/-- An array's row, zero past its end. -/
def rowA {N K : ℕ} (A : (⟨2, ![N, K]⟩ : Shape).Idx → EReal) (r : ℕ) (j : Fin K) : EReal := if h : r < N then A (ix2 ⟨r, h⟩ j) else 0
/-- An entry of a one-row array, zero past its end. -/
def colA {N : ℕ} (A : (⟨2, ![1, N]⟩ : Shape).Idx → EReal) (r : ℕ) : EReal := if h : r < N then A (ix2 0 ⟨r, h⟩) else 0

/-- A sum over the rows of the first `n` blocks. -/
def psum (n : ℕ) (f : ℕ → EReal) : EReal := ∑ b ∈ Finset.range n, blockSum b fun r => f (b * 2048 + r.val)

theorem psum_succ (n : ℕ) (f : ℕ → EReal) : psum (n + 1) f = psum n f + blockSum n fun r => f (n * 2048 + r.val) := Finset.sum_range_succ _ _
theorem psum_zero (f : ℕ → EReal) : psum 0 f = 0 := rfl

theorem blockSum_congr {n : ℕ} {f g : Fin 2048 → EReal} (h : ∀ r : Fin 2048, n * 2048 + r.val < 63180 → f r = g r) : blockSum n f = blockSum n g := by
  refine Finset.sum_congr rfl fun r _ => ?_
  by_cases hr : n * 2048 + r.val < 63180
  · rw [if_pos hr, if_pos hr, h r hr]
  · rw [if_neg hr, if_neg hr]

variable (m : (ℓ : Loc nD τ sig) → Buf (Elt Ideal) ℓ) (c : Dev nD)

/-- The label of a company, as a number. -/
def yv (r : ℕ) : EReal := colA (N := 63180) (V m c main_v8) r
/-- The sign of a company's loss. -/
def sv (r : ℕ) : EReal := rowA (N := 63180) (K := 1) (V m c main_v5) r 0
def xcv (r : ℕ) (j : Fin 128) : EReal := rowA (N := 63180) (K := 128) (V m c main_arg0) r j
def xbv (r : ℕ) (j : Fin 128) : EReal := rowA (N := 34588) (K := 128) (V m c main_arg1) r j
def xov (r : ℕ) (j : Fin 128) : EReal := rowA (N := 4148) (K := 128) (V m c main_arg2) r j
def w0v (r : ℕ) (j : Fin 128) : EReal := rowA (N := 101916) (K := 128) (V m c main_arg3) r j
def w1v (r : ℕ) (j : Fin 128) : EReal := rowA (N := 101916) (K := 128) (V m c main_arg4) r j
def o0v (r : ℕ) (j : Fin 128) : EReal := rowA (N := 4148) (K := 128) (V m c main_v6) r j
def o1v (r : ℕ) (j : Fin 128) : EReal := rowA (N := 4148) (K := 128) (V m c main_v7) r j

/-- The sum of the rows of the companies labelled one, the sum of all rows, and the number labelled one. -/
def tsum (n : ℕ) (j : Fin 128) : EReal := psum n fun r => yv m c r * xcv m c r j
def asum (n : ℕ) (j : Fin 128) : EReal := psum n fun r => xcv m c r j
def tcnt (n : ℕ) : EReal := psum n fun r => yv m c r

/-- The mean of the companies labelled one, and that of the others. -/
def tvec (j : Fin 128) : EReal := Ideal.div (tsum m c 31 j) (max (tcnt m c 31) 1)
def fvec (j : Fin 128) : EReal := Ideal.div (asum m c 31 j - tsum m c 31 j) (max (63180 - tcnt m c 31) 1)

/-- The similarity of a row to the first mean (`0`) and to the second (`1`). -/
def semK (x w0 w1 : Fin 128 → EReal) (k : Fin 2) : EReal :=
  if k = 0 then cosK x w0 w1 (tvec m c) (fun j => tvec m c j * tvec m c j) else cosK x w0 w1 (fvec m c) (fun j => fvec m c j * fvec m c j)

def semC (r : ℕ) (k : Fin 2) : EReal := semK m c (xcv m c r) (w0v m c r) (w1v m c r) k
def semB (r : ℕ) (k : Fin 2) : EReal := semK m c (xbv m c r) (w0v m c (63180 + r)) (w1v m c (63180 + r)) k
def semO (r : ℕ) (k : Fin 2) : EReal := semK m c (xov m c r) (o0v m c r) (o1v m c r) k

def predC (r : ℕ) : BitVec 32 := BitVec.setWidth 32 (BitVec.ofBool (decide (semC m c r 0 - semC m c r 1 < 0)))
def predB (r : ℕ) : BitVec 32 := BitVec.setWidth 32 (BitVec.ofBool (decide (semB m c r 0 < semB m c r 1)))
def predO (r : ℕ) : BitVec 32 := BitVec.setWidth 32 (BitVec.ofBool (decide (semO m c r 0 < semO m c r 1)))

/-- One company's loss, and the loss of the first `n` blocks. -/
def lossR (r : ℕ) : EReal := lossK (semC m c r 0 - semC m c r 1) (sv m c r)
def lossP (n : ℕ) : EReal := psum n (lossR m c)

/-! ## The carried values and the windows -/

/-- What the carried buffers hold: the two sums, the count, and the two means with their squares. -/
def TI : Trk Ideal where
  su n v := (∀ j, v (ix2 (0 : Fin 2) j) = tsum m c n j) ∧ ∀ j, v (ix2 (1 : Fin 2) j) = asum m c n j
  cn n v := v (ix2 (0 : Fin 1) (0 : Fin 1)) = tcnt m c n
  ve v := (∀ j, v (ix2 (0 : Fin 4) j) = tvec m c j) ∧ (∀ j, v (ix2 (1 : Fin 4) j) = fvec m c j)
    ∧ (∀ j, v (ix2 (2 : Fin 4) j) = tvec m c j * tvec m c j) ∧ ∀ j, v (ix2 (3 : Fin 4) j) = fvec m c j * fvec m c j

/-- The block an input window holds, anything past the array's end. -/
def inBlk (w : Fin cfg0.W) (t : Fin cfg0.N) : (cfg0.win w).block.Idx → Elt Ideal (cfg0.win w).elt :=
  (cfg0.win w).fill (cfg0.grid.coords t) (Classical.arbitrary _) (iblk m c w t)

def semOut {s : ℕ} (g : ℕ → Fin 2 → EReal) (b : ℕ) : (⟨2, ![s, 2]⟩ : Shape).Idx → EReal := fun j => g (b * 2048 + (j 0).val) (j 1)
def predOut {s : ℕ} (g : ℕ → BitVec 32) (b : ℕ) : (⟨2, ![s, 1]⟩ : Shape).Idx → BitVec 32 := fun j => g (b * 2048 + (j 0).val)

/-- The pipeline's data with every window's contents. -/
def datsI (_ : Fin 1) (c : Dev nD) : Dat τ (Elt Ideal) Unit ℕ (Pipeline.UD sig nD τ) ℕ cfg0 c where
  A w := V m c (Pipeline.arrRef spec0 w)
  after w t := match w with
    | 0 => inBlk m c 0 t
    | 1 => inBlk m c 1 t
    | 2 => inBlk m c 2 t
    | 3 => inBlk m c 3 t
    | 4 => inBlk m c 4 t
    | 5 => inBlk m c 5 t
    | 6 => inBlk m c 6 t
    | 7 => semOut (s := 2048) (semC m c) (iB t.val)
    | 8 => predOut (s := 2048) (predC m c) (iB t.val)
    | 9 => semOut (s := 2048) (semB m c) (iC t.val)
    | 10 => predOut (s := 2048) (predB m c) (iC t.val)
    | 11 => semOut (s := 2048) (semO m c) (iD t.val)
    | 12 => predOut (s := 2048) (predO m c) (iD t.val)
    | 13 => (fun _ => lossP m c (min (t.val - 30) 31) : (⟨2, ![1, 1]⟩ : Shape).Idx → EReal)
  Φ k := Phi (TI m c) c (V m c main_arg3) (V m c main_arg4) k.val
  q _ := fullShare
  owed _ := 0

/-! ## What the input windows hold -/

theorem before_in0 (t : Fin cfg0.N) (d) : (datsI m 0 c).before 0 t d = (datsI m 0 c).fetched 0 t d :=
  (datsI m 0 c).before_in_eq_fetched 0 rfl (fun _ => rfl)
    (fun t t' h => funext fun a => congrArg (fun b : Fin 2 → ℕ => Pipeline.Clip.of (b a) (win0_0.size a) (win0_0.shape.size a)) h)
    (fun t => by
      rw [show (datsI m 0 c).after 0 t = inBlk m c 0 t by simp only [datsI]]
      exact Window.cut_fill _ _ _ _) t d

theorem before_in1 (t : Fin cfg0.N) (d) : (datsI m 0 c).before 1 t d = (datsI m 0 c).fetched 1 t d :=
  (datsI m 0 c).before_in_eq_fetched 1 rfl (fun _ => rfl)
    (fun t t' h => funext fun a => congrArg (fun b : Fin 2 → ℕ => Pipeline.Clip.of (b a) (win0_1.size a) (win0_1.shape.size a)) h)
    (fun t => by
      rw [show (datsI m 0 c).after 1 t = inBlk m c 1 t from rfl]
      exact Window.cut_fill _ _ _ _) t d

theorem before_in2 (t : Fin cfg0.N) (d) : (datsI m 0 c).before 2 t d = (datsI m 0 c).fetched 2 t d :=
  (datsI m 0 c).before_in_eq_fetched 2 rfl (fun _ => rfl)
    (fun t t' h => funext fun a => congrArg (fun b : Fin 2 → ℕ => Pipeline.Clip.of (b a) (win0_2.size a) (win0_2.shape.size a)) h)
    (fun t => by
      rw [show (datsI m 0 c).after 2 t = inBlk m c 2 t from rfl]
      exact Window.cut_fill _ _ _ _) t d

theorem before_in3 (t : Fin cfg0.N) (d) : (datsI m 0 c).before 3 t d = (datsI m 0 c).fetched 3 t d :=
  (datsI m 0 c).before_in_eq_fetched 3 rfl (fun _ => rfl)
    (fun t t' h => funext fun a => congrArg (fun b : Fin 2 → ℕ => Pipeline.Clip.of (b a) (win0_3.size a) (win0_3.shape.size a)) h)
    (fun t => by
      rw [show (datsI m 0 c).after 3 t = inBlk m c 3 t from rfl]
      exact Window.cut_fill _ _ _ _) t d

theorem before_in4 (t : Fin cfg0.N) (d) : (datsI m 0 c).before 4 t d = (datsI m 0 c).fetched 4 t d :=
  (datsI m 0 c).before_in_eq_fetched 4 rfl (fun _ => rfl)
    (fun t t' h => funext fun a => congrArg (fun b : Fin 2 → ℕ => Pipeline.Clip.of (b a) (win0_4.size a) (win0_4.shape.size a)) h)
    (fun t => by
      rw [show (datsI m 0 c).after 4 t = inBlk m c 4 t from rfl]
      exact Window.cut_fill _ _ _ _) t d

theorem before_in5 (t : Fin cfg0.N) (d) : (datsI m 0 c).before 5 t d = (datsI m 0 c).fetched 5 t d :=
  (datsI m 0 c).before_in_eq_fetched 5 rfl (fun _ => rfl)
    (fun t t' h => funext fun a => congrArg (fun b : Fin 2 → ℕ => Pipeline.Clip.of (b a) (win0_5.size a) (win0_5.shape.size a)) h)
    (fun t => by
      rw [show (datsI m 0 c).after 5 t = inBlk m c 5 t from rfl]
      exact Window.cut_fill _ _ _ _) t d

theorem before_in6 (t : Fin cfg0.N) (d) : (datsI m 0 c).before 6 t d = (datsI m 0 c).fetched 6 t d :=
  (datsI m 0 c).before_in_eq_fetched 6 rfl (fun _ => rfl)
    (fun t t' h => funext fun a => congrArg (fun b : Fin 2 → ℕ => Pipeline.Clip.of (b a) (win0_6.size a) (win0_6.shape.size a)) h)
    (fun t => by
      rw [show (datsI m 0 c).after 6 t = inBlk m c 6 t from rfl]
      exact Window.cut_fill _ _ _ _) t d

section Fetch
variable (t : Fin cfg0.N) (r : Fin 2048) (j : Fin 128)
theorem fetch0 (d) (h : iA t.val * 2048 + r.val < 63180) : (datsI m 0 c).fetched 0 t d (ix2 r j) = xcv m c (iA t.val * 2048 + r.val) j := by
  unfold Dat.fetched Window.fill
  have hm : win0_0.moved (grid0.coords t) (ix2 r j) = true := by
    rw [Window.moved_iff, xs0]
    intro a; fin_cases a
    · show r.val < min 2048 (63180 - 2048 * iA t.val); omega
    · exact j.isLt
  rw [dif_pos hm, Dat.blockOf_apply]
  unfold xcv rowA
  rw [dif_pos h]
  show V m c main_arg0 _ = _
  refine congrArg (V m c main_arg0) ?_
  blk_ext [ixw0]

theorem fetch1 (d) (h : iC t.val * 2048 + r.val < 34588) : (datsI m 0 c).fetched 1 t d (ix2 r j) = xbv m c (iC t.val * 2048 + r.val) j := by
  unfold Dat.fetched Window.fill
  have hm : win0_1.moved (grid0.coords t) (ix2 r j) = true := by
    rw [Window.moved_iff, xs1]
    intro a; fin_cases a
    · show r.val < min 2048 (34588 - 2048 * iC t.val); omega
    · exact j.isLt
  rw [dif_pos hm, Dat.blockOf_apply]
  unfold xbv rowA
  rw [dif_pos h]
  show V m c main_arg1 _ = _
  refine congrArg (V m c main_arg1) ?_
  blk_ext [ixw1]

theorem fetch2 (d) (h : iD t.val * 2048 + r.val < 4148) : (datsI m 0 c).fetched 2 t d (ix2 r j) = xov m c (iD t.val * 2048 + r.val) j := by
  unfold Dat.fetched Window.fill
  have hm : win0_2.moved (grid0.coords t) (ix2 r j) = true := by
    rw [Window.moved_iff, xs2]
    intro a; fin_cases a
    · show r.val < min 2048 (4148 - 2048 * iD t.val); omega
    · exact j.isLt
  rw [dif_pos hm, Dat.blockOf_apply]
  unfold xov rowA
  rw [dif_pos h]
  show V m c main_arg2 _ = _
  refine congrArg (V m c main_arg2) ?_
  blk_ext [ixw2]

theorem fetch3 (d) (h : iD t.val * 2048 + r.val < 4148) : (datsI m 0 c).fetched 3 t d (ix2 r j) = o0v m c (iD t.val * 2048 + r.val) j := by
  unfold Dat.fetched Window.fill
  have hm : win0_3.moved (grid0.coords t) (ix2 r j) = true := by
    rw [Window.moved_iff, xs3]
    intro a; fin_cases a
    · show r.val < min 2048 (4148 - 2048 * iD t.val); omega
    · exact j.isLt
  rw [dif_pos hm, Dat.blockOf_apply]
  unfold o0v rowA
  rw [dif_pos h]
  show V m c main_v6 _ = _
  refine congrArg (V m c main_v6) ?_
  blk_ext [ixw3]

theorem fetch4 (d) (h : iD t.val * 2048 + r.val < 4148) : (datsI m 0 c).fetched 4 t d (ix2 r j) = o1v m c (iD t.val * 2048 + r.val) j := by
  unfold Dat.fetched Window.fill
  have hm : win0_4.moved (grid0.coords t) (ix2 r j) = true := by
    rw [Window.moved_iff, xs4]
    intro a; fin_cases a
    · show r.val < min 2048 (4148 - 2048 * iD t.val); omega
    · exact j.isLt
  rw [dif_pos hm, Dat.blockOf_apply]
  unfold o1v rowA
  rw [dif_pos h]
  show V m c main_v7 _ = _
  refine congrArg (V m c main_v7) ?_
  blk_ext [ixw4]

theorem fetch5 (d) (h : min t.val 30 * 2048 + r.val < 63180) : (datsI m 0 c).fetched 5 t d (ix2 (0 : Fin 1) r) = yv m c (min t.val 30 * 2048 + r.val) := by
  unfold Dat.fetched Window.fill
  have hm : win0_5.moved (grid0.coords t) (ix2 (0 : Fin 1) r) = true := by
    rw [Window.moved_iff, xs5]
    intro a; fin_cases a
    · exact Nat.one_pos
    · show r.val < min 2048 (63180 - 2048 * min t.val 30); omega
  rw [dif_pos hm, Dat.blockOf_apply]
  unfold yv colA
  rw [dif_pos h]
  show V m c main_v8 _ = _
  refine congrArg (V m c main_v8) ?_
  blk_ext [ixw5]

theorem fetch6 (d) (h : iB t.val * 2048 + r.val < 63180) : (datsI m 0 c).fetched 6 t d (ix2 r (0 : Fin 1)) = sv m c (iB t.val * 2048 + r.val) := by
  unfold Dat.fetched Window.fill
  have hm : win0_6.moved (grid0.coords t) (ix2 r (0 : Fin 1)) = true := by
    rw [Window.moved_iff, xs6]
    intro a; fin_cases a
    · show r.val < min 2048 (63180 - 2048 * iB t.val); omega
    · exact Nat.one_pos
  rw [dif_pos hm, Dat.blockOf_apply]
  unfold sv rowA
  rw [dif_pos h]
  show V m c main_v5 _ = _
  refine congrArg (V m c main_v5) ?_
  blk_ext [ixw6]

end Fetch

end Cert.Proof.KernelIdeal

end
-- ==== Proof.Value.Real.lean ====
/-
  The identities behind the equality, over the real numbers: the kernel's similarity and loss are the reference's, and a
  sum over the padded blocks is a sum over the companies.
-/
module

public import proofs.«01_k».proof.Proof.Value.Data

@[expose] public section

set_option maxRecDepth 16384

noncomputable section

namespace Cert.Proof.KernelIdeal

open Idealize.ShloMosaic

/-! ## Coercions -/

theorem csum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem cmax (a b : ℝ) : max (a : EReal) (b : EReal) = ((max a b : ℝ) : EReal) := (EReal.coe_strictMono.monotone.map_max).symm

theorem cdiv (a b : ℝ) (h : b ≠ 0) : Ideal.div (a : EReal) (b : EReal) = ((a / b : ℝ) : EReal) := by
  rw [Ideal.div_coe h, ← EReal.coe_mul, mul_one_div]

theorem c63180 : (63180 : EReal) = ((63180 : ℝ) : EReal) := rfl

/-! ## Sums over blocks -/

theorem psum_range (f : ℕ → EReal) (n : ℕ) : psum n f = ∑ i ∈ Finset.range (n * 2048), if i < 63180 then f i else 0 := by
  induction n with
  | zero => simp [psum]
  | succ n ih =>
    rw [psum_succ, ih, Nat.succ_mul, Finset.sum_range_add]
    exact congrArg₂ (· + ·) rfl (Fin.sum_univ_eq_sum_range (fun i => if n * 2048 + i < 63180 then f (n * 2048 + i) else 0) 2048)

/-- The sum over all blocks is the sum over the companies. -/
theorem psum_all (f : ℕ → EReal) : psum 31 f = ∑ r : Fin 63180, f r.val := by
  rw [psum_range, show 31 * 2048 = 63180 + 308 from rfl, Finset.sum_range_add, Fin.sum_univ_eq_sum_range]
  rw [Finset.sum_eq_zero (s := Finset.range 308) fun i _ => if_neg (by omega), add_zero]
  exact Finset.sum_congr rfl fun i hi => if_pos (Finset.mem_range.1 hi)

/-! ## The similarity -/

/-- The clamp of the norms. -/
def epsR : ℝ := 11258999 / 1125899906842624

theorem eps_eq : Ideal.ofBits .f32 0x322BCC77#32 = (epsR : EReal) := by
  simp [Ideal.ofBits, Ideal.ieee, epsR, -EReal.coe_mul]; norm_num

theorem half_eq : Ideal.ofBits .f32 0x3F000000#32 = (((1 / 2 : ℝ)) : EReal) := by
  simp [Ideal.ofBits, Ideal.ieee, -EReal.coe_mul]; norm_num

theorem eps4_eq : eps4 = ((4 * (epsR * epsR) : ℝ) : EReal) := by
  unfold eps4 epsR
  norm_num

theorem epsR_pos : 0 < epsR := by unfold epsR; norm_num

/-- Half of the clamped norm. -/
theorem half_norm (A e : ℝ) (hA : 0 ≤ A) (he : 0 < e) : max (Real.sqrt (A / 4)) e = Real.sqrt (max A (4 * (e * e))) / 2 := by
  have h2 : Real.sqrt (max A (4 * (e * e))) = max (Real.sqrt A) (2 * e) := by
    rw [(show Monotone Real.sqrt from fun _ _ h => Real.sqrt_le_sqrt h).map_max, show 4 * (e * e) = (2 * e) * (2 * e) by ring, Real.sqrt_mul_self (by positivity)]
  rw [h2, show A / 4 = A / (2 * 2) by norm_num, Real.sqrt_div hA, Real.sqrt_mul_self (by norm_num)]
  rcases le_total (Real.sqrt A) (2 * e) with h | h
  · rw [max_eq_right h, max_eq_right (by linarith)]; ring
  · rw [max_eq_left h, max_eq_left (by linarith)]

theorem cos_real (D A B e : ℝ) (hA : 0 ≤ A) (hB : 0 ≤ B) (he : 0 < e) :
    D * (Real.sqrt (max A (4 * (e * e)) * max B (4 * (e * e))))⁻¹ = D / 4 / (max (Real.sqrt (A / 4)) e * max (Real.sqrt (B / 4)) e) := by
  have pA : 0 < max A (4 * (e * e)) := lt_max_of_lt_right (by positivity)
  have pB : 0 < max B (4 * (e * e)) := lt_max_of_lt_right (by positivity)
  have sA := Real.sqrt_pos.2 pA
  have sB := Real.sqrt_pos.2 pB
  rw [half_norm A e hA he, half_norm B e hB he, Real.sqrt_mul pA.le]
  field_simp
  norm_num

/-- The weighted inner product. -/
def quad (w0 w1 x v : Fin 128 → ℝ) : ℝ := ∑ j, (w0 j + w1 j) * (w0 j + w1 j) * x j * v j

theorem quad_nonneg (w0 w1 x : Fin 128 → ℝ) : 0 ≤ quad w0 w1 x x :=
  Finset.sum_nonneg fun j _ => by
    rw [show (w0 j + w1 j) * (w0 j + w1 j) * x j * x j = ((w0 j + w1 j) * x j) * ((w0 j + w1 j) * x j) by ring]
    exact mul_self_nonneg _

/-- The similarity of two rows with real weights, as a real. -/
def simW (w0 w1 x v : Fin 128 → ℝ) : ℝ :=
  quad w0 w1 x v / 4 / (max (Real.sqrt (quad w0 w1 x x / 4)) epsR * max (Real.sqrt (quad w0 w1 v v / 4)) epsR)

theorem cosK_coe (w0 w1 x v : Fin 128 → ℝ) :
    cosK (fun j => (x j : EReal)) (fun j => (w0 j : EReal)) (fun j => (w1 j : EReal)) (fun j => (v j : EReal)) (fun j => (v j : EReal) * (v j : EReal))
      = (simW w0 w1 x v : EReal) := by
  have hs : ∀ a b : Fin 128 → ℝ, ∑ j, ((w0 j : EReal) + w1 j) * (w0 j + w1 j) * a j * b j = (quad w0 w1 a b : EReal) := fun a b => by
    unfold quad
    rw [← csum]
    exact Finset.sum_congr rfl fun j _ => by simp only [EReal.coe_mul, EReal.coe_add]
  have hq : ∑ j, ((w0 j : EReal) + w1 j) * (w0 j + w1 j) * ((v j : EReal) * v j) = (quad w0 w1 v v : EReal) := by
    rw [← hs]
    exact Finset.sum_congr rfl fun j _ => (mul_assoc _ _ _).symm
  unfold cosK
  rw [hs, hs, hq, eps4_eq, cmax, cmax, ← EReal.coe_mul]
  have p : 0 < max (quad w0 w1 x x) (4 * (epsR * epsR)) * max (quad w0 w1 v v) (4 * (epsR * epsR)) := by
    have := epsR_pos
    exact mul_pos (lt_max_of_lt_right (by positivity)) (lt_max_of_lt_right (by positivity))
  rw [Ideal.rsqrt_coe, if_neg (not_lt.2 p.le), if_neg p.ne', ← EReal.coe_mul]
  exact congrArg _ (cos_real _ _ _ _ (quad_nonneg _ _ _) (quad_nonneg _ _ _) epsR_pos)

/-- The reference's weighted row. -/
def hadE (w0 w1 x : Fin 128 → EReal) (j : Fin 128) : EReal := Ideal.ofBits .f32 0x3F000000#32 * (w0 j * x j + w1 j * x j)
/-- The reference's clamped norm. -/
def normE (h : Fin 128 → EReal) : EReal := max (Ideal.sqrt (∑ j, h j * h j)) (Ideal.ofBits .f32 0x322BCC77#32)
/-- The reference's similarity. -/
def cosE (h g : Fin 128 → EReal) : EReal := Ideal.div (∑ j, h j * g j) (normE h * normE g)

theorem had_sum (w0 w1 x v : Fin 128 → ℝ) :
    ∑ j, hadE (fun j => w0 j) (fun j => w1 j) (fun j => x j) j * hadE (fun j => w0 j) (fun j => w1 j) (fun j => v j) j = ((quad w0 w1 x v / 4 : ℝ) : EReal) := by
  unfold quad
  rw [Finset.sum_div, ← csum]
  refine Finset.sum_congr rfl fun j _ => ?_
  unfold hadE
  rw [half_eq]
  simp only [← EReal.coe_mul, ← EReal.coe_add]
  exact congrArg _ (by ring)

theorem norm_coe (w0 w1 x : Fin 128 → ℝ) :
    normE (hadE (fun j => w0 j) (fun j => w1 j) (fun j => x j)) = ((max (Real.sqrt (quad w0 w1 x x / 4)) epsR : ℝ) : EReal) := by
  unfold normE
  rw [had_sum, eps_eq, Ideal.sqrt_coe, if_neg (not_lt.2 (div_nonneg (quad_nonneg _ _ _) (by norm_num))), cmax]

theorem cosE_coe (w0 w1 x v : Fin 128 → ℝ) :
    cosE (hadE (fun j => w0 j) (fun j => w1 j) (fun j => x j)) (hadE (fun j => w0 j) (fun j => w1 j) (fun j => v j)) = (simW w0 w1 x v : EReal) := by
  unfold cosE
  rw [had_sum, norm_coe, norm_coe, ← EReal.coe_mul, cdiv]
  · rfl
  · exact (mul_pos (lt_max_of_lt_right epsR_pos) (lt_max_of_lt_right epsR_pos)).ne'

/-! ## Infinite weights

A row whose weighted square is infinite has similarity zero in both programs; an infinite weight that meets only zeros
counts for nothing in either. -/

/-- One of the two infinities. -/
def Inf (a : EReal) : Prop := a = ⊤ ∨ a = ⊥

theorem real_or_inf (a : EReal) : a = (a.toReal : EReal) ∨ Inf a := by
  induction a with
  | bot => exact .inr (.inr rfl)
  | top => exact .inr (.inl rfl)
  | coe r => exact .inl (by rw [EReal.toReal_coe])

theorem Inf.add {a : EReal} (b : EReal) (h : Inf a) : Inf (a + b) := by
  rcases h with rfl | rfl
  · rcases eq_or_ne b ⊥ with rfl | hb
    · exact .inr (EReal.add_bot ⊤)
    · exact .inl (EReal.top_add_of_ne_bot hb)
  · exact .inr (EReal.bot_add b)

theorem Inf.mul {a : EReal} (x : ℝ) (hx : x ≠ 0) (h : Inf a) : Inf (a * (x : EReal)) := by
  rcases lt_or_gt_of_ne hx with l | l <;> rcases h with rfl | rfl
  · exact .inr (EReal.top_mul_coe_of_neg l)
  · exact .inl (EReal.bot_mul_coe_of_neg l)
  · exact .inl (EReal.top_mul_coe_of_pos l)
  · exact .inr (EReal.bot_mul_coe_of_pos l)

theorem Inf.sq {a : EReal} (h : Inf a) : a * a = ⊤ := by
  rcases h with rfl | rfl
  · exact EReal.top_mul_top
  · exact EReal.bot_mul_bot

theorem sq_nonneg' (a : EReal) : 0 ≤ a * a := by
  rcases real_or_inf a with h | h
  · rw [h, ← EReal.coe_mul, ← EReal.coe_zero, EReal.coe_le_coe_iff]
    exact mul_self_nonneg _
  · rw [h.sq]; exact le_top

/-- A sum of nonnegative numbers, one of them infinite. -/
theorem sum_top {f : Fin 128 → EReal} (h0 : ∀ j, 0 ≤ f j) (i : Fin 128) (hi : f i = ⊤) : ∑ j, f j = ⊤ :=
  top_le_iff.1 (hi ▸ Finset.single_le_sum (fun j _ => h0 j) (Finset.mem_univ i))

theorem sq_mul_nonneg (a : EReal) (x : ℝ) : 0 ≤ a * a * x * x := by
  rw [mul_assoc]
  exact mul_nonneg (sq_nonneg' a) (sq_nonneg' _)

theorem sq_mul_top {a : EReal} (x : ℝ) (hx : x ≠ 0) (h : Inf a) : a * a * x * x = ⊤ := by
  rw [mul_assoc, h.sq, ← EReal.coe_mul]
  exact EReal.top_mul_coe_of_pos (mul_self_pos.2 hx)

theorem had_top {w0 w1 : Fin 128 → EReal} {x : Fin 128 → ℝ} (j : Fin 128) (hx : x j ≠ 0) (h : Inf (w0 j) ∨ Inf (w1 j)) :
    hadE w0 w1 (fun j => x j) j * hadE w0 w1 (fun j => x j) j = ⊤ := by
  have e : Inf (w0 j * (x j : EReal) + w1 j * (x j : EReal)) := by
    rcases h with h | h
    · exact (h.mul _ hx).add _
    · rw [add_comm]; exact (h.mul _ hx).add _
  refine Inf.sq ?_
  unfold hadE
  rw [half_eq, mul_comm]
  exact e.mul _ (by norm_num)

theorem norm_top {h : Fin 128 → EReal} (j : Fin 128) (e : h j * h j = ⊤) : normE h = ⊤ := by
  unfold normE
  rw [sum_top (fun j => sq_nonneg' (h j)) j e]
  exact top_le_iff.1 (le_max_left (⊤ : EReal) _)

theorem norm_pos (h : Fin 128 → EReal) : 0 < normE h :=
  lt_max_of_lt_right (by rw [eps_eq, ← EReal.coe_zero, EReal.coe_lt_coe_iff]; exact epsR_pos)

theorem div_top (a : EReal) : Ideal.div a ⊤ = 0 := by
  unfold Ideal.div
  rw [if_neg EReal.top_ne_zero, EReal.inv_top, mul_zero]

theorem cosE_zero (h g : Fin 128 → EReal) (j : Fin 128) (e : h j * h j = ⊤ ∨ g j * g j = ⊤) : cosE h g = 0 := by
  have p : normE h * normE g = ⊤ := by
    rcases e with e | e
    · rw [norm_top j e]; exact EReal.top_mul_of_pos (norm_pos g)
    · rw [norm_top j e]; exact EReal.mul_top_of_pos (norm_pos h)
  unfold cosE
  rw [p, div_top]

theorem eps4_pos : 0 < eps4 := by
  rw [eps4_eq, ← EReal.coe_zero, EReal.coe_lt_coe_iff]
  have := epsR_pos
  positivity

theorem cosK_zero (w0 w1 : Fin 128 → EReal) (x v : Fin 128 → ℝ) (j : Fin 128) (hj : x j ≠ 0 ∨ v j ≠ 0) (h : Inf (w0 j) ∨ Inf (w1 j)) :
    cosK (fun j => (x j : EReal)) w0 w1 (fun j => (v j : EReal)) (fun j => (v j : EReal) * (v j : EReal)) = 0 := by
  have hs : Inf (w0 j + w1 j) := by
    rcases h with h | h
    · exact h.add _
    · rw [add_comm]; exact h.add _
  unfold cosK
  simp only [← mul_assoc]
  have p : max (∑ j, (w0 j + w1 j) * (w0 j + w1 j) * (x j : EReal) * (x j : EReal)) eps4 * max (∑ j, (w0 j + w1 j) * (w0 j + w1 j) * (v j : EReal) * (v j : EReal)) eps4 = ⊤ := by
    rcases hj with hx | hv
    · rw [sum_top (f := fun j => (w0 j + w1 j) * (w0 j + w1 j) * (x j : EReal) * (x j : EReal)) (fun j => sq_mul_nonneg _ _) j (sq_mul_top _ hx hs), max_eq_left le_top]
      exact EReal.top_mul_of_pos (lt_max_of_lt_right eps4_pos)
    · rw [sum_top (f := fun j => (w0 j + w1 j) * (w0 j + w1 j) * (v j : EReal) * (v j : EReal)) (fun j => sq_mul_nonneg _ _) j (sq_mul_top _ hv hs), max_eq_left le_top]
      exact EReal.mul_top_of_pos (lt_max_of_lt_right eps4_pos)
  rw [p]
  exact mul_zero _

/-- At any weights the two similarities of real rows are one real number. -/
theorem cos_both (w0 w1 : Fin 128 → EReal) (x v : Fin 128 → ℝ) : ∃ s : ℝ,
    cosK (fun j => (x j : EReal)) w0 w1 (fun j => (v j : EReal)) (fun j => (v j : EReal) * (v j : EReal)) = (s : EReal)
      ∧ cosE (hadE w0 w1 (fun j => (x j : EReal))) (hadE w0 w1 (fun j => (v j : EReal))) = (s : EReal) := by
  by_cases hb : ∃ j, (x j ≠ 0 ∨ v j ≠ 0) ∧ (Inf (w0 j) ∨ Inf (w1 j))
  · obtain ⟨j, hj, hw⟩ := hb
    refine ⟨0, (cosK_zero w0 w1 x v j hj hw).trans EReal.coe_zero.symm, (cosE_zero _ _ j ?_).trans EReal.coe_zero.symm⟩
    exact hj.imp (fun hx => had_top j hx hw) fun hv => had_top j hv hw
  · have hj : ∀ j, (x j = 0 ∧ v j = 0) ∨ (w0 j = ((w0 j).toReal : EReal) ∧ w1 j = ((w1 j).toReal : EReal)) := fun j => by
      rcases real_or_inf (w0 j) with a | a
      · rcases real_or_inf (w1 j) with b | b
        · exact .inr ⟨a, b⟩
        · exact .inl ⟨not_not.1 fun n => hb ⟨j, .inl n, .inr b⟩, not_not.1 fun n => hb ⟨j, .inr n, .inr b⟩⟩
      · exact .inl ⟨not_not.1 fun n => hb ⟨j, .inl n, .inl a⟩, not_not.1 fun n => hb ⟨j, .inr n, .inl a⟩⟩
    have hh : ∀ a : Fin 128 → ℝ, (∀ j, a j = 0 ∨ (w0 j = ((w0 j).toReal : EReal) ∧ w1 j = ((w1 j).toReal : EReal))) →
        hadE w0 w1 (fun j => (a j : EReal)) = hadE (fun j => ((w0 j).toReal : EReal)) (fun j => ((w1 j).toReal : EReal)) (fun j => (a j : EReal)) := fun a ha => by
      funext j
      unfold hadE
      rcases ha j with e | ⟨e0, e1⟩
      · simp only [e, EReal.coe_zero, mul_zero]
      · simp only [← e0, ← e1]
    have hq : ∀ a b : Fin 128 → EReal, (∀ j, (a j = 0 ∨ b j = 0) ∨ (w0 j = ((w0 j).toReal : EReal) ∧ w1 j = ((w1 j).toReal : EReal))) →
        ∑ j, (w0 j + w1 j) * (w0 j + w1 j) * a j * b j
          = ∑ j, (((w0 j).toReal : EReal) + ((w1 j).toReal : EReal)) * (((w0 j).toReal : EReal) + ((w1 j).toReal : EReal)) * a j * b j := fun a b hab => by
      refine Finset.sum_congr rfl fun j _ => ?_
      rcases hab j with (e | e) | ⟨e0, e1⟩
      · rw [e, mul_zero, mul_zero]
      · rw [e, mul_zero, mul_zero]
      · rw [← e0, ← e1]
    have cx : ∀ j, ((x j : EReal) = 0) ∨ (w0 j = ((w0 j).toReal : EReal) ∧ w1 j = ((w1 j).toReal : EReal)) := fun j =>
      (hj j).imp_left fun e => by rw [e.1]; rfl
    have cv : ∀ j, ((v j : EReal) = 0) ∨ (w0 j = ((w0 j).toReal : EReal) ∧ w1 j = ((w1 j).toReal : EReal)) := fun j =>
      (hj j).imp_left fun e => by rw [e.2]; rfl
    refine ⟨simW (fun j => (w0 j).toReal) (fun j => (w1 j).toReal) x v, ?_, ?_⟩
    · rw [← cosK_coe]
      unfold cosK
      simp only [← mul_assoc]
      rw [hq _ _ fun j => (cx j).imp_left .inl, hq _ _ fun j => (cx j).imp_left .inl, hq _ _ fun j => (cv j).imp_left .inl]
    · rw [hh x fun j => (hj j).imp_left And.left, hh v fun j => (hj j).imp_left And.right]
      exact cosE_coe _ _ _ _

/-- The similarity of two real rows at any weights. -/
def simR (w0 w1 : Fin 128 → EReal) (x v : Fin 128 → ℝ) : ℝ := Classical.choose (cos_both w0 w1 x v)

theorem cosK_sim (w0 w1 : Fin 128 → EReal) (x v : Fin 128 → ℝ) :
    cosK (fun j => (x j : EReal)) w0 w1 (fun j => (v j : EReal)) (fun j => (v j : EReal) * (v j : EReal)) = (simR w0 w1 x v : EReal) :=
  (Classical.choose_spec (cos_both w0 w1 x v)).1

theorem cosE_sim (w0 w1 : Fin 128 → EReal) (x v : Fin 128 → ℝ) :
    cosE (hadE w0 w1 (fun j => (x j : EReal))) (hadE w0 w1 (fun j => (v j : EReal))) = (simR w0 w1 x v : EReal) :=
  (Classical.choose_spec (cos_both w0 w1 x v)).2

/-! ## The loss -/

/-- The logarithm of the softmax of two numbers, at `z`. -/
def logpR (a b z : ℝ) : ℝ := z - max a b - Real.log (Real.exp (a - max a b) + Real.exp (b - max a b))

theorem loss0 (a b : ℝ) : max (-(a - b)) 0 + Real.log (1 + Real.exp (-|a - b|)) = -logpR a b a := by
  unfold logpR
  rcases le_total a b with h | h
  · rw [max_eq_right h, abs_of_nonpos (by linarith), max_eq_left (by linarith), sub_self, Real.exp_zero, neg_neg, add_comm (Real.exp _)]; ring
  · rw [max_eq_left h, abs_of_nonneg (by linarith), max_eq_right (by linarith), sub_self, Real.exp_zero, neg_sub]; ring

theorem loss1 (a b : ℝ) : max (a - b) 0 + Real.log (1 + Real.exp (-|a - b|)) = -logpR a b b := by
  unfold logpR
  rcases le_total a b with h | h
  · rw [max_eq_right h, abs_of_nonpos (by linarith), max_eq_right (by linarith), sub_self, Real.exp_zero, neg_neg, add_comm (Real.exp _)]; ring
  · rw [max_eq_left h, abs_of_nonneg (by linarith), max_eq_left (by linarith), sub_self, Real.exp_zero, neg_sub]; ring

theorem log1p_exp (d : ℝ) : Ideal.log1p (Ideal.exp (0 - FloatOps.absf (F := Ideal) (φ := .f32) (d : EReal))) = ((Real.log (1 + Real.exp (-|d|)) : ℝ) : EReal) := by
  have h : FloatOps.absf (F := Ideal) (φ := .f32) (d : EReal) = ((|d| : ℝ) : EReal) := by
    show max (d : EReal) (-(d : EReal)) = _
    rw [← EReal.coe_neg, cmax]; rfl
  rw [h, zero_sub, ← EReal.coe_neg, Ideal.exp_coe]
  unfold Ideal.log1p
  rw [← EReal.coe_one, ← EReal.coe_add, Ideal.log_coe, if_neg (not_le.2 (by positivity))]

theorem lossK0 (a b : ℝ) : lossK ((a : EReal) - b) (1 - 2 * 0) = ((-logpR a b a : ℝ) : EReal) := by
  unfold lossK
  rw [← EReal.coe_sub, log1p_exp, mul_zero, sub_zero, show (0 - 1 : EReal) = ((-1 : ℝ) : EReal) by rw [zero_sub]; rfl, ← EReal.coe_mul, ← EReal.coe_zero, cmax,
    ← EReal.coe_add, neg_one_mul, loss0]

theorem lossK1 (a b : ℝ) : lossK ((a : EReal) - b) (1 - 2 * 1) = ((-logpR a b b : ℝ) : EReal) := by
  unfold lossK
  have e : (0 - (1 - 2 * 1) : EReal) = ((1 : ℝ) : EReal) := by
    rw [← EReal.coe_one, show (2 : EReal) = ((2 : ℝ) : EReal) from rfl, ← EReal.coe_mul, ← EReal.coe_sub, zero_sub, ← EReal.coe_neg]
    norm_num
  rw [← EReal.coe_sub, log1p_exp, e, ← EReal.coe_mul, ← EReal.coe_zero, cmax, ← EReal.coe_add, one_mul, loss1]

/-- The reference's logarithm of the softmax of two numbers, at `z`. -/
def logpE (a b z : EReal) : EReal := z - max a b - Ideal.log (Ideal.exp (a - max a b) + Ideal.exp (b - max a b))

theorem logpE_coe (a b z : ℝ) : logpE a b z = (logpR a b z : EReal) := by
  unfold logpE logpR
  rw [cmax, ← EReal.coe_sub, ← EReal.coe_sub, ← EReal.coe_sub, Ideal.exp_coe, Ideal.exp_coe, ← EReal.coe_add, Ideal.log_coe, if_neg (not_le.2 (by positivity)),
    ← EReal.coe_sub]

/-- The negated mean is the mean of the negated. -/
theorem mean_neg (f : Fin 63180 → ℝ) : -(Ideal.div (∑ r, (f r : EReal)) 63180) = Ideal.div (∑ r, ((-f r : ℝ) : EReal)) 63180 := by
  rw [csum, csum, c63180, cdiv _ _ (by norm_num), cdiv _ _ (by norm_num), ← EReal.coe_neg, Finset.sum_neg_distrib, neg_div]

/-! ## The means -/

/-- The mean of the rows of weight one, for real rows and weights. -/
def meanR (x k : Fin 63180 → ℝ) : ℝ := (∑ r, x r * k r) / max (∑ r, k r) 1

theorem mean_coe (x k : Fin 63180 → ℝ) :
    Ideal.div (∑ r, (x r : EReal) * (k r : EReal)) (max (∑ r, (k r : EReal)) 1) = (meanR x k : EReal) := by
  simp only [← EReal.coe_mul]
  rw [csum, csum, ← EReal.coe_one, cmax, cdiv _ _ (lt_max_of_lt_right one_pos).ne']
  rfl

/-- All rows less those of weight one: those of weight zero. -/
theorem mean_compl (x k : Fin 63180 → ℝ) :
    Ideal.div ((∑ r, (x r : EReal)) - ∑ r, (k r : EReal) * (x r : EReal)) (max (63180 - ∑ r, (k r : EReal)) 1) = (meanR x (fun r => 1 - k r) : EReal) := by
  simp only [← EReal.coe_mul]
  rw [csum, csum, csum, c63180, ← EReal.coe_sub, ← EReal.coe_sub, ← EReal.coe_one, cmax, cdiv _ _ (lt_max_of_lt_right one_pos).ne']
  refine congrArg _ ?_
  unfold meanR
  have h1 : ∑ r : Fin 63180, (1 - k r) = 63180 - ∑ r, k r := by rw [Finset.sum_sub_distrib]; simp
  have h2 : ∑ r : Fin 63180, x r * (1 - k r) = (∑ r, x r) - ∑ r, k r * x r := by
    rw [← Finset.sum_sub_distrib]
    exact Finset.sum_congr rfl fun r _ => by ring
  rw [h1, h2]

end Cert.Proof.KernelIdeal

end
-- ==== Proof.Value.Pre.lean ====
/-
  The precondition as facts: the side conditions of its printed function, every feature finite, every label zero or one.
-/
module

public import proofs.«01_k».proof.Pre_finite_and_binary
public import Idealize.ShloMosaic.Lib.Pointwise
public import Idealize.ShloMosaic.Lib.ReduceAll
public import Idealize.ShloMosaic.Lib.IdealHost

@[expose] public section

set_option maxRecDepth 16384

noncomputable section

namespace Cert.Pre_finite_and_binary

open Idealize.ShloMosaic Idealize.ShloMosaic.Tactic

/-- The side conditions of the precondition's operations hold. -/
instance facts : Facts where
  bcast_S_S63180x128 := by decide
  reducesTo_S63180x128_S_d0_1 := by decide
  h_S_ := by decide
  bcast_S_S34588x128 := by decide
  reducesTo_S34588x128_S_d0_1 := by decide
  bcast_S_S4148x128 := by decide
  reducesTo_S4148x128_S_d0_1 := by decide
  bcast_S_S63180 := by decide
  reducesTo_S63180_S_d0 := by decide

theorem inf_eq : Ideal.ofBits .f32 0x7F800000#32 = (⊤ : EReal) := by
  simp [Ideal.ofBits, Ideal.ieee]

/-- A number whose absolute value lies below infinity is a real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_eq] at h
  induction x with
  | bot => exact absurd h (by simp [FloatOps.cmpf, FloatOps.hostAbsf, Ideal.cmp])
  | top => exact absurd h (by simp [FloatOps.cmpf, FloatOps.hostAbsf, Ideal.cmp])
  | coe r => exact ⟨r, rfl⟩

theorem split (a b : IVec S_ 1) (h : andi a b = fun _ => 1#1) : a = (fun _ => 1#1) ∧ b = fun _ => 1#1 := by
  have e : ∀ u v : BitVec 1, u &&& v = 1#1 → u = 1#1 ∧ v = 1#1 := by decide
  exact ⟨funext fun i => (e _ _ (congrFun h i)).1, funext fun i => (e _ _ (congrFun h i)).2⟩

instance : Subsingleton S_.Idx := ⟨fun a b => funext fun i => i.elim0⟩

set_option maxHeartbeats 1000000 in
/-- What the precondition says of the six arguments. -/
theorem decode (x0 : FVec Ideal S63180x128 .f32) (x1 : FVec Ideal S34588x128 .f32) (x2 : FVec Ideal S4148x128 .f32)
    (w0 w1 : FVec Ideal S101916x128 .f32) (y : IVec S63180 32)
    (h : fn (F := Ideal) x0 x1 x2 w0 w1 y = fun _ => 1#1) :
    (∀ i, ∃ r : ℝ, x0 i = (r : EReal)) ∧ (∀ i, ∃ r : ℝ, x1 i = (r : EReal)) ∧ (∀ i, ∃ r : ℝ, x2 i = (r : EReal)) ∧
      ∀ i, y i = 0#32 ∨ y i = 1#32 := by
  dsimp only [fn] at h
  obtain ⟨h, hy⟩ := split _ _ h
  obtain ⟨h, h2⟩ := split _ _ h
  obtain ⟨h0, h1⟩ := split _ _ h
  refine ⟨fun i => real_of_lt _ ?_, fun i => real_of_lt _ ?_, fun i => real_of_lt _ ?_,
    fun i => ?_⟩
  · exact Host.reduce_andi_all _ _ _ _ (fun i => i.elim0) (congrFun h0 _) i
  · exact Host.reduce_andi_all _ _ _ _ (fun i => i.elim0) (congrFun h1 _) i
  · exact Host.reduce_andi_all _ _ _ _ (fun i => i.elim0) (congrFun h2 _) i
  · have e : BitVec.ofBool (decide (y i = 0#32)) ||| BitVec.ofBool (decide (y i = 1#32)) = 1#1 :=
      Host.reduce_andi_all _ _ _ _ (fun i => i.elim0) (congrFun hy _) i
    by_cases u : y i = 0#32
    · exact .inl u
    · by_cases v : y i = 1#32
      · exact .inr v
      · rw [decide_eq_false u, decide_eq_false v] at e
        exact absurd e (by decide)

end Cert.Pre_finite_and_binary

end
-- ==== Proof.Value.Args.lean ====
/-
  The features as real numbers: what the precondition gives, and the two means and the similarities they determine.
-/
module

public import proofs.«01_k».proof.Proof.Value.Real
public import proofs.«01_k».proof.Proof.Value.Pre

@[expose] public section

set_option maxRecDepth 16384

noncomputable section

namespace Cert.Proof

open Idealize.ShloMosaic
open Cert.Proof.KernelIdeal (meanR simR logpR)

/-- The features are real numbers `X0`, `X1`, `X2`, and every label is zero or one. The weights are any numbers. -/
structure Reals (a0 : (⟨2, ![63180, 128]⟩ : Shape).Idx → EReal) (a1 : (⟨2, ![34588, 128]⟩ : Shape).Idx → EReal)
    (a2 : (⟨2, ![4148, 128]⟩ : Shape).Idx → EReal) (a3 a4 : (⟨2, ![101916, 128]⟩ : Shape).Idx → EReal)
    (a5 : (⟨1, ![63180]⟩ : Shape).Idx → BitVec 32) where
  X0 : (⟨2, ![63180, 128]⟩ : Shape).Idx → ℝ
  X1 : (⟨2, ![34588, 128]⟩ : Shape).Idx → ℝ
  X2 : (⟨2, ![4148, 128]⟩ : Shape).Idx → ℝ
  h0 : ∀ i, a0 i = (X0 i : EReal)
  h1 : ∀ i, a1 i = (X1 i : EReal)
  h2 : ∀ i, a2 i = (X2 i : EReal)
  hy : ∀ i, a5 i = 0#32 ∨ a5 i = 1#32

variable {a0 : (⟨2, ![63180, 128]⟩ : Shape).Idx → EReal} {a1 : (⟨2, ![34588, 128]⟩ : Shape).Idx → EReal}
  {a2 : (⟨2, ![4148, 128]⟩ : Shape).Idx → EReal} {a3 a4 : (⟨2, ![101916, 128]⟩ : Shape).Idx → EReal}
  {a5 : (⟨1, ![63180]⟩ : Shape).Idx → BitVec 32}

/-- The precondition gives such reals. -/
theorem reals_of_pre (h : Cert.Pre_finite_and_binary.fn (F := Ideal) a0 a1 a2 a3 a4 a5 = fun _ => 1#1) : Nonempty (Reals a0 a1 a2 a3 a4 a5) := by
  obtain ⟨e0, e1, e2, hy⟩ := Cert.Pre_finite_and_binary.decode _ _ _ _ _ _ h
  choose X0 h0 using e0
  choose X1 h1 using e1
  choose X2 h2 using e2
  exact ⟨⟨X0, X1, X2, h0, h1, h2, hy⟩⟩

namespace Reals

variable (R : Reals a0 a1 a2 a3 a4 a5)

/-- One for a label one, zero for a label zero. -/
def lab (_ : Reals a0 a1 a2 a3 a4 a5) (r : Fin 63180) : ℝ := if a5 (ix1 r) = 1#32 then 1 else 0

theorem lab_sitofp (r : Fin 63180) : FloatOps.sitofp (F := Ideal) .f32 (a5 (ix1 r)) = (R.lab r : EReal) := by
  unfold lab
  rcases R.hy (ix1 r) with h | h <;> rw [h] <;> simp [FloatOps.sitofp]

/-- The mean of the companies labelled one (`0`) or zero (`1`). -/
def mean (k : Fin 2) (j : Fin 128) : ℝ := meanR (fun r => R.X0 (ix2 r j)) (if k = 0 then R.lab else fun r => 1 - R.lab r)

/-- All feature rows. -/
def row (r : Fin 101916) (j : Fin 128) : ℝ :=
  if h : r.val < 63180 then R.X0 (ix2 ⟨r.val, h⟩ j) else if h : r.val - 63180 < 34588 then R.X1 (ix2 ⟨r.val - 63180, h⟩ j)
    else R.X2 (ix2 ⟨r.val - 63180 - 34588, by omega⟩ j)

/-- The similarity of a row to a mean. -/
def sim (r : Fin 101916) (k : Fin 2) : ℝ := simR (fun j => a3 (ix2 r j)) (fun j => a4 (ix2 r j)) (R.row r) (R.mean k)

/-- A company's loss. -/
def loss (r : Fin 63180) : ℝ :=
  -logpR (R.sim ⟨r.val, by omega⟩ 0) (R.sim ⟨r.val, by omega⟩ 1) (R.sim ⟨r.val, by omega⟩ (if a5 (ix1 r) = 1#32 then 1 else 0))

end Reals

end Cert.Proof

end
-- ==== Proof.Value.Arrays.lean ====
/-
  The arrays the region leaves: each result array holds its closed form everywhere, since its blocks cover it.
-/
module

public import proofs.«01_k».proof.Proof.Value.Data
public import Idealize.ShloMosaic.Lib.Pipeline.FrameSuffix

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open Idealize.ShloMosaic.Pipeline (Dat Cfg Window)

variable (m : (ℓ : Loc nD τ sig) → Buf (Elt Ideal) ℓ) (c : Dev nD)

/-- An array of similarities, and one of predictions. -/
def semArr {N : ℕ} (g : ℕ → Fin 2 → EReal) : (⟨2, ![N, 2]⟩ : Shape).Idx → EReal := fun i => g (i 0).val (i 1)
def predArr {N : ℕ} (g : ℕ → BitVec 32) : (⟨2, ![N, 1]⟩ : Shape).Idx → BitVec 32 := fun i => g (i 0).val

theorem arr7 : (datsI m 0 c).arrAt 7 cfg0.N = semArr (N := 63180) (semC m c) := by
  refine (datsI m 0 c).arrAt_eq_of_covers 7 _ (by decide +kernel) fun t hf y => ?_
  show semOut (s := 2048) (semC m c) _ (win0_7.xinj (grid0.coords t) y) = semArr (N := 63180) (semC m c) ((win0_7.blk t).view.emb y)
  unfold semOut semArr
  refine congrArg₂ (semC m c) ?_ (Fin.ext ?_)
  · blk_simp [ixw7]
  · blk_simp [ixw7]

theorem arr8 : (datsI m 0 c).arrAt 8 cfg0.N = predArr (N := 63180) (predC m c) := by
  refine (datsI m 0 c).arrAt_eq_of_covers 8 _ (by decide +kernel) fun t hf y => ?_
  show predOut (s := 2048) (predC m c) _ (win0_8.xinj (grid0.coords t) y) = predArr (N := 63180) (predC m c) ((win0_8.blk t).view.emb y)
  unfold predOut predArr
  refine congrArg (predC m c) ?_
  blk_simp [ixw8]

theorem arr9 : (datsI m 0 c).arrAt 9 cfg0.N = semArr (N := 34588) (semB m c) := by
  refine (datsI m 0 c).arrAt_eq_of_covers 9 _ (by decide +kernel) fun t hf y => ?_
  show semOut (s := 2048) (semB m c) _ (win0_9.xinj (grid0.coords t) y) = semArr (N := 34588) (semB m c) ((win0_9.blk t).view.emb y)
  unfold semOut semArr
  refine congrArg₂ (semB m c) ?_ (Fin.ext ?_)
  · blk_simp [ixw9]
  · blk_simp [ixw9]

theorem arr10 : (datsI m 0 c).arrAt 10 cfg0.N = predArr (N := 34588) (predB m c) := by
  refine (datsI m 0 c).arrAt_eq_of_covers 10 _ (by decide +kernel) fun t hf y => ?_
  show predOut (s := 2048) (predB m c) _ (win0_10.xinj (grid0.coords t) y) = predArr (N := 34588) (predB m c) ((win0_10.blk t).view.emb y)
  unfold predOut predArr
  refine congrArg (predB m c) ?_
  blk_simp [ixw10]

theorem arr11 : (datsI m 0 c).arrAt 11 cfg0.N = semArr (N := 4148) (semO m c) := by
  refine (datsI m 0 c).arrAt_eq_of_covers 11 _ (by decide +kernel) fun t hf y => ?_
  show semOut (s := 2048) (semO m c) _ (win0_11.xinj (grid0.coords t) y) = semArr (N := 4148) (semO m c) ((win0_11.blk t).view.emb y)
  unfold semOut semArr
  refine congrArg₂ (semO m c) ?_ (Fin.ext ?_)
  · blk_simp [ixw11]
  · blk_simp [ixw11]

theorem arr12 : (datsI m 0 c).arrAt 12 cfg0.N = predArr (N := 4148) (predO m c) := by
  refine (datsI m 0 c).arrAt_eq_of_covers 12 _ (by decide +kernel) fun t hf y => ?_
  show predOut (s := 2048) (predO m c) _ (win0_12.xinj (grid0.coords t) y) = predArr (N := 4148) (predO m c) ((win0_12.blk t).view.emb y)
  unfold predOut predArr
  refine congrArg (predO m c) ?_
  blk_simp [ixw12]

theorem arr13 : (datsI m 0 c).arrAt 13 cfg0.N = (fun _ => lossP m c 31 : (⟨2, ![1, 1]⟩ : Shape).Idx → EReal) := by
  refine (datsI m 0 c).arrAt_eq_of_after_last 13 ⟨81, by decide⟩ (by decide +kernel) _ fun j => ?_
  rfl

end Cert.Proof.KernelIdeal

end
-- ==== Proof.Value.Head.lean ====
/-
  The host lines before the region: the labels as numbers, the loss signs, and the rows the last part reads, in terms of
  the arguments.
-/
module

public import proofs.«01_k».proof.Proof.Value.Arrays
public import Idealize.ShloMosaic.Lib.Pipeline.FrameSuffix
public import Idealize.ShloMosaic.Lib.IdealHost

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open Idealize.ShloMosaic.Pipeline (Dat Cfg Window)

variable (m : (ℓ : Loc nD τ sig) → Buf (Elt Ideal) ℓ) (c : Dev nD)

/-- The arguments at the launch. -/
abbrev a0 : (⟨2, ![63180, 128]⟩ : Shape).Idx → EReal := m ((c.tc : Thread nD τ).loc main_arg0)
abbrev a1 : (⟨2, ![34588, 128]⟩ : Shape).Idx → EReal := m ((c.tc : Thread nD τ).loc main_arg1)
abbrev a2 : (⟨2, ![4148, 128]⟩ : Shape).Idx → EReal := m ((c.tc : Thread nD τ).loc main_arg2)
abbrev a3 : (⟨2, ![101916, 128]⟩ : Shape).Idx → EReal := m ((c.tc : Thread nD τ).loc main_arg3)
abbrev a4 : (⟨2, ![101916, 128]⟩ : Shape).Idx → EReal := m ((c.tc : Thread nD τ).loc main_arg4)
abbrev a5 : (⟨1, ![63180]⟩ : Shape).Idx → BitVec 32 := m ((c.tc : Thread nD τ).loc main_arg5)

theorem ofBits_two : Ideal.ofBits .f32 0x40000000#32 = (2 : EReal) := by
  rw [show (2 : EReal) = ((2 : ℝ) : EReal) from rfl]
  simp [Ideal.ofBits, Ideal.ieee, -EReal.coe_mul]
  norm_num

theorem V_v8 (r : Fin 63180) : V m c main_v8 (ix2 (0 : Fin 1) r) = FloatOps.sitofp (F := Ideal) .f32 (a5 m c (ix1 r)) := by
  have h : V m c main_v8 = shapeCast _ (sitofp (F := Ideal) .f32 (a5 m c)) shapeCasts_S63180_S1x63180 := by
    show StableHlo.after hostOps0 _ _ = _
    after_results
    first | rfl | skip
  rw [h]
  pointwise []

theorem V_v5 (r : Fin 63180) : V m c main_v5 (ix2 r (0 : Fin 1)) = 1 - 2 * FloatOps.sitofp (F := Ideal) .f32 (a5 m c (ix1 r)) := by
  have h : V m c main_v5 = shapeCast _ (subf (broadcastInDim S63180 ![] bcast_S_S63180 (constant (F := Ideal) S_ .f32 0x3F800000#32))
      (mulf (broadcastInDim S63180 ![] bcast_S_S63180 (constant (F := Ideal) S_ .f32 0x40000000#32)) (sitofp (F := Ideal) .f32 (a5 m c)))) shapeCasts_S63180_S63180x1 := by
    show StableHlo.after hostOps0 _ _ = _
    after_results
    first | rfl | skip
  rw [h]
  pointwise []
  rw [ofBits_two]

theorem V_v6 (r : Fin 4148) (j : Fin 128) : V m c main_v6 (ix2 r j) = a3 m c (ix2 ⟨97768 + r.val, by omega⟩ j) := by
  have h : V m c main_v6 = extractStridedSlice S4148x128 ![97768, 0] (a3 m c) slices_S101916x128_S4148x128_97768_0 := by
    show StableHlo.after hostOps0 _ _ = _
    after_results
    first | rfl | skip
  rw [h]
  pointwise []

theorem V_v7 (r : Fin 4148) (j : Fin 128) : V m c main_v7 (ix2 r j) = a4 m c (ix2 ⟨97768 + r.val, by omega⟩ j) := by
  have h : V m c main_v7 = extractStridedSlice S4148x128 ![97768, 0] (a4 m c) slices_S101916x128_S4148x128_97768_0 := by
    show StableHlo.after hostOps0 _ _ = _
    after_results
    first | rfl | skip
  rw [h]
  pointwise []

end Cert.Proof.KernelIdeal

end
-- ==== Proof.Value.Tail.lean ====
/-
  The host lines after the region: the five results in terms of the arrays the region leaves.
-/
module

public import proofs.«01_k».proof.Proof.Value.Head
public import Idealize.ShloMosaic.Lib.Pipeline.FrameSuffix
public import Idealize.ShloMosaic.Lib.IdealHost

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open Idealize.ShloMosaic.Pipeline (Dat Cfg Window)

variable (m : (ℓ : Loc nD τ sig) → Buf (Elt Ideal) ℓ) (c : Dev nD)

/-- The buffers after the host lines that follow the region. -/
abbrev tailAt (b : Ref sig .tc) : Buf (Elt Ideal) ((c.tc : Thread nD τ).loc b) := Pipeline.afterTail₀ cfgs (datsI m) 0 (V0 m) [hostOps1] c b

abbrev regionOut : Valuation τ sig (Elt Ideal) := Pipeline.withArrays (cfgs 0).spec c (V0 m c) fun w => (datsI m 0 c).arrAt w (cfgs 0).N

theorem reg7 : regionOut m c (Proc.devRef .tc main_v9_0) = semArr (N := 63180) (semC m c) := (Pipeline.withArrays_arr (cfgs 0).spec launch0.win.arr_inj c _ _ 7).trans (arr7 m c)
theorem reg8 : regionOut m c (Proc.devRef .tc main_v9_1) = predArr (N := 63180) (predC m c) := (Pipeline.withArrays_arr (cfgs 0).spec launch0.win.arr_inj c _ _ 8).trans (arr8 m c)
theorem reg9 : regionOut m c (Proc.devRef .tc main_v9_2) = semArr (N := 34588) (semB m c) := (Pipeline.withArrays_arr (cfgs 0).spec launch0.win.arr_inj c _ _ 9).trans (arr9 m c)
theorem reg10 : regionOut m c (Proc.devRef .tc main_v9_3) = predArr (N := 34588) (predB m c) := (Pipeline.withArrays_arr (cfgs 0).spec launch0.win.arr_inj c _ _ 10).trans (arr10 m c)
theorem reg11 : regionOut m c (Proc.devRef .tc main_v9_4) = semArr (N := 4148) (semO m c) := (Pipeline.withArrays_arr (cfgs 0).spec launch0.win.arr_inj c _ _ 11).trans (arr11 m c)
theorem reg12 : regionOut m c (Proc.devRef .tc main_v9_5) = predArr (N := 4148) (predO m c) := (Pipeline.withArrays_arr (cfgs 0).spec launch0.win.arr_inj c _ _ 12).trans (arr12 m c)
theorem reg13 : regionOut m c (Proc.devRef .tc main_v9_6) = (fun _ => lossP m c 31 : (⟨2, ![1, 1]⟩ : Shape).Idx → EReal) := (Pipeline.withArrays_arr (cfgs 0).spec launch0.win.arr_inj c _ _ 13).trans (arr13 m c)

theorem tail_v11 (k : Fin 2) (r : Fin 101916) : tailAt m c main_v11 (ix2 k r)
    = if r.val < 63180 then semC m c r.val k else if r.val < 97768 then semB m c (r.val - 63180) k else semO m c (r.val - 97768) k := by
  have h : tailAt m c main_v11 = transpose S2x101916 [1, 0] (concatenate S101916x2 0 [⟨S63180x2, semArr (N := 63180) (semC m c)⟩,
      ⟨S34588x2, semArr (N := 34588) (semB m c)⟩, ⟨S4148x2, semArr (N := 4148) (semO m c)⟩] concatenates_S63180x2_S34588x2_S4148x2_S101916x2_d0)
      transposes_S101916x2_S2x101916_1_0 := by
    rw [← reg7, ← reg9, ← reg11]
    show StableHlo.after hostOps1 (regionOut m c) _ = _
    after_results
    first | rfl | skip
  rw [h]
  pointwise [semArr]
  rw [show r.val - 63180 - 34588 = r.val - 97768 by omega]
  by_cases h1 : r.val < 63180
  · rw [dif_pos h1, if_pos h1]
  · rw [dif_neg h1, if_neg h1]
    by_cases h2 : r.val < 97768
    · rw [dif_pos (show r.val - 63180 < 34588 by omega), if_pos h2]
    · rw [dif_neg (show ¬r.val - 63180 < 34588 by omega), if_neg h2]

theorem tail_v13 (i : S_.Idx) : tailAt m c main_v13 i = Ideal.div (lossP m c 31) 63180 := by
  have h : tailAt m c main_v13 = Host.divf (shapeCast S_ (fun _ => lossP m c 31 : (⟨2, ![1, 1]⟩ : Shape).Idx → EReal) shapeCasts_S1x1_S_) (constant (F := Ideal) S_ .f32 0x4776CC00#32) := by
    rw [← reg13]
    show StableHlo.after hostOps1 (regionOut m c) _ = _
    after_results
    first | rfl | skip
  rw [h]
  pointwise [ofBits_rows]

theorem tail_v14 (r : Fin 63180) : tailAt m c main_v14 (ix1 r) = predC m c r.val := by
  have h : tailAt m c main_v14 = shapeCast S63180 (predArr (N := 63180) (predC m c)) shapeCasts_S63180x1_S63180 := by
    rw [← reg8]
    show StableHlo.after hostOps1 (regionOut m c) _ = _
    after_results
    first | rfl | skip
  rw [h]
  pointwise [predArr]

theorem tail_v15 (r : Fin 34588) : tailAt m c main_v15 (ix1 r) = predB m c r.val := by
  have h : tailAt m c main_v15 = shapeCast S34588 (predArr (N := 34588) (predB m c)) shapeCasts_S34588x1_S34588 := by
    rw [← reg10]
    show StableHlo.after hostOps1 (regionOut m c) _ = _
    after_results
    first | rfl | skip
  rw [h]
  pointwise [predArr]

theorem tail_v16 (r : Fin 4148) : tailAt m c main_v16 (ix1 r) = predO m c r.val := by
  have h : tailAt m c main_v16 = shapeCast S4148 (predArr (N := 4148) (predO m c)) shapeCasts_S4148x1_S4148 := by
    rw [← reg12]
    show StableHlo.after hostOps1 (regionOut m c) _ = _
    after_results
    first | rfl | skip
  rw [h]
  pointwise [predArr]

end Cert.Proof.KernelIdeal

end
-- ==== Proof.Value.KernelReal.lean ====
/-
  The kernel's values over real arguments.
-/
module

public import proofs.«01_k».proof.Proof.Value.Args
public import proofs.«01_k».proof.Proof.Value.Tail

@[expose] public section

set_option maxRecDepth 16384

noncomputable section

namespace Cert.Proof.KernelIdeal

open Cert.KernelIdeal Cert.KernelIdeal.Gen
open Idealize.ShloMosaic
open Idealize.ShloMosaic.TcCoe

variable (m : (ℓ : Loc nD τ sig) → Buf (Elt Ideal) ℓ) (c : Dev nD)
  (R : Reals (a0 m c) (a1 m c) (a2 m c) (a3 m c) (a4 m c) (a5 m c))

theorem w0v_row (r : ℕ) (hr : r < 101916) (j : Fin 128) : w0v m c r j = a3 m c (ix2 ⟨r, hr⟩ j) := by
  unfold w0v rowA
  rw [dif_pos hr, V_main_arg3]

theorem w1v_row (r : ℕ) (hr : r < 101916) (j : Fin 128) : w1v m c r j = a4 m c (ix2 ⟨r, hr⟩ j) := by
  unfold w1v rowA
  rw [dif_pos hr, V_main_arg4]

theorem o0v_row (r : Fin 4148) (j : Fin 128) : o0v m c r.val j = a3 m c (ix2 ⟨97768 + r.val, by omega⟩ j) := by
  unfold o0v rowA
  rw [dif_pos r.isLt]
  exact V_v6 m c r j

theorem o1v_row (r : Fin 4148) (j : Fin 128) : o1v m c r.val j = a4 m c (ix2 ⟨97768 + r.val, by omega⟩ j) := by
  unfold o1v rowA
  rw [dif_pos r.isLt]
  exact V_v7 m c r j

include R

theorem yv_real (r : Fin 63180) : yv m c r.val = (R.lab r : EReal) := by
  unfold yv colA
  rw [dif_pos r.isLt]
  exact (V_v8 m c r).trans (R.lab_sitofp r)

theorem xcv_real (r : Fin 63180) (j : Fin 128) : xcv m c r.val j = (R.X0 (ix2 r j) : EReal) := by
  unfold xcv rowA
  rw [dif_pos r.isLt, V_main_arg0]
  exact R.h0 _

theorem xbv_real (r : Fin 34588) (j : Fin 128) : xbv m c r.val j = (R.X1 (ix2 r j) : EReal) := by
  unfold xbv rowA
  rw [dif_pos r.isLt, V_main_arg1]
  exact R.h1 _

theorem xov_real (r : Fin 4148) (j : Fin 128) : xov m c r.val j = (R.X2 (ix2 r j) : EReal) := by
  unfold xov rowA
  rw [dif_pos r.isLt, V_main_arg2]
  exact R.h2 _

theorem tsum_real (j : Fin 128) : tsum m c 31 j = ∑ r, (R.lab r : EReal) * (R.X0 (ix2 r j) : EReal) :=
  (psum_all _).trans (Finset.sum_congr rfl fun r _ => by rw [yv_real m c R, xcv_real m c R])

theorem asum_real (j : Fin 128) : asum m c 31 j = ∑ r, (R.X0 (ix2 r j) : EReal) :=
  (psum_all _).trans (Finset.sum_congr rfl fun r _ => by rw [xcv_real m c R])

theorem tcnt_real : tcnt m c 31 = ∑ r, (R.lab r : EReal) :=
  (psum_all _).trans (Finset.sum_congr rfl fun r _ => by rw [yv_real m c R])

theorem tvec_real (j : Fin 128) : tvec m c j = (R.mean 0 j : EReal) := by
  unfold tvec
  rw [tsum_real m c R, tcnt_real m c R]
  have e : ∑ r, (R.lab r : EReal) * (R.X0 (ix2 r j) : EReal) = ∑ r, (R.X0 (ix2 r j) : EReal) * (R.lab r : EReal) :=
    Finset.sum_congr rfl fun r _ => mul_comm _ _
  rw [e]
  exact mean_coe (fun r => R.X0 (ix2 r j)) R.lab

theorem fvec_real (j : Fin 128) : fvec m c j = (R.mean 1 j : EReal) := by
  unfold fvec
  rw [tsum_real m c R, asum_real m c R, tcnt_real m c R]
  exact mean_compl (fun r => R.X0 (ix2 r j)) R.lab

theorem semK_real (w0 w1 : Fin 128 → EReal) (x : Fin 128 → ℝ) (k : Fin 2) :
    semK m c (fun j => (x j : EReal)) w0 w1 k = (simR w0 w1 x (R.mean k) : EReal) := by
  unfold semK
  rw [show tvec m c = fun j => (R.mean 0 j : EReal) from funext (tvec_real m c R), show fvec m c = fun j => (R.mean 1 j : EReal) from funext (fvec_real m c R)]
  fin_cases k
  · exact (if_pos rfl).trans (cosK_sim w0 w1 x (R.mean 0))
  · exact (if_neg (by decide)).trans (cosK_sim w0 w1 x (R.mean 1))

theorem semC_real (r : ℕ) (hr : r < 63180) (k : Fin 2) : semC m c r k = (R.sim ⟨r, by omega⟩ k : EReal) := by
  unfold semC Reals.sim
  rw [show xcv m c r = fun j => (R.row ⟨r, by omega⟩ j : EReal) from funext fun j => by
      unfold Reals.row; rw [dif_pos (show r < 63180 from hr)]; exact xcv_real m c R ⟨r, hr⟩ j,
    show w0v m c r = _ from funext fun j => w0v_row m c r (by omega) j, show w1v m c r = _ from funext fun j => w1v_row m c r (by omega) j]
  exact semK_real m c R _ _ _ k

theorem semB_real (r : ℕ) (hr : r < 34588) (k : Fin 2) : semB m c r k = (R.sim ⟨63180 + r, by omega⟩ k : EReal) := by
  unfold semB Reals.sim
  rw [show xbv m c r = fun j => (R.row ⟨63180 + r, by omega⟩ j : EReal) from funext fun j => by
      unfold Reals.row
      rw [dif_neg (show ¬63180 + r < 63180 by omega), dif_pos (show 63180 + r - 63180 < 34588 by omega)]
      exact (xbv_real m c R ⟨r, hr⟩ j).trans (congrArg (fun i => (R.X1 (ix2 i j) : EReal)) (Fin.ext (show r = 63180 + r - 63180 by omega))),
    show w0v m c (63180 + r) = _ from funext fun j => w0v_row m c (63180 + r) (by omega) j,
    show w1v m c (63180 + r) = _ from funext fun j => w1v_row m c (63180 + r) (by omega) j]
  exact semK_real m c R _ _ _ k

theorem semO_real (r : ℕ) (hr : r < 4148) (k : Fin 2) : semO m c r k = (R.sim ⟨97768 + r, by omega⟩ k : EReal) := by
  unfold semO Reals.sim
  rw [show xov m c r = fun j => (R.row ⟨97768 + r, by omega⟩ j : EReal) from funext fun j => by
      unfold Reals.row
      rw [dif_neg (show ¬97768 + r < 63180 by omega), dif_neg (show ¬97768 + r - 63180 < 34588 by omega)]
      exact (xov_real m c R ⟨r, hr⟩ j).trans (congrArg (fun i => (R.X2 (ix2 i j) : EReal)) (Fin.ext (show r = 97768 + r - 63180 - 34588 by omega))),
    show o0v m c r = _ from funext fun j => o0v_row m c ⟨r, hr⟩ j, show o1v m c r = _ from funext fun j => o1v_row m c ⟨r, hr⟩ j]
  exact semK_real m c R _ _ _ k

/-- The first result, entry by entry. -/
theorem v11_real (k : Fin 2) (r : Fin 101916) : tailAt m c main_v11 (ix2 k r) = (R.sim r k : EReal) := by
  rw [tail_v11]
  by_cases h1 : r.val < 63180
  · rw [if_pos h1, semC_real m c R _ h1]
  · rw [if_neg h1]
    by_cases h2 : r.val < 97768
    · rw [if_pos h2, semB_real m c R _ (by omega)]
      exact congrArg (fun i => (R.sim i k : EReal)) (Fin.ext (show 63180 + (r.val - 63180) = r.val by omega))
    · rw [if_neg h2, semO_real m c R _ (by omega)]
      exact congrArg (fun i => (R.sim i k : EReal)) (Fin.ext (show 97768 + (r.val - 97768) = r.val by omega))

theorem lossR_real (r : Fin 63180) : lossR m c r.val = (R.loss r : EReal) := by
  have hs : sv m c r.val = 1 - 2 * (R.lab r : EReal) := by
    unfold sv rowA
    rw [dif_pos r.isLt, ← R.lab_sitofp]
    exact V_v5 m c r
  unfold lossR
  rw [hs, semC_real m c R _ r.isLt, semC_real m c R _ r.isLt]
  unfold Reals.loss Reals.lab
  rcases R.hy (ix1 r) with h | h
  · rw [if_neg (by rw [h]; decide), if_neg (by rw [h]; decide), EReal.coe_zero]
    exact lossK0 _ _
  · rw [if_pos h, if_pos h, EReal.coe_one]
    exact lossK1 _ _

/-- The second result. -/
theorem v13_real (i : S_.Idx) : tailAt m c main_v13 i = Ideal.div (∑ r, (R.loss r : EReal)) 63180 := by
  rw [tail_v13]
  unfold lossP
  rw [psum_all, Finset.sum_congr rfl fun r _ => lossR_real m c R r]

/-- The comparison of two similarities, as a number. -/
theorem v14_real (r : Fin 63180) : tailAt m c main_v14 (ix1 r)
    = BitVec.setWidth 32 (BitVec.ofBool (decide ((R.sim ⟨r.val, by omega⟩ 0 : EReal) < (R.sim ⟨r.val, by omega⟩ 1 : EReal)))) := by
  rw [tail_v14]
  unfold predC
  rw [semC_real m c R _ r.isLt, semC_real m c R _ r.isLt]
  refine congrArg (fun b => BitVec.setWidth 32 (BitVec.ofBool b)) (decide_eq_decide.2 ?_)
  rw [← EReal.coe_sub, ← EReal.coe_zero, EReal.coe_lt_coe_iff, EReal.coe_lt_coe_iff, sub_neg]

theorem v15_real (r : Fin 34588) : tailAt m c main_v15 (ix1 r)
    = BitVec.setWidth 32 (BitVec.ofBool (decide ((R.sim ⟨63180 + r.val, by omega⟩ 0 : EReal) < (R.sim ⟨63180 + r.val, by omega⟩ 1 : EReal)))) := by
  rw [tail_v15]
  unfold predB
  rw [semB_real m c R _ r.isLt, semB_real m c R _ r.isLt]

theorem v16_real (r : Fin 4148) : tailAt m c main_v16 (ix1 r)
    = BitVec.setWidth 32 (BitVec.ofBool (decide ((R.sim ⟨97768 + r.val, by omega⟩ 0 : EReal) < (R.sim ⟨97768 + r.val, by omega⟩ 1 : EReal)))) := by
  rw [tail_v16]
  unfold predO
  rw [semO_real m c R _ r.isLt, semO_real m c R _ r.isLt]

end Cert.Proof.KernelIdeal

end
-- ==== Proof.Value.RefTerm.lean ====
/-
  The reference in pieces: its masks, means, features, products, similarities and predictions as separate array terms, and
  its results as compositions of them.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Proof.ReferenceIdeal

open Cert.ReferenceIdeal Cert.ReferenceIdeal.Gen Cert.ReferenceIdeal.Value
open Idealize.ShloMosaic
open Idealize.ShloMosaic.TcCoe Idealize.ShloMosaic.Tactic

abbrev AC := FVec Ideal S63180x128 .f32
abbrev AB := FVec Ideal S34588x128 .f32
abbrev AO := FVec Ideal S4148x128 .f32
abbrev AN := FVec Ideal S101916x128 .f32

/-- Which labels are `v`, as numbers. -/
def maskV (v : BitVec 32) (y : IVec S63180 32) : FVec Ideal S63180 .f32 :=
  uitofp .f32 (cmpi .eq y (broadcastInDim S63180 ![] bcast_S_S63180 (constantI S_ 32 v)))

/-- The mean of the masked rows. -/
def meanV (x : AC) (k : FVec Ideal S63180 .f32) : FVec Ideal S128 .f32 :=
  Host.divf (Host.reduceAdd (mulf x (broadcastInDim S63180x128 ![0, 1] bcast_S63180x1_S63180x128_0_1 (broadcastInDim S63180x1 ![0] bcast_S63180_S63180x1_0 k)))
      (constant S_ .f32 0x00000000#32) reducesTo_S63180x128_S128_d0 h_S_)
    (broadcastInDim S128 ![] bcast_S_S128 (maximumf (Host.reduceAdd k (constant S_ .f32 0x00000000#32) reducesTo_S63180_S_d0 h_S_) (constant S_ .f32 0x3F800000#32)))

/-- All features, one after another. -/
def featV (x0 : AC) (x1 : AB) (x2 : AO) : AN :=
  concatenate S101916x128 0 [⟨S63180x128, x0⟩, ⟨S34588x128, x1⟩, ⟨S4148x128, x2⟩] concatenates_S63180x128_S34588x128_S4148x128_S101916x128_d0

/-- A vector in every row. -/
def rowsV (v : FVec Ideal S128 .f32) : AN :=
  broadcastInDim S101916x128 ![0, 1] bcast_S1x128_S101916x128_0_1 (broadcastInDim S1x128 ![1] bcast_S128_S1x128_1 v)

/-- The averaged entrywise product with the two weights. -/
def hadV (w0 w1 f : AN) : AN :=
  mulf (broadcastInDim S101916x128 ![] bcast_S_S101916x128 (constant S_ .f32 0x3F000000#32)) (addf (mulf w0 f) (mulf w1 f))

/-- The clamped norm of each row. -/
def normV (h : AN) : FVec Ideal S101916 .f32 :=
  maximumf (Host.sqrt (Host.reduceAdd (mulf h h) (constant S_ .f32 0x00000000#32) reducesTo_S101916x128_S101916_d1 h_S_))
    (broadcastInDim S101916 ![] bcast_S_S101916 (constant S_ .f32 0x322BCC77#32))

/-- The similarity of the rows of two arrays. -/
def cosV (h g : AN) : FVec Ideal S101916 .f32 :=
  Host.divf (Host.reduceAdd (mulf h g) (constant S_ .f32 0x00000000#32) reducesTo_S101916x128_S101916_d1 h_S_) (mulf (normV h) (normV g))

def pairV (t f : FVec Ideal S101916 .f32) : FVec Ideal S2x101916 .f32 :=
  concatenate S2x101916 0 [⟨S1x101916, broadcastInDim S1x101916 ![1] bcast_S101916_S1x101916_1 t⟩, ⟨S1x101916, broadcastInDim S1x101916 ![1] bcast_S101916_S1x101916_1 f⟩]
    concatenates_S1x101916_S1x101916_S2x101916_d0

/-- The whole similarity array. -/
def semV (x0 : AC) (x1 : AB) (x2 : AO) (w0 w1 : AN) (y : IVec S63180 32) : FVec Ideal S2x101916 .f32 :=
  pairV (cosV (hadV w0 w1 (featV x0 x1 x2)) (hadV w0 w1 (rowsV (meanV x0 (maskV 1#32 y)))))
    (cosV (hadV w0 w1 (featV x0 x1 x2)) (hadV w0 w1 (rowsV (meanV x0 (maskV 0#32 y)))))

def predCV (s : FVec Ideal S2x101916 .f32) : IVec S63180 32 :=
  extui 32 (cmpf .ogt (shapeCast S63180 (extractStridedSlice S1x63180 ![1, 0] s slices_S2x101916_S1x63180_1_0) shapeCasts_S1x63180_S63180)
    (shapeCast S63180 (extractStridedSlice S1x63180 ![0, 0] s slices_S2x101916_S1x63180_0_0) shapeCasts_S1x63180_S63180)) natLt_1_32
def predBV (s : FVec Ideal S2x101916 .f32) : IVec S34588 32 :=
  extui 32 (cmpf .ogt (shapeCast S34588 (extractStridedSlice S1x34588 ![1, 63180] s slices_S2x101916_S1x34588_1_63180) shapeCasts_S1x34588_S34588)
    (shapeCast S34588 (extractStridedSlice S1x34588 ![0, 63180] s slices_S2x101916_S1x34588_0_63180) shapeCasts_S1x34588_S34588)) natLt_1_32
def predOV (s : FVec Ideal S2x101916 .f32) : IVec S4148 32 :=
  extui 32 (cmpf .ogt (shapeCast S4148 (extractStridedSlice S1x4148 ![1, 97768] s slices_S2x101916_S1x4148_1_97768) shapeCasts_S1x4148_S4148)
    (shapeCast S4148 (extractStridedSlice S1x4148 ![0, 97768] s slices_S2x101916_S1x4148_0_97768) shapeCasts_S1x4148_S4148)) natLt_1_32

/-! ## The loss -/

def logitV (s : FVec Ideal S2x101916 .f32) : FVec Ideal S63180x2 .f32 :=
  transpose S63180x2 [1, 0] (extractStridedSlice S2x63180 ![0, 0] s slices_S2x101916_S2x63180_0_0) transposes_S2x63180_S63180x2_1_0

def topV (l : FVec Ideal S63180x2 .f32) : FVec Ideal S63180 .f32 :=
  maximumf (broadcastInDim S63180 ![] bcast_S_S63180 (constant S_ .f32 0xFF800000#32))
    (Host.reduce FloatOps.maximumf l (constant S_ .f32 0xFF800000#32) reducesTo_S63180x2_S63180_d1 h_S_)

def shiftV (l : FVec Ideal S63180x2 .f32) : FVec Ideal S63180x2 .f32 :=
  subf l (broadcastInDim S63180x2 ![0, 1] bcast_S63180x1_S63180x2_0_1 (broadcastInDim S63180x1 ![0] bcast_S63180_S63180x1_0 (topV l)))

def logpV (l : FVec Ideal S63180x2 .f32) : FVec Ideal S63180x2 .f32 :=
  subf (shiftV l) (broadcastInDim S63180x2 ![0, 1] bcast_S63180x1_S63180x2_0_1 (Host.log (broadcastInDim S63180x1 ![0] bcast_S63180_S63180x1_0
    (Host.reduceAdd (Host.exp (shiftV l)) (constant S_ .f32 0x00000000#32) reducesTo_S63180x2_S63180_d1 h_S_))))

def labV (y : IVec S63180 32) : IVec S63180x1 32 := broadcastInDim S63180x1 ![0] bcast_S63180_S63180x1_0 y

def pickV (y : IVec S63180 32) : IVec S63180x1x1 32 :=
  shapeCast S63180x1x1 (select (cmpi .slt (labV y) (broadcastInDim S63180x1 ![] bcast_S_S63180x1 (constantI S_ 32 0#32)))
    (addi (labV y) (broadcastInDim S63180x1 ![] bcast_S_S63180x1 (constantI S_ 32 2#32))) (labV y)) shapeCasts_S63180x1_S63180x1x1

def okV (y : IVec S63180 32) : IVec S63180x1 1 :=
  Host.reduce IntOp.andi (andi (cmpi .sge (pickV y) (broadcastInDim S63180x1x1 ![] bcast_S_S63180x1x1 (constantI S_ 32 0#32)))
    (cmpi .sle (pickV y) (broadcastInDim S63180x1x1 ![0, 1, 2] bcast_S1x1x1_S63180x1x1_0_1_2 (broadcastInDim S1x1x1 ![2] bcast_S1_S1x1x1_2 (constantI S1 32 1#32)))))
    (constantI S_ 1 1#1) reducesTo_S63180x1x1_S63180x1_d2 h_S_

def takeV (l : FVec Ideal S63180x2 .f32) (y : IVec S63180 32) : FVec Ideal S63180x1 .f32 :=
  select (okV y) (Host.gather gather_S63180x2_S63180x1x1_S63180x1_n_1_0_0_1_2_11 (logpV l) (pickV y))
    (broadcastInDim S63180x1 ![] bcast_S_S63180x1 (constant S_ .f32 0x7FC00000#32))

def lossV (s : FVec Ideal S2x101916 .f32) (y : IVec S63180 32) : FVec Ideal S_ .f32 :=
  Host.negf (Host.divf (Host.reduceAdd (takeV (logitV s) y) (constant S_ .f32 0x00000000#32) reducesTo_S63180x1_S_d0_1 h_S_) (constant S_ .f32 0x4776CC00#32))

variable (m : (ℓ : Loc nD τ sig) → Buf (Elt Ideal) ℓ) (c : Dev nD)

/-- The similarity array of the launch's arguments. -/
abbrev semM : FVec Ideal S2x101916 .f32 :=
  semV (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem out0 : res_out0 m c = semM m c := rfl
theorem out2 : res_out2 m c = predCV (semM m c) := rfl
theorem out3 : res_out3 m c = predBV (semM m c) := rfl
theorem out4 : res_out4 m c = predOV (semM m c) := rfl
theorem out1 : res_out1 m c = lossV (semM m c) (m ((c.tc : Thread nD τ).loc main_arg5)) := rfl

end Cert.Proof.ReferenceIdeal

end
-- ==== Proof.Value.RefRead.lean ====
/-
  The reference's pieces read at an index.
-/
module

public import proofs.«01_k».proof.Proof.Value.RefTerm
public import Idealize.ShloMosaic.Lib.Pointwise
public import Idealize.ShloMosaic.Lib.IdealHost

@[expose] public section

set_option maxRecDepth 16384

noncomputable section

namespace Cert.Proof.ReferenceIdeal

open Cert.ReferenceIdeal Cert.ReferenceIdeal.Gen Cert.ReferenceIdeal.Value
open Idealize.ShloMosaic
open Idealize.ShloMosaic.TcCoe Idealize.ShloMosaic.Tactic

theorem maskV_apply (v : BitVec 32) (y : IVec S63180 32) (r : Fin 63180) : maskV v y (ix1 r) = if y (ix1 r) = v then (1 : EReal) else 0 := by
  pointwise [maskV]
  show FloatOps.uitofp FTy.f32 (BitVec.ofBool (decide (y (ix1 r) = v))) = _
  by_cases h : y (ix1 r) = v
  · rw [if_pos h, decide_eq_true h]
    simp [FloatOps.uitofp]
  · rw [if_neg h, decide_eq_false h]
    simp [FloatOps.uitofp]

theorem meanV_apply (x : AC) (k : FVec Ideal S63180 .f32) (j : Fin 128) :
    meanV x k (ix1 j) = Ideal.div (∑ r : Fin 63180, x (ix2 r j) * k (ix1 r)) (max (∑ r : Fin 63180, k (ix1 r)) 1) := by
  pointwise [meanV]

theorem featV_apply (x0 : AC) (x1 : AB) (x2 : AO) (r : Fin 101916) (j : Fin 128) :
    featV x0 x1 x2 (ix2 r j) = if h : r.val < 63180 then x0 (ix2 ⟨r.val, h⟩ j) else if h : r.val - 63180 < 34588 then x1 (ix2 ⟨r.val - 63180, h⟩ j)
      else x2 (ix2 ⟨r.val - 63180 - 34588, by omega⟩ j) := by
  pointwise [featV]

theorem rowsV_apply (v : FVec Ideal S128 .f32) (r : Fin 101916) (j : Fin 128) : rowsV v (ix2 r j) = v (ix1 j) := by
  pointwise [rowsV]

theorem hadV_apply (w0 w1 f : AN) (r : Fin 101916) (j : Fin 128) :
    hadV w0 w1 f (ix2 r j) = Ideal.ofBits .f32 0x3F000000#32 * (w0 (ix2 r j) * f (ix2 r j) + w1 (ix2 r j) * f (ix2 r j)) := by
  pointwise [hadV]

theorem normV_apply (h : AN) (r : Fin 101916) :
    normV h (ix1 r) = max (Ideal.sqrt (∑ j : Fin 128, h (ix2 r j) * h (ix2 r j))) (Ideal.ofBits .f32 0x322BCC77#32) := by
  pointwise [normV]

theorem cosV_apply (h g : AN) (r : Fin 101916) :
    cosV h g (ix1 r) = Ideal.div (∑ j : Fin 128, h (ix2 r j) * g (ix2 r j)) (normV h (ix1 r) * normV g (ix1 r)) := by
  pointwise [cosV]

theorem pairV_0 (t f : FVec Ideal S101916 .f32) (r : Fin 101916) : pairV t f (ix2 (0 : Fin 2) r) = t (ix1 r) := by
  pointwise [pairV]

theorem pairV_1 (t f : FVec Ideal S101916 .f32) (r : Fin 101916) : pairV t f (ix2 (1 : Fin 2) r) = f (ix1 r) := by
  pointwise [pairV]

theorem predCV_apply (s : FVec Ideal S2x101916 .f32) (r : Fin 63180) : predCV s (ix1 r)
    = BitVec.setWidth 32 (BitVec.ofBool (decide (s (ix2 (0 : Fin 2) (⟨r.val, by omega⟩ : Fin 101916)) < s (ix2 (1 : Fin 2) (⟨r.val, by omega⟩ : Fin 101916))))) := by
  pointwise [predCV]

theorem predBV_apply (s : FVec Ideal S2x101916 .f32) (r : Fin 34588) : predBV s (ix1 r)
    = BitVec.setWidth 32 (BitVec.ofBool (decide (s (ix2 (0 : Fin 2) (⟨63180 + r.val, by omega⟩ : Fin 101916)) < s (ix2 (1 : Fin 2) (⟨63180 + r.val, by omega⟩ : Fin 101916))))) := by
  pointwise [predBV]

theorem predOV_apply (s : FVec Ideal S2x101916 .f32) (r : Fin 4148) : predOV s (ix1 r)
    = BitVec.setWidth 32 (BitVec.ofBool (decide (s (ix2 (0 : Fin 2) (⟨97768 + r.val, by omega⟩ : Fin 101916)) < s (ix2 (1 : Fin 2) (⟨97768 + r.val, by omega⟩ : Fin 101916))))) := by
  pointwise [predOV]

theorem logitV_apply (s : FVec Ideal S2x101916 .f32) (r : Fin 63180) (k : Fin 2) : logitV s (ix2 r k) = s (ix2 k (⟨r.val, by omega⟩ : Fin 101916)) := by
  pointwise [logitV]

theorem ofBits_bot : Ideal.ofBits .f32 0xFF800000#32 = (⊥ : EReal) := by
  simp [Ideal.ofBits, Ideal.ieee]

theorem fin2 : (Finset.univ : Finset (Fin 2)) = {0, 1} := by decide

theorem topV_apply (l : FVec Ideal S63180x2 .f32) (r : Fin 63180) : topV l (ix1 r) = max (l (ix2 r (0 : Fin 2))) (l (ix2 r (1 : Fin 2))) := by
  pointwise [topV]
  rw [ofBits_bot, max_bot_left]
  show Finset.fold max ⊥ (fun x : Fin 2 => l (ix2 r x)) Finset.univ = _
  rw [fin2, Finset.fold_insert (by decide), Finset.fold_singleton, max_bot_right]

theorem shiftV_apply (l : FVec Ideal S63180x2 .f32) (r : Fin 63180) (k : Fin 2) : shiftV l (ix2 r k) = l (ix2 r k) - topV l (ix1 r) := by
  pointwise [shiftV]

theorem logpV_apply (l : FVec Ideal S63180x2 .f32) (r : Fin 63180) (k : Fin 2) : logpV l (ix2 r k)
    = shiftV l (ix2 r k) - Ideal.log (Ideal.exp (shiftV l (ix2 r (0 : Fin 2))) + Ideal.exp (shiftV l (ix2 r (1 : Fin 2)))) := by
  pointwise [logpV]
  exact congrArg (fun e => shiftV l (ix2 r k) - Ideal.log e) (Fin.sum_univ_two fun x : Fin 2 => Ideal.exp (shiftV l (ix2 r x)))

theorem pickV_apply (y : IVec S63180 32) (r : Fin 63180) (h : y (ix1 r) = 0#32 ∨ y (ix1 r) = 1#32) : pickV y (ix3 r (0 : Fin 1) (0 : Fin 1)) = y (ix1 r) := by
  pointwise [pickV, labV]
  rcases h with h | h <;> rw [h] <;> rfl

theorem okV_apply (y : IVec S63180 32) (r : Fin 63180) (h : y (ix1 r) = 0#32 ∨ y (ix1 r) = 1#32) : okV y (ix2 r (0 : Fin 1)) = 1#1 := by
  pointwise [okV]
  show Finset.fold IntOp.andi (1#1) (fun x : Fin 1 => IntOp.andi (IntOp.cmpi CmpIPredicate.sge (pickV y (ix3 r (0 : Fin 1) x)) 0#32)
    (IntOp.cmpi CmpIPredicate.sle (pickV y (ix3 r (0 : Fin 1) x)) 1#32)) Finset.univ = _
  rw [show (Finset.univ : Finset (Fin 1)) = {0} from rfl, Finset.fold_singleton, pickV_apply y r h]
  rcases h with h | h <;> rw [h] <;> rfl

theorem gather_apply (l : FVec Ideal S63180x2 .f32) (p : IVec S63180x1x1 32) (r : Fin 63180) (k : Fin 2)
    (h : p (ix3 r (0 : Fin 1) (0 : Fin 1)) = BitVec.ofNat 32 k.val) :
    Host.gather gather_S63180x2_S63180x1x1_S63180x1_n_1_0_0_1_2_11 l p (ix2 r (0 : Fin 1)) = l (ix2 r k) := by
  unfold Host.gather
  refine congrArg l (funext fun a => Fin.ext ?_)
  fin_cases a
  · show GatherDims.start _ (ix2 r (0 : Fin 1)) p 0 + GatherDims.batchCoord _ (ix2 r (0 : Fin 1)) 0 + GatherDims.offCoord _ (ix2 r (0 : Fin 1)) 0 = r.val
    rw [GatherDims.start_batching _ _ _ _ (by decide), GatherDims.offCoord_eq_zero _ _ _ (by decide), Nat.zero_add, Nat.add_zero]
    rfl
  · show GatherDims.start _ (ix2 r (0 : Fin 1)) p 1 + GatherDims.batchCoord _ (ix2 r (0 : Fin 1)) 1 + GatherDims.offCoord _ (ix2 r (0 : Fin 1)) 1 = k.val
    rw [GatherDims.batchCoord_eq_zero _ _ _ (by decide), GatherDims.offCoord_eq_zero _ _ _ (by decide), Nat.add_zero]
    have e : GatherDims.siIdx gather_S63180x2_S63180x1x1_S63180x1_n_1_0_0_1_2_11 (ix2 r (0 : Fin 1)) ⟨0, by decide⟩
        = ix3 r (0 : Fin 1) (0 : Fin 1) := by
      funext b
      fin_cases b <;> rfl
    show min (p (GatherDims.siIdx gather_S63180x2_S63180x1x1_S63180x1_n_1_0_0_1_2_11 (ix2 r (0 : Fin 1)) ⟨0, by decide⟩)).toInt.toNat 1 = k.val
    rw [e, h]
    fin_cases k <;> rfl

theorem takeV_apply (l : FVec Ideal S63180x2 .f32) (y : IVec S63180 32) (r : Fin 63180) (k : Fin 2) (h : y (ix1 r) = BitVec.ofNat 32 k.val) :
    takeV l y (ix2 r (0 : Fin 1)) = logpV l (ix2 r k) := by
  pointwise [takeV]
  have hb : y (ix1 r) = 0#32 ∨ y (ix1 r) = 1#32 := by rw [h]; fin_cases k <;> simp
  rw [okV_apply y r hb, show ∀ a b : EReal, Scalar.select 1#1 a b = a from fun _ _ => rfl]
  exact gather_apply (logpV l) (pickV y) r k ((pickV_apply y r hb).trans h)

theorem lossV_apply (s : FVec Ideal S2x101916 .f32) (y : IVec S63180 32) (i : S_.Idx) :
    lossV s y i = -(Ideal.div (∑ r : Fin 63180, takeV (logitV s) y (ix2 r (0 : Fin 1))) (Ideal.ofBits .f32 0x4776CC00#32)) := by
  pointwise [lossV]
  simp only [Fin.sum_univ_one]

end Cert.Proof.ReferenceIdeal

end
-- ==== Proof.Value.RefReal.lean ====
/-
  The reference's values over real arguments.
-/
module

public import proofs.«01_k».proof.Proof.Value.Args
public import proofs.«01_k».proof.Proof.Value.RefRead

@[expose] public section

set_option maxRecDepth 16384

noncomputable section

namespace Cert.Proof.ReferenceIdeal

open Cert.ReferenceIdeal Cert.ReferenceIdeal.Gen Cert.ReferenceIdeal.Value
open Idealize.ShloMosaic
open Cert.Proof.KernelIdeal (meanR simR logpR hadE cosE logpE mean_coe cosE_sim logpE_coe mean_neg ofBits_rows)

theorem cosV_row (h g : AN) (r : Fin 101916) : cosV h g (ix1 r) = cosE (fun j => h (ix2 r j)) (fun j => g (ix2 r j)) := by
  rw [cosV_apply, normV_apply, normV_apply]
  rfl

theorem hadV_row (w0 w1 f : AN) (r : Fin 101916) :
    (fun j => hadV w0 w1 f (ix2 r j)) = hadE (fun j => w0 (ix2 r j)) (fun j => w1 (ix2 r j)) (fun j => f (ix2 r j)) :=
  funext fun j => hadV_apply w0 w1 f r j

variable {x0 : AC} {x1 : AB} {x2 : AO} {w0 w1 : AN} {y : IVec S63180 32} (R : Reals x0 x1 x2 w0 w1 y)

include R

theorem mask1_real (r : Fin 63180) : maskV 1#32 y (ix1 r) = (R.lab r : EReal) := by
  rw [maskV_apply]
  unfold Reals.lab
  split
  · exact EReal.coe_one.symm
  · exact EReal.coe_zero.symm

theorem mask0_real (r : Fin 63180) : maskV 0#32 y (ix1 r) = ((1 - R.lab r : ℝ) : EReal) := by
  rw [maskV_apply]
  unfold Reals.lab
  rcases R.hy (ix1 r) with h | h
  · rw [if_pos h, if_neg (by rw [h]; decide), sub_zero, EReal.coe_one]
  · rw [if_neg (by rw [h]; decide), if_pos h, sub_self, EReal.coe_zero]

theorem mean1_real (j : Fin 128) : meanV x0 (maskV 1#32 y) (ix1 j) = (R.mean 0 j : EReal) := by
  rw [meanV_apply, Finset.sum_congr rfl fun r _ => by rw [R.h0, mask1_real R], Finset.sum_congr rfl fun r _ => mask1_real R r]
  exact mean_coe (fun r => R.X0 (ix2 r j)) R.lab

theorem mean0_real (j : Fin 128) : meanV x0 (maskV 0#32 y) (ix1 j) = (R.mean 1 j : EReal) := by
  rw [meanV_apply, Finset.sum_congr rfl fun r _ => by rw [R.h0, mask0_real R], Finset.sum_congr rfl fun r _ => mask0_real R r]
  exact mean_coe (fun r => R.X0 (ix2 r j)) (fun r => 1 - R.lab r)

theorem feat_real (r : Fin 101916) (j : Fin 128) : featV x0 x1 x2 (ix2 r j) = (R.row r j : EReal) := by
  rw [featV_apply]
  unfold Reals.row
  split
  · exact R.h0 _
  · split
    · exact R.h1 _
    · exact R.h2 _

theorem cos_real (v : FVec Ideal S128 .f32) (k : Fin 2) (hv : ∀ j, v (ix1 j) = (R.mean k j : EReal)) (r : Fin 101916) :
    cosV (hadV w0 w1 (featV x0 x1 x2)) (hadV w0 w1 (rowsV v)) (ix1 r) = (R.sim r k : EReal) := by
  rw [cosV_row, hadV_row, hadV_row, show (fun j => featV x0 x1 x2 (ix2 r j)) = _ from funext fun j => feat_real R r j,
    show (fun j => rowsV v (ix2 r j)) = _ from funext fun j => (rowsV_apply v r j).trans (hv j)]
  exact cosE_sim _ _ _ _

/-- The first result, entry by entry. -/
theorem sem_real (k : Fin 2) (r : Fin 101916) : semV x0 x1 x2 w0 w1 y (ix2 k r) = (R.sim r k : EReal) := by
  unfold semV
  fin_cases k
  · exact (pairV_0 _ _ r).trans (cos_real R _ 0 (mean1_real R) r)
  · exact (pairV_1 _ _ r).trans (cos_real R _ 1 (mean0_real R) r)

theorem logp_real (r : Fin 63180) (k : Fin 2) : logpV (logitV (semV x0 x1 x2 w0 w1 y)) (ix2 r k)
    = (logpR (R.sim ⟨r.val, by omega⟩ 0) (R.sim ⟨r.val, by omega⟩ 1) (R.sim ⟨r.val, by omega⟩ k) : EReal) := by
  rw [logpV_apply, shiftV_apply, shiftV_apply, shiftV_apply, topV_apply, logitV_apply, logitV_apply, logitV_apply, sem_real R, sem_real R, sem_real R]
  exact logpE_coe _ _ _

theorem take_real (r : Fin 63180) : takeV (logitV (semV x0 x1 x2 w0 w1 y)) y (ix2 r (0 : Fin 1)) = ((-R.loss r : ℝ) : EReal) := by
  unfold Reals.loss
  rw [neg_neg]
  rcases R.hy (ix1 r) with h | h
  · rw [takeV_apply _ y r 0 h, logp_real R, if_neg (by rw [h]; decide)]
  · rw [takeV_apply _ y r 1 h, logp_real R, if_pos h]

/-- The second result. -/
theorem loss_real (i : S_.Idx) : lossV (semV x0 x1 x2 w0 w1 y) y i = Ideal.div (∑ r, (R.loss r : EReal)) 63180 := by
  rw [lossV_apply, Finset.sum_congr rfl fun r _ => take_real R r, ofBits_rows, mean_neg]
  simp only [neg_neg]

end Cert.Proof.ReferenceIdeal

end
-- ==== Proof.Value.Points.lean ====
/-
  What one point of the grid computes, row by row: each payload of the body at the blocks the point reads is the closed
  form of its rows.
-/
module

public import proofs.«01_k».proof.Proof.Value.Data

@[expose] public section

set_option maxRecDepth 16384

noncomputable section

namespace Cert.Proof.KernelIdeal

open Cert.KernelIdeal Cert.KernelIdeal.Gen
open Idealize.ShloMosaic
open Idealize.ShloMosaic.TcCoe
open Idealize.SL Idealize.SL.RA
open Idealize.ShloMosaic.Pipeline (Dat Cfg Window)

variable (m : (ℓ : Loc nD τ sig) → Buf (Elt Ideal) ℓ) (c : Dev nD)

/-! ## The weights a point waits for -/

theorem rowOf_lt (b : Fin 48) (r : Fin 2048) : rowOf b.val + r.val < 101916 := by unfold rowOf; split <;> omega

theorem payload3 (b : Fin 48) (r : Fin 2048) (j : Fin 128) :
    payload (F := Ideal) c A3 (V m c main_arg3) b (ix2 r j) = w0v m c (rowOf b.val + r.val) j := by
  unfold w0v rowA
  rw [dif_pos (rowOf_lt b r)]
  show V m c main_arg3 _ = V m c main_arg3 _
  refine congrArg (V m c main_arg3) ?_
  funext a; refine Fin.ext ?_
  fin_cases a
  · exact congrArg (rowOf b.val + ·) (Nat.one_mul _)
  · exact (Nat.zero_add _).trans (Nat.one_mul _)

theorem payload4 (b : Fin 48) (r : Fin 2048) (j : Fin 128) :
    payload (F := Ideal) c A4 (V m c main_arg4) b (ix2 r j) = w1v m c (rowOf b.val + r.val) j := by
  unfold w1v rowA
  rw [dif_pos (rowOf_lt b r)]
  show V m c main_arg4 _ = V m c main_arg4 _
  refine congrArg (V m c main_arg4) ?_
  funext a; refine Fin.ext ?_
  fin_cases a
  · exact congrArg (rowOf b.val + ·) (Nat.one_mul _)
  · exact (Nat.zero_add _).trans (Nat.one_mul _)

theorem row_co (n : ℕ) (h : 31 ≤ n ∧ n < 62) : rowOf (Ring.bk 48 (n - 31)).val = iB n * 2048 := by
  unfold rowOf iB Ring.bk; rw [Fin.val_ofNat, Nat.mod_eq_of_lt (by omega), if_pos (by omega)]; omega
theorem row_br (n : ℕ) (h : 62 ≤ n ∧ n < 79) : rowOf (Ring.bk 48 (n - 31)).val = 63180 + iC n * 2048 := by
  unfold rowOf iC Ring.bk; rw [Fin.val_ofNat, Nat.mod_eq_of_lt (by omega), if_neg (by omega)]; omega

/-- A similarity's two payload lemmas, as one. -/
theorem sem_of (X : FVec Ideal S2048x2 .f32) (r : Fin 2048) (v : FVec Ideal S4x128 .f32) (hv : (TI m c).ve v) (x w0 w1 x' w0' w1' : Fin 128 → EReal)
    (h0 : X (ix2 r (0 : Fin 2)) = cosK x w0 w1 (fun j => v (ix2 (0 : Fin 4) j)) (fun j => v (ix2 (2 : Fin 4) j)))
    (h1 : X (ix2 r (1 : Fin 2)) = cosK x w0 w1 (fun j => v (ix2 (1 : Fin 4) j)) (fun j => v (ix2 (3 : Fin 4) j)))
    (hx : x = x') (hw0 : w0 = w0') (hw1 : w1 = w1') (k : Fin 2) : X (ix2 r k) = semK m c x' w0' w1' k := by
  obtain ⟨e0, e1, e2, e3⟩ := hv
  subst hx hw0 hw1
  fin_cases k
  · show X (ix2 r (0 : Fin 2)) = semK m c x w0 w1 0
    rw [h0]; unfold semK; rw [if_pos rfl, funext e0, funext e2]
  · show X (ix2 r (1 : Fin 2)) = semK m c x w0 w1 1
    rw [h1]; unfold semK; rw [if_neg (by decide), funext e1, funext e3]

/-! ## The company points -/

section Co
variable (t : Fin cfg0.N) (hn : 31 ≤ t.val ∧ t.val < 62) (d0 : (cfg0.win 0).block.Idx → Elt Ideal (cfg0.win 0).elt) (d6 : (cfg0.win 6).block.Idx → Elt Ideal (cfg0.win 6).elt)
  (xv : FVec Ideal S4x128 .f32) (hv : (TI m c).ve xv)

abbrev xC : FVec Ideal S2048x128 .f32 := (datsI m 0 c).fetched 0 t d0
abbrev sC : FVec Ideal S2048x1 .f32 := (datsI m 0 c).fetched 6 t d6
abbrev p3 : FVec Ideal S2048x128 .f32 := payload (F := Ideal) c A3 (V m c main_arg3) (Ring.bk 48 (t.val - 31))
abbrev p4 : FVec Ideal S2048x128 .f32 := payload (F := Ideal) c A4 (V m c main_arg4) (Ring.bk 48 (t.val - 31))

include hn hv in
theorem co_sem (r : Fin 2048) (k : Fin 2) (h : iB t.val * 2048 + r.val < 63180) :
    k0_pay16 (xC m c t d0) (p3 m c t) (p4 m c t) xv (ix2 r k) = semC m c (iB t.val * 2048 + r.val) k := by
  have e : iA t.val = iB t.val := by unfold iA iB; rw [if_neg (by omega)]
  refine sem_of m c _ r xv hv _ _ _ _ _ _ (pay16_0 _ _ _ xv r) (pay16_1 _ _ _ xv r) ?_ ?_ ?_ k
  · funext j; rw [← e]; exact fetch0 m c t r j d0 (by rw [e]; exact h)
  · funext j; exact (payload3 m c _ r j).trans (by rw [row_co _ hn])
  · funext j; exact (payload4 m c _ r j).trans (by rw [row_co _ hn])

include hn hv in
theorem co_pred (r : Fin 2048) (h : iB t.val * 2048 + r.val < 63180) :
    k0_pay18 (xC m c t d0) (p3 m c t) (p4 m c t) xv (ix2 r (0 : Fin 1)) = predC m c (iB t.val * 2048 + r.val) := by
  rw [pay18_0, co_sem m c t hn d0 xv hv r 0 h, co_sem m c t hn d0 xv hv r 1 h]; rfl

include hn hv in
theorem co_loss (l : FVec Ideal S1x1 .f32) (hl : l (ix2 (0 : Fin 1) (0 : Fin 1)) = lossP m c (t.val - 31)) :
    k0_pay4 (grid0.coords t) (k0_pay17 (xC m c t d0) (p3 m c t) (p4 m c t) xv) (sC m c t d6) l (ix2 (0 : Fin 1) (0 : Fin 1)) = lossP m c (t.val - 31 + 1) := by
  have e : iB t.val = t.val - 31 := by unfold iB; omega
  refine (pay4_0 (grid0.coords t) (t.val - 31) (by rw [coords_val t]; omega) (by omega) _ _ _).trans ?_
  unfold lossP at hl ⊢
  rw [psum_succ]
  refine congrArg₂ (· + ·) hl (blockSum_congr fun r hr => ?_)
  unfold lossR
  rw [pay17_0, co_sem m c t hn d0 xv hv r 0 (by rw [e]; exact hr), co_sem m c t hn d0 xv hv r 1 (by rw [e]; exact hr)]
  have h6 : sC m c t d6 (ix2 r (0 : Fin 1)) = sv m c (iB t.val * 2048 + r.val) := fetch6 m c t r d6 (by rw [e]; exact hr)
  rw [h6, e]
end Co

/-! ## The brand points -/

section Br
variable (t : Fin cfg0.N) (hn : 62 ≤ t.val ∧ t.val < 79) (d1 : (cfg0.win 1).block.Idx → Elt Ideal (cfg0.win 1).elt)
  (xv : FVec Ideal S4x128 .f32) (hv : (TI m c).ve xv)

abbrev xB : FVec Ideal S2048x128 .f32 := (datsI m 0 c).fetched 1 t d1

include hn hv in
theorem br_sem (r : Fin 2048) (k : Fin 2) (h : iC t.val * 2048 + r.val < 34588) :
    k0_pay5 (xB m c t d1) (p3 m c t) (p4 m c t) xv (ix2 r k) = semB m c (iC t.val * 2048 + r.val) k := by
  refine sem_of m c _ r xv hv _ _ _ _ _ _ (pay16_0 _ _ _ xv r) (pay16_1 _ _ _ xv r) ?_ ?_ ?_ k
  · funext j; exact fetch1 m c t r j d1 h
  · funext j; exact (payload3 m c _ r j).trans (by rw [row_br _ hn, Nat.add_assoc])
  · funext j; exact (payload4 m c _ r j).trans (by rw [row_br _ hn, Nat.add_assoc])

include hn hv in
theorem br_pred (r : Fin 2048) (h : iC t.val * 2048 + r.val < 34588) :
    k0_pay6 (xB m c t d1) (p3 m c t) (p4 m c t) xv (ix2 r (0 : Fin 1)) = predB m c (iC t.val * 2048 + r.val) := by
  rw [pay6_0, ← pay5_eq, br_sem m c t hn d1 xv hv r 0 h, br_sem m c t hn d1 xv hv r 1 h]; rfl
end Br

/-! ## The organizer points -/

section Org
variable (t : Fin cfg0.N) (hn : 79 ≤ t.val) (d2 : (cfg0.win 2).block.Idx → Elt Ideal (cfg0.win 2).elt)
  (d3 : (cfg0.win 3).block.Idx → Elt Ideal (cfg0.win 3).elt) (d4 : (cfg0.win 4).block.Idx → Elt Ideal (cfg0.win 4).elt)
  (xv : FVec Ideal S4x128 .f32) (hv : (TI m c).ve xv)

abbrev xO : FVec Ideal S2048x128 .f32 := (datsI m 0 c).fetched 2 t d2
abbrev wO : FVec Ideal S2048x128 .f32 := (datsI m 0 c).fetched 3 t d3
abbrev uO : FVec Ideal S2048x128 .f32 := (datsI m 0 c).fetched 4 t d4

include hv in
theorem org_sem (r : Fin 2048) (k : Fin 2) (h : iD t.val * 2048 + r.val < 4148) :
    k0_pay21 (F := Ideal) (xO m c t d2) (wO m c t d3) (uO m c t d4) xv (ix2 r k) = semO m c (iD t.val * 2048 + r.val) k := by
  refine sem_of m c _ r xv hv _ _ _ _ _ _ (pay21_0 _ _ _ xv r) (pay21_1 _ _ _ xv r) ?_ ?_ ?_ k
  · funext j; exact fetch2 m c t r j d2 h
  · funext j; exact fetch3 m c t r j d3 h
  · funext j; exact fetch4 m c t r j d4 h

include hv in
theorem org_pred (r : Fin 2048) (h : iD t.val * 2048 + r.val < 4148) :
    k0_pay7 (k0_pay21 (F := Ideal) (xO m c t d2) (wO m c t d3) (uO m c t d4) xv) (ix2 r (0 : Fin 1)) = predO m c (iD t.val * 2048 + r.val) := by
  rw [pay7_0, org_sem m c t d2 d3 d4 xv hv r 0 h, org_sem m c t d2 d3 d4 xv hv r 1 h]; rfl
end Org

/-! ## The points of the means -/

section Mean
variable (t : Fin cfg0.N) (hn : t.val < 31) (d0 : (cfg0.win 0).block.Idx → Elt Ideal (cfg0.win 0).elt) (d5 : (cfg0.win 5).block.Idx → Elt Ideal (cfg0.win 5).elt)

abbrev yC : FVec Ideal S1x2048 .f32 := (datsI m 0 c).fetched 5 t d5

include hn in
theorem mean_x (r : Fin 2048) (j : Fin 128) (h : t.val * 2048 + r.val < 63180) : xC m c t d0 (ix2 r j) = xcv m c (t.val * 2048 + r.val) j := by
  have e : iA t.val = t.val := by unfold iA; rw [if_pos hn]
  have := fetch0 m c t r j d0 (by rw [e]; exact h)
  rw [e] at this; exact this
include hn in
theorem mean_y (r : Fin 2048) (h : t.val * 2048 + r.val < 63180) : yC m c t d5 (ix2 (0 : Fin 1) r) = yv m c (t.val * 2048 + r.val) := by
  have e : min t.val 30 = t.val := by omega
  have := fetch5 m c t r d5 (by rw [e]; exact h)
  rw [e] at this; exact this

include hn in
theorem mean_su (s : FVec Ideal S2x128 .f32) (hs : (∀ j, s (ix2 (0 : Fin 2) j) = tsum m c t.val j) ∧ ∀ j, s (ix2 (1 : Fin 2) j) = asum m c t.val j) :
    (TI m c).su (t.val + 1) (k0_pay12 (F := Ideal) (BitVec.ofNat 32 t.val) (xC m c t d0) (yC m c t d5) s) := by
  refine ⟨fun j => ?_, fun j => ?_⟩
  · refine (pay12_0 _ hn _ _ s j).trans ?_
    have h := hs.1 j
    unfold tsum at h ⊢
    rw [psum_succ]
    exact congrArg₂ (· + ·) h (blockSum_congr fun r hr => congrArg₂ (· * ·) (mean_y m c t hn d5 r hr) (mean_x m c t hn d0 r j hr))
  · refine (pay12_1 _ hn _ _ s j).trans ?_
    have h := hs.2 j
    unfold asum at h ⊢
    rw [psum_succ]
    exact congrArg₂ (· + ·) h (blockSum_congr fun r hr => mean_x m c t hn d0 r j hr)

include hn in
theorem mean_cn (s : FVec Ideal S1x1 .f32) (hs : s (ix2 (0 : Fin 1) (0 : Fin 1)) = tcnt m c t.val) :
    (TI m c).cn (t.val + 1) (k0_pay1 (F := Ideal) (k0_pay13 (BitVec.ofNat 32 t.val) (yC m c t d5) s)) := by
  refine (pay13_0 _ hn _ s).trans ?_
  unfold tcnt at hs ⊢
  rw [psum_succ]
  exact congrArg₂ (· + ·) hs (blockSum_congr fun r hr => mean_y m c t hn d5 r hr)

theorem mean_zero_su : (∀ j, (k0_pay10 : FVec Ideal S2x128 .f32) (ix2 (0 : Fin 2) j) = tsum m c 0 j) ∧ ∀ j, (k0_pay10 : FVec Ideal S2x128 .f32) (ix2 (1 : Fin 2) j) = asum m c 0 j :=
  ⟨fun j => by rw [pay10_0]; rfl, fun j => by rw [pay10_0]; rfl⟩
theorem mean_zero_cn : (k0_pay11 : FVec Ideal S1x1 .f32) (ix2 (0 : Fin 1) (0 : Fin 1)) = tcnt m c 0 := by rw [pay11_0]; rfl

theorem mean_ve (cn : FVec Ideal S1x1 .f32) (r0 r1 : FVec Ideal S1x128 .f32) (hc : cn (ix2 (0 : Fin 1) (0 : Fin 1)) = tcnt m c 31)
    (h0 : ∀ j, r0 (ix2 (0 : Fin 1) j) = tsum m c 31 j) (h1 : ∀ j, r1 (ix2 (0 : Fin 1) j) = asum m c 31 j) :
    (TI m c).ve (k0_pay2 (F := Ideal) cn r0 r1 r0) := by
  have e0 : ∀ j, k0_pay2 (F := Ideal) cn r0 r1 r0 (ix2 (0 : Fin 4) j) = tvec m c j := fun j => by rw [pay2_0, h0, hc]; rfl
  have e1 : ∀ j, k0_pay2 (F := Ideal) cn r0 r1 r0 (ix2 (1 : Fin 4) j) = fvec m c j := fun j => by rw [pay2_1, h0, h1, hc]; rfl
  exact ⟨e0, e1, fun j => by rw [pay2_2, e0], fun j => by rw [pay2_3, e1]⟩

theorem ld_row (X : FVec Ideal S2x128 .f32) (k : Fin 2) (off : Fin 2 → ℕ) (ho : off = ![k.val, 0]) (inb) (j : Fin 128) :
    (View.ld (Val := Elt Ideal) (e' := .f32) X (Rect.unit (s := S2x128) off S1x128.size inb) : FVec Ideal S1x128 .f32) (ix2 (0 : Fin 1) j) = X (ix2 k j) := by
  subst ho
  show X _ = X _
  refine congrArg X ?_
  funext a; refine Fin.ext ?_
  fin_cases a
  · exact congrArg (k.val + ·) (Nat.one_mul _)
  · exact (Nat.zero_add _).trans (Nat.one_mul _)
end Mean

end Cert.Proof.KernelIdeal

end
-- ==== Proof.Value.Leave.lean ====
/-
  What a point leaves in each window: an input as it was read, an idle output as it was found, a live output its rows.
-/
module

public import proofs.«01_k».proof.Proof.Value.Points
public import Idealize.ShloMosaic.Lib.Pipeline.TableIdle

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (Pipeline.UD sig nD τ) ℕ

variable (m : (ℓ : Loc nD τ sig) → Buf (Elt Ideal) ℓ) (c : Dev nD)

/-- What a window's current buffer holds when a point begins. -/
abbrev preI (w : Fin cfg0.W) (t : Fin cfg0.N) : sProp 𝕄 :=
  iprop(∃ d, owns (c : Thread nD τ) ((cfg0.win w).stage (cfg0.slots t w)) fullShare ((datsI m 0 c).before w t d))
/-- What it holds when the point ends. -/
abbrev postI (w : Fin cfg0.W) (t : Fin cfg0.N) : sProp 𝕄 := (datsI m 0 c).leaves w t

/-! ## Any window -/

/-- A loose window left at contents that agree with its closed form on the rows inside the array. -/
theorem give (w : Fin cfg0.W) (t : Fin cfg0.N) (hi : cfg0.idle w (cfg0.grid.coords t) = false) (hl : cfg0.loose w = true)
    (X : (cfg0.win w).block.Idx → Elt Ideal (cfg0.win w).elt)
    (h : ∀ j : (cfg0.win w).block.Idx, (∀ a, (j a).val < (cfg0.win w).xsize (cfg0.grid.coords t) a) → X j = (datsI m 0 c).after w t j) :
    (owns (c : Thread nD τ) ((cfg0.win w).stage (cfg0.slots t w)) fullShare X : sProp 𝕄) ⊢ postI m c w t := by
  unfold postI Dat.leaves
  rw [hi, hl]
  have e : (cfg0.win w).fill (cfg0.grid.coords t) X ((cfg0.win w).cut (cfg0.grid.coords t) ((datsI m 0 c).after w t)) = X :=
    (cfg0.win w).fill_congr_cut _ (funext fun j => h _ fun a => (j a).isLt)
  iintro H
  iexists X
  rw [e]
  iexact H

/-- An idle window that is not written back, left as found. -/
theorem pass (w : Fin cfg0.W) (t : Fin cfg0.N) (hi : cfg0.idle w (cfg0.grid.coords t) = true) (hf : (cfg0.win w).flush t = false) :
    preI m c w t ⊢ postI m c w t := by
  unfold postI Dat.leaves
  rw [hi, hf]

/-- A loose idle window written back at a point, whose block was left at an earlier one. -/
theorem pass_end (w : Fin cfg0.W) (t t' : Fin cfg0.N) (hi : cfg0.idle w (cfg0.grid.coords t) = true) (hf : (cfg0.win w).flush t = true) (hl : cfg0.loose w = true)
    (hlt : t'.val < t.val) (hfetch : ∀ t, (cfg0.win w).fetch t = false) (hi' : cfg0.idle w (cfg0.grid.coords t') = false) (hf' : (cfg0.win w).flush t' = false)
    (hrun : ∀ j : Fin cfg0.N, t'.val < j.val → j.val < t.val → cfg0.idle w (cfg0.grid.coords j) = true ∧ (cfg0.win w).flush j = false)
    (hx : ∀ a, (cfg0.win w).xsize (cfg0.grid.coords t) a = (cfg0.win w).xsize (cfg0.grid.coords t') a)
    (ha : (datsI m 0 c).after w t = (datsI m 0 c).after w t') :
    preI m c w t ⊢ postI m c w t := by
  have hb : ∀ d, (datsI m 0 c).before w t d = (datsI m 0 c).kept w t' d := fun d => by
    rw [(datsI m 0 c).before_idle_run w hfetch d (t.val - (t'.val + 1)) t (by omega) (fun j h1 h2 => hrun j (by omega) h2)]
    rw [(datsI m 0 c).before_of_pos w _ (by simp only; omega) (hfetch _)]
    have e : (⟨t.val - (t.val - (t'.val + 1)) - 1, by omega⟩ : Fin cfg0.N) = t' := Fin.ext (by simp only; omega)
    simp only [e, hf']
    rw [if_neg Bool.false_ne_true]
    unfold Dat.left
    rw [hi']
  unfold postI Dat.leaves
  rw [hi, hf, hl]
  iintro ⟨%d, H⟩
  rw [hb d]
  have e : (cfg0.win w).fill (cfg0.grid.coords t) ((datsI m 0 c).kept w t' d) ((cfg0.win w).cut (cfg0.grid.coords t) ((datsI m 0 c).after w t))
      = (datsI m 0 c).kept w t' d := by
    refine (cfg0.win w).fill_congr_cut _ (funext fun j => ?_)
    rw [Window.cut_apply, Window.cut_apply]
    unfold Dat.kept Window.fill
    rw [dif_pos (((cfg0.win w).moved_iff _ _).mpr fun a => by rw [← hx a]; exact (j a).isLt), ha]
  iexists ((datsI m 0 c).kept w t' d)
  rw [e]
  iexact H

theorem eta2 {N K : ℕ} (j : (⟨2, ![N, K]⟩ : Shape).Idx) : j = ix2 (j 0) (j 1) := by
  funext a; fin_cases a <;> rfl

theorem eta1 {N : ℕ} (j : (⟨2, ![N, 1]⟩ : Shape).Idx) : j = ix2 (j 0) (0 : Fin 1) := by
  funext a; fin_cases a
  · rfl
  · exact Fin.ext (Nat.lt_one_iff.mp (j 1).isLt)

theorem eta11 (j : (⟨2, ![1, 1]⟩ : Shape).Idx) : j = ix2 (0 : Fin 1) (0 : Fin 1) := by
  funext a; fin_cases a
  · exact Fin.ext (Nat.lt_one_iff.mp (j 0).isLt)
  · exact Fin.ext (Nat.lt_one_iff.mp (j 1).isLt)

/-! ## The inputs -/

theorem pre_in0 (t : Fin cfg0.N) : preI m c 0 t ⊢ iprop(∃ d, owns (c : Thread nD τ) ((cfg0.win 0).stage (cfg0.slots t 0)) fullShare ((datsI m 0 c).fetched 0 t d)) := by
  iintro ⟨%d, H⟩
  rw [before_in0]
  iexists d
  iexact H
theorem post_in0 (t : Fin cfg0.N) (d) : (owns (c : Thread nD τ) ((cfg0.win 0).stage (cfg0.slots t 0)) fullShare ((datsI m 0 c).fetched 0 t d) : sProp 𝕄) ⊢ postI m c 0 t :=
  give m c 0 t rfl rfl _ fun j h => by
    rw [show (datsI m 0 c).after 0 t = inBlk m c 0 t by simp only [datsI]]
    unfold Dat.fetched inBlk Window.fill
    rw [dif_pos (((cfg0.win 0).moved_iff _ _).mpr h), dif_pos (((cfg0.win 0).moved_iff _ _).mpr h)]
    rfl
theorem keep_in0 (t : Fin cfg0.N) : preI m c 0 t ⊢ postI m c 0 t := by
  iintro H
  ihave H := (pre_in0 m c t) $$ H
  icases H with ⟨%d, H⟩
  iapply (post_in0 m c t d)
  iexact H

theorem pre_in1 (t : Fin cfg0.N) : preI m c 1 t ⊢ iprop(∃ d, owns (c : Thread nD τ) ((cfg0.win 1).stage (cfg0.slots t 1)) fullShare ((datsI m 0 c).fetched 1 t d)) := by
  iintro ⟨%d, H⟩
  rw [before_in1]
  iexists d
  iexact H
theorem post_in1 (t : Fin cfg0.N) (d) : (owns (c : Thread nD τ) ((cfg0.win 1).stage (cfg0.slots t 1)) fullShare ((datsI m 0 c).fetched 1 t d) : sProp 𝕄) ⊢ postI m c 1 t :=
  give m c 1 t rfl rfl _ fun j h => by
    rw [show (datsI m 0 c).after 1 t = inBlk m c 1 t by simp only [datsI]]
    unfold Dat.fetched inBlk Window.fill
    rw [dif_pos (((cfg0.win 1).moved_iff _ _).mpr h), dif_pos (((cfg0.win 1).moved_iff _ _).mpr h)]
    rfl
theorem keep_in1 (t : Fin cfg0.N) : preI m c 1 t ⊢ postI m c 1 t := by
  iintro H
  ihave H := (pre_in1 m c t) $$ H
  icases H with ⟨%d, H⟩
  iapply (post_in1 m c t d)
  iexact H

theorem pre_in2 (t : Fin cfg0.N) : preI m c 2 t ⊢ iprop(∃ d, owns (c : Thread nD τ) ((cfg0.win 2).stage (cfg0.slots t 2)) fullShare ((datsI m 0 c).fetched 2 t d)) := by
  iintro ⟨%d, H⟩
  rw [before_in2]
  iexists d
  iexact H
theorem post_in2 (t : Fin cfg0.N) (d) : (owns (c : Thread nD τ) ((cfg0.win 2).stage (cfg0.slots t 2)) fullShare ((datsI m 0 c).fetched 2 t d) : sProp 𝕄) ⊢ postI m c 2 t :=
  give m c 2 t rfl rfl _ fun j h => by
    rw [show (datsI m 0 c).after 2 t = inBlk m c 2 t by simp only [datsI]]
    unfold Dat.fetched inBlk Window.fill
    rw [dif_pos (((cfg0.win 2).moved_iff _ _).mpr h), dif_pos (((cfg0.win 2).moved_iff _ _).mpr h)]
    rfl
theorem keep_in2 (t : Fin cfg0.N) : preI m c 2 t ⊢ postI m c 2 t := by
  iintro H
  ihave H := (pre_in2 m c t) $$ H
  icases H with ⟨%d, H⟩
  iapply (post_in2 m c t d)
  iexact H

theorem pre_in3 (t : Fin cfg0.N) : preI m c 3 t ⊢ iprop(∃ d, owns (c : Thread nD τ) ((cfg0.win 3).stage (cfg0.slots t 3)) fullShare ((datsI m 0 c).fetched 3 t d)) := by
  iintro ⟨%d, H⟩
  rw [before_in3]
  iexists d
  iexact H
theorem post_in3 (t : Fin cfg0.N) (d) : (owns (c : Thread nD τ) ((cfg0.win 3).stage (cfg0.slots t 3)) fullShare ((datsI m 0 c).fetched 3 t d) : sProp 𝕄) ⊢ postI m c 3 t :=
  give m c 3 t rfl rfl _ fun j h => by
    rw [show (datsI m 0 c).after 3 t = inBlk m c 3 t by simp only [datsI]]
    unfold Dat.fetched inBlk Window.fill
    rw [dif_pos (((cfg0.win 3).moved_iff _ _).mpr h), dif_pos (((cfg0.win 3).moved_iff _ _).mpr h)]
    rfl
theorem keep_in3 (t : Fin cfg0.N) : preI m c 3 t ⊢ postI m c 3 t := by
  iintro H
  ihave H := (pre_in3 m c t) $$ H
  icases H with ⟨%d, H⟩
  iapply (post_in3 m c t d)
  iexact H

theorem pre_in4 (t : Fin cfg0.N) : preI m c 4 t ⊢ iprop(∃ d, owns (c : Thread nD τ) ((cfg0.win 4).stage (cfg0.slots t 4)) fullShare ((datsI m 0 c).fetched 4 t d)) := by
  iintro ⟨%d, H⟩
  rw [before_in4]
  iexists d
  iexact H
theorem post_in4 (t : Fin cfg0.N) (d) : (owns (c : Thread nD τ) ((cfg0.win 4).stage (cfg0.slots t 4)) fullShare ((datsI m 0 c).fetched 4 t d) : sProp 𝕄) ⊢ postI m c 4 t :=
  give m c 4 t rfl rfl _ fun j h => by
    rw [show (datsI m 0 c).after 4 t = inBlk m c 4 t by simp only [datsI]]
    unfold Dat.fetched inBlk Window.fill
    rw [dif_pos (((cfg0.win 4).moved_iff _ _).mpr h), dif_pos (((cfg0.win 4).moved_iff _ _).mpr h)]
    rfl
theorem keep_in4 (t : Fin cfg0.N) : preI m c 4 t ⊢ postI m c 4 t := by
  iintro H
  ihave H := (pre_in4 m c t) $$ H
  icases H with ⟨%d, H⟩
  iapply (post_in4 m c t d)
  iexact H

theorem pre_in5 (t : Fin cfg0.N) : preI m c 5 t ⊢ iprop(∃ d, owns (c : Thread nD τ) ((cfg0.win 5).stage (cfg0.slots t 5)) fullShare ((datsI m 0 c).fetched 5 t d)) := by
  iintro ⟨%d, H⟩
  rw [before_in5]
  iexists d
  iexact H
theorem post_in5 (t : Fin cfg0.N) (d) : (owns (c : Thread nD τ) ((cfg0.win 5).stage (cfg0.slots t 5)) fullShare ((datsI m 0 c).fetched 5 t d) : sProp 𝕄) ⊢ postI m c 5 t :=
  give m c 5 t rfl rfl _ fun j h => by
    rw [show (datsI m 0 c).after 5 t = inBlk m c 5 t by simp only [datsI]]
    unfold Dat.fetched inBlk Window.fill
    rw [dif_pos (((cfg0.win 5).moved_iff _ _).mpr h), dif_pos (((cfg0.win 5).moved_iff _ _).mpr h)]
    rfl
theorem keep_in5 (t : Fin cfg0.N) : preI m c 5 t ⊢ postI m c 5 t := by
  iintro H
  ihave H := (pre_in5 m c t) $$ H
  icases H with ⟨%d, H⟩
  iapply (post_in5 m c t d)
  iexact H

theorem pre_in6 (t : Fin cfg0.N) : preI m c 6 t ⊢ iprop(∃ d, owns (c : Thread nD τ) ((cfg0.win 6).stage (cfg0.slots t 6)) fullShare ((datsI m 0 c).fetched 6 t d)) := by
  iintro ⟨%d, H⟩
  rw [before_in6]
  iexists d
  iexact H
theorem post_in6 (t : Fin cfg0.N) (d) : (owns (c : Thread nD τ) ((cfg0.win 6).stage (cfg0.slots t 6)) fullShare ((datsI m 0 c).fetched 6 t d) : sProp 𝕄) ⊢ postI m c 6 t :=
  give m c 6 t rfl rfl _ fun j h => by
    rw [show (datsI m 0 c).after 6 t = inBlk m c 6 t by simp only [datsI]]
    unfold Dat.fetched inBlk Window.fill
    rw [dif_pos (((cfg0.win 6).moved_iff _ _).mpr h), dif_pos (((cfg0.win 6).moved_iff _ _).mpr h)]
    rfl
theorem keep_in6 (t : Fin cfg0.N) : preI m c 6 t ⊢ postI m c 6 t := by
  iintro H
  ihave H := (pre_in6 m c t) $$ H
  icases H with ⟨%d, H⟩
  iapply (post_in6 m c t d)
  iexact H

/-! ## The outputs -/

theorem idle7 : ∀ t : Fin grid0.N, (t.val < 31 ∨ 62 ≤ t.val) → cfg0.idle 7 (grid0.coords t) = true ∧ (t.val ≠ 81 → win0_7.flush t = false) := by decide +kernel
theorem end7 : cfg0.idle 7 (grid0.coords ⟨61, by decide⟩) = false ∧ win0_7.flush ⟨61, by decide⟩ = false ∧ win0_7.flush ⟨81, by decide⟩ = true := by decide +kernel
theorem keep7 (t : Fin cfg0.N) (h : t.val < 31 ∨ 62 ≤ t.val) : preI m c 7 t ⊢ postI m c 7 t := by
  by_cases he : t.val = 81
  · have ht : t = (⟨81, by decide⟩ : Fin grid0.N) := Fin.ext he
    subst ht
    exact pass_end m c 7 _ (⟨61, by decide⟩ : Fin grid0.N) (idle7 _ h).1 end7.2.2 rfl (by decide) (Window.fetch_out _ rfl) end7.1 end7.2.1
      (fun j h1 h2 => ⟨(idle7 j (Or.inr h1)).1, (idle7 j (Or.inr h1)).2 (Nat.ne_of_lt h2)⟩) (fun a => by
        show win0_7.xsize (grid0.coords ⟨81, by decide⟩) a = win0_7.xsize (grid0.coords ⟨61, by decide⟩) a
        rw [xs7, xs7]; rfl) rfl
  · exact pass m c 7 t (idle7 t h).1 ((idle7 t h).2 he)
theorem live7 : ∀ t : Fin grid0.N, (31 ≤ t.val ∧ t.val < 62) → cfg0.idle 7 (grid0.coords t) = false := by decide +kernel
theorem give7 (t : Fin cfg0.N) (hn : 31 ≤ t.val ∧ t.val < 62) (X : S2048x2.Idx → Elt Ideal .f32)
    (h : ∀ (r : Fin 2048) (k : Fin 2), iB t.val * 2048 + r.val < 63180 → X (ix2 r k) = semC m c (iB t.val * 2048 + r.val) k) :
    (owns (c : Thread nD τ) ((cfg0.win 7).stage (cfg0.slots t 7)) fullShare X : sProp 𝕄) ⊢ postI m c 7 t :=
  give m c 7 t (live7 t hn) rfl X fun j hj => by
    have h0 : (j 0).val < win0_7.xsize (grid0.coords t) 0 := hj 0
    rw [xs7] at h0
    have h1 : (j 0).val < min 2048 (63180 - 2048 * iB t.val) := h0
    refine (congrArg X (eta2 (N := 2048) (K := 2) j)).trans ((h (j 0) (j 1) (by have := h1; omega)).trans ?_)
    rw [show (datsI m 0 c).after 7 t = semOut (s := 2048) (semC m c) (iB t.val) by simp only [datsI]]
    rfl

theorem idle8 : ∀ t : Fin grid0.N, (t.val < 31 ∨ 62 ≤ t.val) → cfg0.idle 8 (grid0.coords t) = true ∧ (t.val ≠ 81 → win0_8.flush t = false) := by decide +kernel
theorem end8 : cfg0.idle 8 (grid0.coords ⟨61, by decide⟩) = false ∧ win0_8.flush ⟨61, by decide⟩ = false ∧ win0_8.flush ⟨81, by decide⟩ = true := by decide +kernel
theorem keep8 (t : Fin cfg0.N) (h : t.val < 31 ∨ 62 ≤ t.val) : preI m c 8 t ⊢ postI m c 8 t := by
  by_cases he : t.val = 81
  · have ht : t = (⟨81, by decide⟩ : Fin grid0.N) := Fin.ext he
    subst ht
    exact pass_end m c 8 _ (⟨61, by decide⟩ : Fin grid0.N) (idle8 _ h).1 end8.2.2 rfl (by decide) (Window.fetch_out _ rfl) end8.1 end8.2.1
      (fun j h1 h2 => ⟨(idle8 j (Or.inr h1)).1, (idle8 j (Or.inr h1)).2 (Nat.ne_of_lt h2)⟩) (fun a => by
        show win0_8.xsize (grid0.coords ⟨81, by decide⟩) a = win0_8.xsize (grid0.coords ⟨61, by decide⟩) a
        rw [xs8, xs8]; rfl) rfl
  · exact pass m c 8 t (idle8 t h).1 ((idle8 t h).2 he)
theorem live8 : ∀ t : Fin grid0.N, (31 ≤ t.val ∧ t.val < 62) → cfg0.idle 8 (grid0.coords t) = false := by decide +kernel
theorem give8 (t : Fin cfg0.N) (hn : 31 ≤ t.val ∧ t.val < 62) (X : S2048x1.Idx → Elt Ideal .i32)
    (h : ∀ (r : Fin 2048), iB t.val * 2048 + r.val < 63180 → X (ix2 r (0 : Fin 1)) = predC m c (iB t.val * 2048 + r.val)) :
    (owns (c : Thread nD τ) ((cfg0.win 8).stage (cfg0.slots t 8)) fullShare X : sProp 𝕄) ⊢ postI m c 8 t :=
  give m c 8 t (live8 t hn) rfl X fun j hj => by
    have h0 : (j 0).val < win0_8.xsize (grid0.coords t) 0 := hj 0
    rw [xs8] at h0
    have h1 : (j 0).val < min 2048 (63180 - 2048 * iB t.val) := h0
    refine (congrArg X (eta1 (N := 2048) j)).trans ((h (j 0) (by have := h1; omega)).trans ?_)
    rw [show (datsI m 0 c).after 8 t = predOut (s := 2048) (predC m c) (iB t.val) by simp only [datsI]]
    rfl

theorem idle9 : ∀ t : Fin grid0.N, (t.val < 62 ∨ 79 ≤ t.val) → cfg0.idle 9 (grid0.coords t) = true ∧ (t.val ≠ 81 → win0_9.flush t = false) := by decide +kernel
theorem end9 : cfg0.idle 9 (grid0.coords ⟨78, by decide⟩) = false ∧ win0_9.flush ⟨78, by decide⟩ = false ∧ win0_9.flush ⟨81, by decide⟩ = true := by decide +kernel
theorem keep9 (t : Fin cfg0.N) (h : t.val < 62 ∨ 79 ≤ t.val) : preI m c 9 t ⊢ postI m c 9 t := by
  by_cases he : t.val = 81
  · have ht : t = (⟨81, by decide⟩ : Fin grid0.N) := Fin.ext he
    subst ht
    exact pass_end m c 9 _ (⟨78, by decide⟩ : Fin grid0.N) (idle9 _ h).1 end9.2.2 rfl (by decide) (Window.fetch_out _ rfl) end9.1 end9.2.1
      (fun j h1 h2 => ⟨(idle9 j (Or.inr h1)).1, (idle9 j (Or.inr h1)).2 (Nat.ne_of_lt h2)⟩) (fun a => by
        show win0_9.xsize (grid0.coords ⟨81, by decide⟩) a = win0_9.xsize (grid0.coords ⟨78, by decide⟩) a
        rw [xs9, xs9]; rfl) rfl
  · exact pass m c 9 t (idle9 t h).1 ((idle9 t h).2 he)
theorem live9 : ∀ t : Fin grid0.N, (62 ≤ t.val ∧ t.val < 79) → cfg0.idle 9 (grid0.coords t) = false := by decide +kernel
theorem give9 (t : Fin cfg0.N) (hn : 62 ≤ t.val ∧ t.val < 79) (X : S2048x2.Idx → Elt Ideal .f32)
    (h : ∀ (r : Fin 2048) (k : Fin 2), iC t.val * 2048 + r.val < 34588 → X (ix2 r k) = semB m c (iC t.val * 2048 + r.val) k) :
    (owns (c : Thread nD τ) ((cfg0.win 9).stage (cfg0.slots t 9)) fullShare X : sProp 𝕄) ⊢ postI m c 9 t :=
  give m c 9 t (live9 t hn) rfl X fun j hj => by
    have h0 : (j 0).val < win0_9.xsize (grid0.coords t) 0 := hj 0
    rw [xs9] at h0
    have h1 : (j 0).val < min 2048 (34588 - 2048 * iC t.val) := h0
    refine (congrArg X (eta2 (N := 2048) (K := 2) j)).trans ((h (j 0) (j 1) (by have := h1; omega)).trans ?_)
    rw [show (datsI m 0 c).after 9 t = semOut (s := 2048) (semB m c) (iC t.val) by simp only [datsI]]
    rfl

theorem idle10 : ∀ t : Fin grid0.N, (t.val < 62 ∨ 79 ≤ t.val) → cfg0.idle 10 (grid0.coords t) = true ∧ (t.val ≠ 81 → win0_10.flush t = false) := by decide +kernel
theorem end10 : cfg0.idle 10 (grid0.coords ⟨78, by decide⟩) = false ∧ win0_10.flush ⟨78, by decide⟩ = false ∧ win0_10.flush ⟨81, by decide⟩ = true := by decide +kernel
theorem keep10 (t : Fin cfg0.N) (h : t.val < 62 ∨ 79 ≤ t.val) : preI m c 10 t ⊢ postI m c 10 t := by
  by_cases he : t.val = 81
  · have ht : t = (⟨81, by decide⟩ : Fin grid0.N) := Fin.ext he
    subst ht
    exact pass_end m c 10 _ (⟨78, by decide⟩ : Fin grid0.N) (idle10 _ h).1 end10.2.2 rfl (by decide) (Window.fetch_out _ rfl) end10.1 end10.2.1
      (fun j h1 h2 => ⟨(idle10 j (Or.inr h1)).1, (idle10 j (Or.inr h1)).2 (Nat.ne_of_lt h2)⟩) (fun a => by
        show win0_10.xsize (grid0.coords ⟨81, by decide⟩) a = win0_10.xsize (grid0.coords ⟨78, by decide⟩) a
        rw [xs10, xs10]; rfl) rfl
  · exact pass m c 10 t (idle10 t h).1 ((idle10 t h).2 he)
theorem live10 : ∀ t : Fin grid0.N, (62 ≤ t.val ∧ t.val < 79) → cfg0.idle 10 (grid0.coords t) = false := by decide +kernel
theorem give10 (t : Fin cfg0.N) (hn : 62 ≤ t.val ∧ t.val < 79) (X : S2048x1.Idx → Elt Ideal .i32)
    (h : ∀ (r : Fin 2048), iC t.val * 2048 + r.val < 34588 → X (ix2 r (0 : Fin 1)) = predB m c (iC t.val * 2048 + r.val)) :
    (owns (c : Thread nD τ) ((cfg0.win 10).stage (cfg0.slots t 10)) fullShare X : sProp 𝕄) ⊢ postI m c 10 t :=
  give m c 10 t (live10 t hn) rfl X fun j hj => by
    have h0 : (j 0).val < win0_10.xsize (grid0.coords t) 0 := hj 0
    rw [xs10] at h0
    have h1 : (j 0).val < min 2048 (34588 - 2048 * iC t.val) := h0
    refine (congrArg X (eta1 (N := 2048) j)).trans ((h (j 0) (by have := h1; omega)).trans ?_)
    rw [show (datsI m 0 c).after 10 t = predOut (s := 2048) (predB m c) (iC t.val) by simp only [datsI]]
    rfl

theorem idle11 : ∀ t : Fin grid0.N, t.val < 79 → cfg0.idle 11 (grid0.coords t) = true ∧ win0_11.flush t = false := by decide +kernel
theorem keep11 (t : Fin cfg0.N) (h : t.val < 79) : preI m c 11 t ⊢ postI m c 11 t := pass m c 11 t (idle11 t h).1 (idle11 t h).2
theorem live11 : ∀ t : Fin grid0.N, (79 ≤ t.val ∧ t.val < 82) → cfg0.idle 11 (grid0.coords t) = false := by decide +kernel
theorem give11 (t : Fin cfg0.N) (hn : 79 ≤ t.val ∧ t.val < 82) (X : S2048x2.Idx → Elt Ideal .f32)
    (h : ∀ (r : Fin 2048) (k : Fin 2), iD t.val * 2048 + r.val < 4148 → X (ix2 r k) = semO m c (iD t.val * 2048 + r.val) k) :
    (owns (c : Thread nD τ) ((cfg0.win 11).stage (cfg0.slots t 11)) fullShare X : sProp 𝕄) ⊢ postI m c 11 t :=
  give m c 11 t (live11 t hn) rfl X fun j hj => by
    have h0 : (j 0).val < win0_11.xsize (grid0.coords t) 0 := hj 0
    rw [xs11] at h0
    have h1 : (j 0).val < min 2048 (4148 - 2048 * iD t.val) := h0
    refine (congrArg X (eta2 (N := 2048) (K := 2) j)).trans ((h (j 0) (j 1) (by have := h1; omega)).trans ?_)
    rw [show (datsI m 0 c).after 11 t = semOut (s := 2048) (semO m c) (iD t.val) by simp only [datsI]]
    rfl

theorem idle12 : ∀ t : Fin grid0.N, t.val < 79 → cfg0.idle 12 (grid0.coords t) = true ∧ win0_12.flush t = false := by decide +kernel
theorem keep12 (t : Fin cfg0.N) (h : t.val < 79) : preI m c 12 t ⊢ postI m c 12 t := pass m c 12 t (idle12 t h).1 (idle12 t h).2
theorem live12 : ∀ t : Fin grid0.N, (79 ≤ t.val ∧ t.val < 82) → cfg0.idle 12 (grid0.coords t) = false := by decide +kernel
theorem give12 (t : Fin cfg0.N) (hn : 79 ≤ t.val ∧ t.val < 82) (X : S2048x1.Idx → Elt Ideal .i32)
    (h : ∀ (r : Fin 2048), iD t.val * 2048 + r.val < 4148 → X (ix2 r (0 : Fin 1)) = predO m c (iD t.val * 2048 + r.val)) :
    (owns (c : Thread nD τ) ((cfg0.win 12).stage (cfg0.slots t 12)) fullShare X : sProp 𝕄) ⊢ postI m c 12 t :=
  give m c 12 t (live12 t hn) rfl X fun j hj => by
    have h0 : (j 0).val < win0_12.xsize (grid0.coords t) 0 := hj 0
    rw [xs12] at h0
    have h1 : (j 0).val < min 2048 (4148 - 2048 * iD t.val) := h0
    refine (congrArg X (eta1 (N := 2048) j)).trans ((h (j 0) (by have := h1; omega)).trans ?_)
    rw [show (datsI m 0 c).after 12 t = predOut (s := 2048) (predO m c) (iD t.val) by simp only [datsI]]
    rfl

/-! ## The loss -/

theorem idle13 : ∀ t : Fin grid0.N, (t.val < 31 ∨ 62 ≤ t.val) → cfg0.idle 13 (grid0.coords t) = true := by decide +kernel
theorem live13 : ∀ t : Fin grid0.N, (31 ≤ t.val ∧ t.val < 62) → cfg0.idle 13 (grid0.coords t) = false := by decide +kernel
theorem flush13 : ∀ t : Fin grid0.N, t.val ≠ 81 → win0_13.flush t = false := by decide +kernel
theorem after13 (t : Fin cfg0.N) : (datsI m 0 c).after 13 t = (fun _ => lossP m c (min (t.val - 30) 31) : (⟨2, ![1, 1]⟩ : Shape).Idx → EReal) := by simp only [datsI]
theorem kept13 (t : Fin cfg0.N) (d) : (datsI m 0 c).kept 13 t d = (datsI m 0 c).after 13 t := by
  unfold Dat.kept
  rw [Pipeline.fill_of_clip_none 13 _ (fun _ => rfl) d ((datsI m 0 c).after 13 t)]
  exact Window.fill_cut _ _ _

theorem before13 (t : Fin cfg0.N) (hn : 31 < t.val ∧ t.val < 62) (d) :
    (datsI m 0 c).before 13 t d = (fun _ => lossP m c (t.val - 31) : (⟨2, ![1, 1]⟩ : Shape).Idx → EReal) := by
  rw [(datsI m 0 c).before_of_pos 13 t (by omega) (Window.fetch_out _ rfl t), flush13 ⟨t.val - 1, _⟩ (by simp only; omega), if_neg Bool.false_ne_true]
  unfold Dat.left
  rw [live13 ⟨t.val - 1, _⟩ (by simp only; omega)]
  simp only
  rw [kept13, after13]
  simp only
  rw [show min (t.val - 1 - 30) 31 = t.val - 31 by omega]

theorem give13 (t : Fin cfg0.N) (hn : 31 ≤ t.val ∧ t.val < 62) (X : S1x1.Idx → Elt Ideal .f32)
    (h : X (ix2 (0 : Fin 1) (0 : Fin 1)) = lossP m c (t.val - 31 + 1)) :
    (owns (c : Thread nD τ) ((cfg0.win 13).stage (cfg0.slots t 13)) fullShare X : sProp 𝕄) ⊢ postI m c 13 t := by
  have e : X = (datsI m 0 c).after 13 t := by
    rw [after13]
    funext j
    refine (congrArg X (eta11 j)).trans (h.trans ?_)
    rw [show min (t.val - 30) 31 = t.val - 31 + 1 by omega]
  unfold postI Dat.leaves
  rw [live13 t hn, e]

theorem keep13 (t : Fin cfg0.N) (h : t.val < 31 ∨ 62 ≤ t.val) : preI m c 13 t ⊢ postI m c 13 t := by
  by_cases he : t.val = 81
  · have hb : ∀ d, (datsI m 0 c).before 13 t d = (datsI m 0 c).after 13 t := fun d => by
      rw [(datsI m 0 c).before_idle_run 13 (Window.fetch_out _ rfl) d 19 t (by omega) (fun j h1 h2 => ⟨idle13 j (Or.inr (by omega)), flush13 j (by omega)⟩)]
      rw [(datsI m 0 c).before_of_pos 13 _ (by simp only; omega) (Window.fetch_out _ rfl _), flush13 ⟨t.val - 19 - 1, _⟩ (by simp only; omega), if_neg Bool.false_ne_true]
      unfold Dat.left
      rw [live13 ⟨t.val - 19 - 1, _⟩ (by simp only; omega)]
      simp only
      rw [kept13, after13, after13]
      simp only
      rw [show min (t.val - 19 - 1 - 30) 31 = min (t.val - 30) 31 by omega]
    unfold postI Dat.leaves
    rw [idle13 t h, show (cfg0.win 13).flush t = true from (flush0_13 t).mpr (by omega)]
    iintro ⟨%d, H⟩
    rw [hb d]
    iexact H
  · exact pass m c 13 t (idle13 t h) (flush13 t he)

end Cert.Proof.KernelIdeal

end
-- ==== Proof.Value.Oblig.lean ====
/-
  The exact body obligation: at every point the body, from what the windows hold there, leaves what the closed forms say
  and carries the sums and the means on.
-/
module

public import proofs.«01_k».proof.Proof.Value.Leave

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (Pipeline.UD sig nD τ) ℕ

variable (m : (ℓ : Loc nD τ sig) → Buf (Elt Ideal) ℓ) (c : Dev nD)

abbrev PhiI (n : ℕ) : sProp 𝕄 := Phi (TI m c) c (V m c main_arg3) (V m c main_arg4) n

/-- The obligation at a point. -/
def PointGoal (t : Fin cfg0.N) : Prop :=
  iprop(PhiI m c t.val
        ∗ (∃ W, owes (c : Thread nD τ) 0 W)
        ∗ preI m c 0 t
        ∗ preI m c 1 t
        ∗ preI m c 2 t
        ∗ preI m c 3 t
        ∗ preI m c 4 t
        ∗ preI m c 5 t
        ∗ preI m c 6 t
        ∗ preI m c 7 t
        ∗ preI m c 8 t
        ∗ preI m c 9 t
        ∗ preI m c 10 t
        ∗ preI m c 11 t
        ∗ preI m c 12 t
        ∗ preI m c 13 t)
      ⊢ wp frame (wpE (defs₀ (F := Ideal)) Variants.none (c : Thread nD τ) none) Set.univ (bodyAt0 (F := Ideal) t)
        (fun _ => iprop(PhiI m c (t.val + 1)
        ∗ (∃ W, owes (c : Thread nD τ) 0 W)
        ∗ postI m c 0 t
        ∗ postI m c 1 t
        ∗ postI m c 2 t
        ∗ postI m c 3 t
        ∗ postI m c 4 t
        ∗ postI m c 5 t
        ∗ postI m c 6 t
        ∗ postI m c 7 t
        ∗ postI m c 8 t
        ∗ postI m c 9 t
        ∗ postI m c 10 t
        ∗ postI m c 11 t
        ∗ postI m c 12 t
        ∗ postI m c 13 t))

theorem first_su (t : Fin cfg0.N) (hn : t.val = 0) (d0 d5) :
    (TI m c).su 1 (k0_pay12 (F := Ideal) (BitVec.ofNat 32 t.val) (xC m c t d0) (yC m c t d5) (k0_pay10 (F := Ideal))) := by
  have z : (TI m c).su t.val (k0_pay10 (F := Ideal)) := by rw [hn]; exact mean_zero_su m c
  have h := mean_su m c t (by omega) d0 d5 _ z
  rw [show t.val + 1 = 1 by omega] at h
  exact h

theorem first_cn (t : Fin cfg0.N) (hn : t.val = 0) (d5) :
    (TI m c).cn 1 (k0_pay1 (F := Ideal) (k0_pay13 (F := Ideal) (BitVec.ofNat 32 t.val) (yC m c t d5) (k0_pay11 (F := Ideal)))) := by
  have z : (TI m c).cn t.val (k0_pay11 (F := Ideal)) := by rw [hn]; exact mean_zero_cn m c
  have h := mean_cn m c t (by omega) d5 _ z
  rw [show t.val + 1 = 1 by omega] at h
  exact h

theorem pt_first (t : Fin cfg0.N) (hn : t.val = 0) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H0 := (pre_in0 m c t) $$ H0
  icases H0 with ⟨%d0, H0⟩
  ihave H5 := (pre_in5 m c t) $$ H5
  icases H5 with ⟨%d5, H5⟩
  have h := fun Q => step_mean_first (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xC m c t d0) (yC m c t d5) (by rw [hi]; exact hn) (by rw [hi]; exact first_su m c t hn d0 d5) (by rw [hi]; exact first_cn m c t hn d5) W Q
  rw [hi] at h
  iapply (h _)
  isplitl [HP]; · iexact HP
  isplitl [H0]; · iexact H0
  isplitl [H5]; · iexact H5
  isplitl [HW]; · iexact HW
  iintro ⟨HP, H0, H5, HW⟩
  isplitl [HP]; · iexact HP
  isplitl [HW]; · iexact HW
  isplitl [H0]; · iapply (post_in0 m c t d0); iexact H0
  isplitl [H1]; · iapply (keep_in1 m c t); iexact H1
  isplitl [H2]; · iapply (keep_in2 m c t); iexact H2
  isplitl [H3]; · iapply (keep_in3 m c t); iexact H3
  isplitl [H4]; · iapply (keep_in4 m c t); iexact H4
  isplitl [H5]; · iapply (post_in5 m c t d5); iexact H5
  isplitl [H6]; · iapply (keep_in6 m c t); iexact H6
  isplitl [H7]; · iapply (keep7 m c t (by omega)); iexact H7
  isplitl [H8]; · iapply (keep8 m c t (by omega)); iexact H8
  isplitl [H9]; · iapply (keep9 m c t (by omega)); iexact H9
  isplitl [H10]; · iapply (keep10 m c t (by omega)); iexact H10
  isplitl [H11]; · iapply (keep11 m c t (by omega)); iexact H11
  isplitl [H12]; · iapply (keep12 m c t (by omega)); iexact H12
  iapply (keep13 m c t (by omega)); iexact H13

theorem pt_mean (t : Fin cfg0.N) (hn : 0 < t.val ∧ t.val < 30) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H0 := (pre_in0 m c t) $$ H0
  icases H0 with ⟨%d0, H0⟩
  ihave H5 := (pre_in5 m c t) $$ H5
  icases H5 with ⟨%d5, H5⟩
  have h := fun Q => step_mean (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xC m c t d0) (yC m c t d5) (by rw [hi]; exact hn) (by rw [hi]; exact fun su h => mean_su m c t (by omega) d0 d5 su h) (by rw [hi]; exact fun cn h => mean_cn m c t (by omega) d5 cn h) W Q
  rw [hi] at h
  iapply (h _)
  isplitl [HP]; · iexact HP
  isplitl [H0]; · iexact H0
  isplitl [H5]; · iexact H5
  isplitl [HW]; · iexact HW
  iintro ⟨HP, H0, H5, HW⟩
  isplitl [HP]; · iexact HP
  isplitl [HW]; · iexact HW
  isplitl [H0]; · iapply (post_in0 m c t d0); iexact H0
  isplitl [H1]; · iapply (keep_in1 m c t); iexact H1
  isplitl [H2]; · iapply (keep_in2 m c t); iexact H2
  isplitl [H3]; · iapply (keep_in3 m c t); iexact H3
  isplitl [H4]; · iapply (keep_in4 m c t); iexact H4
  isplitl [H5]; · iapply (post_in5 m c t d5); iexact H5
  isplitl [H6]; · iapply (keep_in6 m c t); iexact H6
  isplitl [H7]; · iapply (keep7 m c t (by omega)); iexact H7
  isplitl [H8]; · iapply (keep8 m c t (by omega)); iexact H8
  isplitl [H9]; · iapply (keep9 m c t (by omega)); iexact H9
  isplitl [H10]; · iapply (keep10 m c t (by omega)); iexact H10
  isplitl [H11]; · iapply (keep11 m c t (by omega)); iexact H11
  isplitl [H12]; · iapply (keep12 m c t (by omega)); iexact H12
  iapply (keep13 m c t (by omega)); iexact H13

theorem last_ve (t : Fin cfg0.N) (hn : t.val = 30) (d0 d5) (su : FVec Ideal S2x128 .f32) (cn : FVec Ideal S1x1 .f32) (hs : (TI m c).su t.val su) (hc : (TI m c).cn t.val cn)
    (i0 i1) :
    (TI m c).ve (k0_pay2 (F := Ideal) (k0_pay1 (F := Ideal) (k0_pay13 (F := Ideal) (BitVec.ofNat 32 t.val) (yC m c t d5) cn))
      (View.ld (Val := Elt Ideal) (e' := .f32) (k0_pay12 (F := Ideal) (BitVec.ofNat 32 t.val) (xC m c t d0) (yC m c t d5) su) (Rect.unit (s := S2x128) ![0, 0] S1x128.size i0))
      (View.ld (Val := Elt Ideal) (e' := .f32) (k0_pay12 (F := Ideal) (BitVec.ofNat 32 t.val) (xC m c t d0) (yC m c t d5) su) (Rect.unit (s := S2x128) ![1, 0] S1x128.size i1))
      (View.ld (Val := Elt Ideal) (e' := .f32) (k0_pay12 (F := Ideal) (BitVec.ofNat 32 t.val) (xC m c t d0) (yC m c t d5) su) (Rect.unit (s := S2x128) ![0, 0] S1x128.size i0))) := by
  have h1 := mean_su m c t (by omega) d0 d5 su hs
  have h2 := mean_cn m c t (by omega) d5 cn hc
  have e : t.val + 1 = 31 := by omega
  rw [e] at h1 h2
  exact mean_ve m c _ _ _ h2 (fun j => (ld_row _ 0 _ rfl i0 j).trans (h1.1 j)) (fun j => (ld_row _ 1 _ rfl i1 j).trans (h1.2 j))

theorem pt_last (t : Fin cfg0.N) (hn : t.val = 30) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H0 := (pre_in0 m c t) $$ H0
  icases H0 with ⟨%d0, H0⟩
  ihave H5 := (pre_in5 m c t) $$ H5
  icases H5 with ⟨%d5, H5⟩
  have h := fun Q => step_mean_last (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xC m c t d0) (yC m c t d5) (by rw [hi]; exact hn) (by rw [hi]; exact fun su cn hs hc => last_ve m c t hn d0 d5 su cn hs hc _ _) W Q
  rw [hi] at h
  iapply (h _)
  isplitl [HP]; · iexact HP
  isplitl [H0]; · iexact H0
  isplitl [H5]; · iexact H5
  isplitl [HW]; · iexact HW
  iintro ⟨HP, H0, H5, HW⟩
  isplitl [HP]; · iexact HP
  isplitl [HW]; · iexact HW
  isplitl [H0]; · iapply (post_in0 m c t d0); iexact H0
  isplitl [H1]; · iapply (keep_in1 m c t); iexact H1
  isplitl [H2]; · iapply (keep_in2 m c t); iexact H2
  isplitl [H3]; · iapply (keep_in3 m c t); iexact H3
  isplitl [H4]; · iapply (keep_in4 m c t); iexact H4
  isplitl [H5]; · iapply (post_in5 m c t d5); iexact H5
  isplitl [H6]; · iapply (keep_in6 m c t); iexact H6
  isplitl [H7]; · iapply (keep7 m c t (by omega)); iexact H7
  isplitl [H8]; · iapply (keep8 m c t (by omega)); iexact H8
  isplitl [H9]; · iapply (keep9 m c t (by omega)); iexact H9
  isplitl [H10]; · iapply (keep10 m c t (by omega)); iexact H10
  isplitl [H11]; · iapply (keep11 m c t (by omega)); iexact H11
  isplitl [H12]; · iapply (keep12 m c t (by omega)); iexact H12
  iapply (keep13 m c t (by omega)); iexact H13

theorem pt_co_first (t : Fin cfg0.N) (hn : t.val = 31) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H0 := (pre_in0 m c t) $$ H0
  icases H0 with ⟨%d0, H0⟩
  ihave H6 := (pre_in6 m c t) $$ H6
  icases H6 with ⟨%d6, H6⟩
  have h := fun Q => step_co_first (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xC m c t d0) (sC m c t d6) (by rw [hi]; exact hn)  W Q
  rw [hi] at h
  iapply (h _)
  isplitl [HP]; · iexact HP
  isplitl [H0]; · iexact H0
  isplitl [H6]; · iexact H6
  isplitl [H7]; · icases H7 with ⟨%e7, H7⟩; iexists _; iexact H7
  isplitl [H8]; · icases H8 with ⟨%e8, H8⟩; iexists _; iexact H8
  isplitl [H13]; · icases H13 with ⟨%e13, H13⟩; iexists _; iexact H13
  isplitl [HW]; · iexact HW
  iintro ⟨HP, H0, H6, ⟨%xv, %hv, H7, H8, H13⟩, HW⟩
  isplitl [HP]; · iexact HP
  isplitl [HW]; · iexact HW
  isplitl [H0]; · iapply (post_in0 m c t d0); iexact H0
  isplitl [H1]; · iapply (keep_in1 m c t); iexact H1
  isplitl [H2]; · iapply (keep_in2 m c t); iexact H2
  isplitl [H3]; · iapply (keep_in3 m c t); iexact H3
  isplitl [H4]; · iapply (keep_in4 m c t); iexact H4
  isplitl [H5]; · iapply (keep_in5 m c t); iexact H5
  isplitl [H6]; · iapply (post_in6 m c t d6); iexact H6
  isplitl [H7]; · iapply (give7 m c t (by omega) _ (fun r k h => co_sem m c t (by omega) d0 xv hv r k h)); iexact H7
  isplitl [H8]; · iapply (give8 m c t (by omega) _ (fun r h => co_pred m c t (by omega) d0 xv hv r h)); iexact H8
  isplitl [H9]; · iapply (keep9 m c t (by omega)); iexact H9
  isplitl [H10]; · iapply (keep10 m c t (by omega)); iexact H10
  isplitl [H11]; · iapply (keep11 m c t (by omega)); iexact H11
  isplitl [H12]; · iapply (keep12 m c t (by omega)); iexact H12
  iapply (give13 m c t (by omega) _ (co_loss m c t (by omega) d0 d6 xv hv _ (by rw [hn]; exact pay3_0))); iexact H13

theorem pt_co (t : Fin cfg0.N) (hn : 31 < t.val ∧ t.val < 62) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H0 := (pre_in0 m c t) $$ H0
  icases H0 with ⟨%d0, H0⟩
  ihave H6 := (pre_in6 m c t) $$ H6
  icases H6 with ⟨%d6, H6⟩
  icases H13 with ⟨%d13, H13⟩
  rw [before13 m c t hn d13]
  have h := fun Q => step_co (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xC m c t d0) (sC m c t d6) (fun _ => lossP m c (t.val - 31)) (by rw [hi]; exact hn)  W Q
  rw [hi] at h
  iapply (h _)
  isplitl [HP]; · iexact HP
  isplitl [H0]; · iexact H0
  isplitl [H6]; · iexact H6
  isplitl [H7]; · icases H7 with ⟨%e7, H7⟩; iexists _; iexact H7
  isplitl [H8]; · icases H8 with ⟨%e8, H8⟩; iexists _; iexact H8
  isplitl [H13]; · iexact H13
  isplitl [HW]; · iexact HW
  iintro ⟨HP, H0, H6, ⟨%xv, %hv, H7, H8, H13⟩, HW⟩
  isplitl [HP]; · iexact HP
  isplitl [HW]; · iexact HW
  isplitl [H0]; · iapply (post_in0 m c t d0); iexact H0
  isplitl [H1]; · iapply (keep_in1 m c t); iexact H1
  isplitl [H2]; · iapply (keep_in2 m c t); iexact H2
  isplitl [H3]; · iapply (keep_in3 m c t); iexact H3
  isplitl [H4]; · iapply (keep_in4 m c t); iexact H4
  isplitl [H5]; · iapply (keep_in5 m c t); iexact H5
  isplitl [H6]; · iapply (post_in6 m c t d6); iexact H6
  isplitl [H7]; · iapply (give7 m c t (by omega) _ (fun r k h => co_sem m c t (by omega) d0 xv hv r k h)); iexact H7
  isplitl [H8]; · iapply (give8 m c t (by omega) _ (fun r h => co_pred m c t (by omega) d0 xv hv r h)); iexact H8
  isplitl [H9]; · iapply (keep9 m c t (by omega)); iexact H9
  isplitl [H10]; · iapply (keep10 m c t (by omega)); iexact H10
  isplitl [H11]; · iapply (keep11 m c t (by omega)); iexact H11
  isplitl [H12]; · iapply (keep12 m c t (by omega)); iexact H12
  iapply (give13 m c t (by omega) _ (co_loss m c t (by omega) d0 d6 xv hv (fun _ => lossP m c (t.val - 31)) rfl)); iexact H13

theorem pt_br (t : Fin cfg0.N) (hn : 62 ≤ t.val ∧ t.val < 78) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H1 := (pre_in1 m c t) $$ H1
  icases H1 with ⟨%d1, H1⟩
  have h := fun Q => step_br (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xB m c t d1) (by rw [hi]; exact hn)  W Q
  rw [hi] at h
  iapply (h _)
  isplitl [HP]; · iexact HP
  isplitl [H1]; · iexact H1
  isplitl [H9]; · icases H9 with ⟨%e9, H9⟩; iexists _; iexact H9
  isplitl [H10]; · icases H10 with ⟨%e10, H10⟩; iexists _; iexact H10
  isplitl [HW]; · iexact HW
  iintro ⟨HP, H1, ⟨%xv, %hv, H9, H10⟩, HW⟩
  isplitl [HP]; · iexact HP
  isplitl [HW]; · iexact HW
  isplitl [H0]; · iapply (keep_in0 m c t); iexact H0
  isplitl [H1]; · iapply (post_in1 m c t d1); iexact H1
  isplitl [H2]; · iapply (keep_in2 m c t); iexact H2
  isplitl [H3]; · iapply (keep_in3 m c t); iexact H3
  isplitl [H4]; · iapply (keep_in4 m c t); iexact H4
  isplitl [H5]; · iapply (keep_in5 m c t); iexact H5
  isplitl [H6]; · iapply (keep_in6 m c t); iexact H6
  isplitl [H7]; · iapply (keep7 m c t (by omega)); iexact H7
  isplitl [H8]; · iapply (keep8 m c t (by omega)); iexact H8
  isplitl [H9]; · iapply (give9 m c t (by omega) _ (fun r k h => br_sem m c t (by omega) d1 xv hv r k h)); iexact H9
  isplitl [H10]; · iapply (give10 m c t (by omega) _ (fun r h => br_pred m c t (by omega) d1 xv hv r h)); iexact H10
  isplitl [H11]; · iapply (keep11 m c t (by omega)); iexact H11
  isplitl [H12]; · iapply (keep12 m c t (by omega)); iexact H12
  iapply (keep13 m c t (by omega)); iexact H13

theorem pt_br_last (t : Fin cfg0.N) (hn : t.val = 78) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H1 := (pre_in1 m c t) $$ H1
  icases H1 with ⟨%d1, H1⟩
  have h := fun Q => step_br_last (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xB m c t d1) (by rw [hi]; exact hn)  W Q
  rw [hi] at h
  iapply (h _)
  isplitl [HP]; · iexact HP
  isplitl [H1]; · iexact H1
  isplitl [H9]; · icases H9 with ⟨%e9, H9⟩; iexists _; iexact H9
  isplitl [H10]; · icases H10 with ⟨%e10, H10⟩; iexists _; iexact H10
  isplitl [HW]; · iexact HW
  iintro ⟨HP, H1, ⟨%xv, %hv, H9, H10⟩, HW⟩
  isplitl [HP]; · iexact HP
  isplitl [HW]; · iexact HW
  isplitl [H0]; · iapply (keep_in0 m c t); iexact H0
  isplitl [H1]; · iapply (post_in1 m c t d1); iexact H1
  isplitl [H2]; · iapply (keep_in2 m c t); iexact H2
  isplitl [H3]; · iapply (keep_in3 m c t); iexact H3
  isplitl [H4]; · iapply (keep_in4 m c t); iexact H4
  isplitl [H5]; · iapply (keep_in5 m c t); iexact H5
  isplitl [H6]; · iapply (keep_in6 m c t); iexact H6
  isplitl [H7]; · iapply (keep7 m c t (by omega)); iexact H7
  isplitl [H8]; · iapply (keep8 m c t (by omega)); iexact H8
  isplitl [H9]; · iapply (give9 m c t (by omega) _ (fun r k h => br_sem m c t (by omega) d1 xv hv r k h)); iexact H9
  isplitl [H10]; · iapply (give10 m c t (by omega) _ (fun r h => br_pred m c t (by omega) d1 xv hv r h)); iexact H10
  isplitl [H11]; · iapply (keep11 m c t (by omega)); iexact H11
  isplitl [H12]; · iapply (keep12 m c t (by omega)); iexact H12
  iapply (keep13 m c t (by omega)); iexact H13

theorem pt_org (t : Fin cfg0.N) (hn : 79 ≤ t.val) : PointGoal m c t := by
  unfold PointGoal
  have hi : (grid0.coords t 0).val = t.val := coords_val t
  iintro ⟨HP, ⟨%W, HW⟩, H0, H1, H2, H3, H4, H5, H6, H7, H8, H9, H10, H11, H12, H13⟩
  ihave H2 := (pre_in2 m c t) $$ H2
  icases H2 with ⟨%d2, H2⟩
  ihave H3 := (pre_in3 m c t) $$ H3
  icases H3 with ⟨%d3, H3⟩
  ihave H4 := (pre_in4 m c t) $$ H4
  icases H4 with ⟨%d4, H4⟩
  have h := fun Q => step_org (TI m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_arg3) (V m c main_arg4) (xO m c t d2) (wO m c t d3) (uO m c t d4) (by rw [hi]; exact hn)  W Q
  rw [hi] at h
  iapply (h _)
  isplitl [HP]; · iexact HP
  isplitl [H2]; · iexact H2
  isplitl [H3]; · iexact H3
  isplitl [H4]; · iexact H4
  isplitl [H11]; · icases H11 with ⟨%e11, H11⟩; iexists _; iexact H11
  isplitl [H12]; · icases H12 with ⟨%e12, H12⟩; iexists _; iexact H12
  isplitl [HW]; · iexact HW
  iintro ⟨HP, H2, H3, H4, ⟨%xv, %hv, H11, H12⟩, HW⟩
  isplitl [HP]; · iexact HP
  isplitl [HW]; · iexact HW
  isplitl [H0]; · iapply (keep_in0 m c t); iexact H0
  isplitl [H1]; · iapply (keep_in1 m c t); iexact H1
  isplitl [H2]; · iapply (post_in2 m c t d2); iexact H2
  isplitl [H3]; · iapply (post_in3 m c t d3); iexact H3
  isplitl [H4]; · iapply (post_in4 m c t d4); iexact H4
  isplitl [H5]; · iapply (keep_in5 m c t); iexact H5
  isplitl [H6]; · iapply (keep_in6 m c t); iexact H6
  isplitl [H7]; · iapply (keep7 m c t (by omega)); iexact H7
  isplitl [H8]; · iapply (keep8 m c t (by omega)); iexact H8
  isplitl [H9]; · iapply (keep9 m c t (by omega)); iexact H9
  isplitl [H10]; · iapply (keep10 m c t (by omega)); iexact H10
  isplitl [H11]; · iapply (give11 m c t ⟨hn, t.isLt⟩ _ (fun r k h => org_sem m c t d2 d3 d4 xv hv r k h)); iexact H11
  isplitl [H12]; · iapply (give12 m c t ⟨hn, t.isLt⟩ _ (fun r h => org_pred m c t d2 d3 d4 xv hv r h)); iexact H12
  iapply (keep13 m c t (by omega)); iexact H13

theorem point (t : Fin cfg0.N) : PointGoal m c t := by
  have ht : t.val < 82 := t.isLt
  rcases Nat.lt_or_ge t.val 31 with h | h
  · rcases Nat.eq_zero_or_pos t.val with h0 | h0
    · exact pt_first m c t h0
    · rcases Nat.lt_or_ge t.val 30 with h1 | h1
      · exact pt_mean m c t ⟨h0, h1⟩
      · exact pt_last m c t (by omega)
  · rcases Nat.lt_or_ge t.val 62 with h1 | h1
    · rcases Nat.eq_or_lt_of_le h with h2 | h2
      · exact pt_co_first m c t h2.symm
      · exact pt_co m c t ⟨h2, h1⟩
    · rcases Nat.lt_or_ge t.val 79 with h2 | h2
      · rcases Nat.lt_or_ge t.val 78 with h3 | h3
        · exact pt_br m c t ⟨h1, h3⟩
        · exact pt_br_last m c t (by omega)
      · exact pt_org m c t h2

theorem owesI_in (t : Fin (cfg0.N + 1)) : (datsI m 0 c).owesAt () t ⊢ (iprop(∃ W, owes (c : Thread nD τ) 0 W) : sProp 𝕄) := by
  unfold Dat.owesAt Pipeline.owesWithin
  rw [show (datsI m 0 c).owed t = 0 from rfl]
  iintro ⟨%W, -, HW⟩
  iexists W; iexact HW

theorem owesI_out (t : Fin (cfg0.N + 1)) : (iprop(∃ W, owes (c : Thread nD τ) 0 W) : sProp 𝕄) ⊢ (datsI m 0 c).owesAt () t := by
  unfold Dat.owesAt Pipeline.owesWithin
  rw [show (datsI m 0 c).owed t = 0 from rfl]
  iintro ⟨%W, HW⟩
  iexists W; isplitr; · ipureintro; exact fun _ _ => Or.inl trivial
  iexact HW

theorem obligationI : Pipeline.BodyObligationLoose (datsI m 0 c) (defs₀ (F := Ideal)) Variants.none () Set.univ := fun t => by
  rw [bigSep_W0]
  refine triple_restated (point m c t) (congrArg (wp frame (wpE (defs₀ (F := Ideal)) Variants.none (c : Thread nD τ) none) Set.univ) (defs₀_row t).symm) ?_ fun _ => ?_
  · rw [show (datsI m 0 c).Φ t.castSucc = PhiI m c t.val from rfl]
    iintro ⟨HP, HW, Hr⟩
    isplitl [HP]; · iexact HP
    isplitl [HW]; · iapply (owesI_in m c t.castSucc); iexact HW
    iexact Hr
  · rw [show (datsI m 0 c).Φ t.succ = PhiI m c (t.val + 1) from rfl, bigSep_W0]
    iintro ⟨HP, HW, Hr⟩
    isplitl [HP]; · iexact HP
    isplitl [HW]; · iapply (owesI_out m c t.succ); iexact HW
    iexact Hr

end Cert.Proof.KernelIdeal

end
-- ==== Proof.Value.Run.lean ====
/-
  The run with every window's contents: the seven arrays the region leaves, in closed form.
-/
module

public import proofs.«01_k».proof.Proof.Value.Oblig
public import Idealize.ShloMosaic.Lib.Pipeline.FrameSuffix

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open Idealize.ShloMosaic.Pipeline (Dat Cfg Window)

variable (m : (ℓ : Loc nD τ sig) → Buf (Elt Ideal) ℓ) (ρ : Dev nD → PrngReg)

set_option backward.isDefEq.respectTransparency.types false in
theorem runI : θ_run defs (onTc (τ := τ) (main (F := Ideal))) (s₀ m ρ)
    (fun r => Pipeline.FramePost cfgs (datsI m) 0 (Pipeline.afterTail₀ cfgs (datsI m) 0 (V0 m) [hostOps1]) r ∧ r.2.sem = fun _ => 0) :=
  Pipeline.θ_run_frame_dma_around (Q' := _) cfgs (datsI m) (0 : Fin 1) launch0 osem0 defs₀ Variants.none ownSemFacts0 H0 H0_sub m ρ main
    (hbody := fun c => obligationI m c) (hshare := fun c => (datsI m 0 c).share_full fun _ => rfl)
    (howed := fun _ _ => rfl) (V₀ := V0 m) (opss := [hostOps1]) (hsub := tail_sub) (hfresh := sfx_fresh) (hkeep := sfx_keeps)
    (hmain := hmainD m Variants.none) (hA := fun _ _ => rfl)
    (hin := fun c => ends_in (TI m c) (V m) c) (hout := fun c => ends_out (TI m c) (V m) c)

end Cert.Proof.KernelIdeal

end
-- ==== Proof.Value.Equal.lean ====
/-
  The two programs leave equal results.
-/
module

public import proofs.«01_k».proof.Defs
public import proofs.«01_k».proof.Proof.Value.KernelReal
public import proofs.«01_k».proof.Proof.Value.RefReal
public import proofs.«01_k».proof.Proof.Value.Run
public import proofs.«01_k».proof.Proof.Gen.KernelIdeal
public import proofs.«01_k».proof.Proof.Gen.ReferenceIdeal

@[expose] public section

set_option maxRecDepth 16384

noncomputable section

namespace Cert.Proof

open Idealize.ShloMosaic Idealize.SL.Sem
open Idealize.ShloMosaic.TcCoe Idealize.ShloMosaic.Tactic

namespace KernelIdeal

open Cert.KernelIdeal Cert.KernelIdeal.Gen

variable (m : (ℓ : Loc nD τ sig) → Buf (Elt Ideal) ℓ) (g : Dev nD → PrngReg)

theorem tail_arg3 (c : Dev nD) : tailAt m c main_arg3 = m ((c.tc : Thread nD τ).loc main_arg3) := by
  have h : tailAt m c main_arg3 = regionOut m c (Proc.devRef .tc main_arg3) := by
    show StableHlo.after hostOps1 (regionOut m c) _ = _
    after_results
  exact h.trans ((Pipeline.withArrays_of_ne _ c (V0 m c) _ main_arg3 (by decide)).trans (V_main_arg3 m c))

theorem tail_arg4 (c : Dev nD) : tailAt m c main_arg4 = m ((c.tc : Thread nD τ).loc main_arg4) := by
  have h : tailAt m c main_arg4 = regionOut m c (Proc.devRef .tc main_arg4) := by
    show StableHlo.after hostOps1 (regionOut m c) _ = _
    after_results
  exact h.trans ((Pipeline.withArrays_of_ne _ c (V0 m c) _ main_arg4 (by decide)).trans (V_main_arg4 m c))

theorem tail_arg5 (c : Dev nD) : tailAt m c main_arg5 = m ((c.tc : Thread nD τ).loc main_arg5) := by
  have h : tailAt m c main_arg5 = regionOut m c (Proc.devRef .tc main_arg5) := by
    show StableHlo.after hostOps1 (regionOut m c) _ = _
    after_results
  exact h.trans ((Pipeline.withArrays_of_ne _ c (V0 m c) _ main_arg5 (by decide)).trans (V_main_arg5 m c))

/-- The kernel's results and arguments at its end. -/
theorem ends : θ_run (defs (F := Ideal)) (onTc (τ := τ) (main (F := Ideal))) ⟨m, fun _ => 0, g⟩ (fun r => ∀ c : Dev nD,
      r.2.mem ((c.tc : Thread nD τ).loc main_v11) = tailAt m c main_v11
      ∧ r.2.mem ((c.tc : Thread nD τ).loc main_v13) = tailAt m c main_v13
      ∧ r.2.mem ((c.tc : Thread nD τ).loc main_v14) = tailAt m c main_v14
      ∧ r.2.mem ((c.tc : Thread nD τ).loc main_v15) = tailAt m c main_v15
      ∧ r.2.mem ((c.tc : Thread nD τ).loc main_v16) = tailAt m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (h.1 c).2 main_v11 (Pipeline.mem_restRefs_of main_v11 (by decide) (by decide)),
      (h.1 c).2 main_v13 (Pipeline.mem_restRefs_of main_v13 (by decide) (by decide)),
      (h.1 c).2 main_v14 (Pipeline.mem_restRefs_of main_v14 (by decide) (by decide)),
      (h.1 c).2 main_v15 (Pipeline.mem_restRefs_of main_v15 (by decide) (by decide)),
      (h.1 c).2 main_v16 (Pipeline.mem_restRefs_of main_v16 (by decide) (by decide)),
      ((h.1 c).1 0).trans (((datsI m 0 c).arrAt_in 0 rfl _).trans (V_main_arg0 m c)),
      ((h.1 c).1 1).trans (((datsI m 0 c).arrAt_in 1 rfl _).trans (V_main_arg1 m c)),
      ((h.1 c).1 2).trans (((datsI m 0 c).arrAt_in 2 rfl _).trans (V_main_arg2 m c)),
      ((h.1 c).2 main_arg3 (Pipeline.mem_restRefs_of main_arg3 (by decide) (by decide))).trans (tail_arg3 m c),
      ((h.1 c).2 main_arg4 (Pipeline.mem_restRefs_of main_arg4 (by decide) (by decide))).trans (tail_arg4 m c),
      ((h.1 c).2 main_arg5 (Pipeline.mem_restRefs_of main_arg5 (by decide) (by decide))).trans (tail_arg5 m c)⟩) (runI m g)

variable (c : Dev nD) (R : Reals (a0 m c) (a1 m c) (a2 m c) (a3 m c) (a4 m c) (a5 m c))

include R

theorem eq0 : ReferenceIdeal.semV (a0 m c) (a1 m c) (a2 m c) (a3 m c) (a4 m c) (a5 m c) = tailAt m c main_v11 := by
  funext i
  obtain ⟨k, r, rfl⟩ : ∃ (k : Fin 2) (r : Fin 101916), i = ix2 k r := ⟨i 0, i 1, ValueIdx.eq_ix2 i⟩
  exact (ReferenceIdeal.sem_real R k r).trans (v11_real m c R k r).symm

theorem eq1 : ReferenceIdeal.lossV (ReferenceIdeal.semV (a0 m c) (a1 m c) (a2 m c) (a3 m c) (a4 m c) (a5 m c)) (a5 m c) = tailAt m c main_v13 :=
  funext fun i => (ReferenceIdeal.loss_real R i).trans (v13_real m c R i).symm

theorem eq2 : ReferenceIdeal.predCV (ReferenceIdeal.semV (a0 m c) (a1 m c) (a2 m c) (a3 m c) (a4 m c) (a5 m c)) = tailAt m c main_v14 := by
  funext i
  obtain ⟨r, rfl⟩ : ∃ r : Fin 63180, i = ix1 r := ⟨i 0, ValueIdx.eq_ix1 i⟩
  refine (ReferenceIdeal.predCV_apply _ r).trans (Eq.trans ?_ (v14_real m c R r).symm)
  rw [ReferenceIdeal.sem_real R, ReferenceIdeal.sem_real R]

theorem eq3 : ReferenceIdeal.predBV (ReferenceIdeal.semV (a0 m c) (a1 m c) (a2 m c) (a3 m c) (a4 m c) (a5 m c)) = tailAt m c main_v15 := by
  funext i
  obtain ⟨r, rfl⟩ : ∃ r : Fin 34588, i = ix1 r := ⟨i 0, ValueIdx.eq_ix1 i⟩
  refine (ReferenceIdeal.predBV_apply _ r).trans (Eq.trans ?_ (v15_real m c R r).symm)
  rw [ReferenceIdeal.sem_real R, ReferenceIdeal.sem_real R]

theorem eq4 : ReferenceIdeal.predOV (ReferenceIdeal.semV (a0 m c) (a1 m c) (a2 m c) (a3 m c) (a4 m c) (a5 m c)) = tailAt m c main_v16 := by
  funext i
  obtain ⟨r, rfl⟩ : ∃ r : Fin 4148, i = ix1 r := ⟨i 0, ValueIdx.eq_ix1 i⟩
  refine (ReferenceIdeal.predOV_apply _ r).trans (Eq.trans ?_ (v16_real m c R r).symm)
  rw [ReferenceIdeal.sem_real R, ReferenceIdeal.sem_real R]

end KernelIdeal

/-- The reference's five results as functions of its arguments. -/
theorem ReferenceIdeal.results (m' : (ℓ : Loc Cert.ReferenceIdeal.nD Cert.ReferenceIdeal.τ Cert.ReferenceIdeal.sig) → Buf (Elt Ideal) ℓ) (c : Dev Cert.ReferenceIdeal.nD)
    (x0 : ReferenceIdeal.AC) (x1 : ReferenceIdeal.AB) (x2 : ReferenceIdeal.AO) (w0 w1 : ReferenceIdeal.AN) (y : IVec Cert.ReferenceIdeal.S63180 32)
    (h0 : m' ((c.tc : Thread Cert.ReferenceIdeal.nD Cert.ReferenceIdeal.τ).loc Cert.ReferenceIdeal.main_arg0) = x0)
    (h1 : m' ((c.tc : Thread Cert.ReferenceIdeal.nD Cert.ReferenceIdeal.τ).loc Cert.ReferenceIdeal.main_arg1) = x1)
    (h2 : m' ((c.tc : Thread Cert.ReferenceIdeal.nD Cert.ReferenceIdeal.τ).loc Cert.ReferenceIdeal.main_arg2) = x2)
    (h3 : m' ((c.tc : Thread Cert.ReferenceIdeal.nD Cert.ReferenceIdeal.τ).loc Cert.ReferenceIdeal.main_arg3) = w0)
    (h4 : m' ((c.tc : Thread Cert.ReferenceIdeal.nD Cert.ReferenceIdeal.τ).loc Cert.ReferenceIdeal.main_arg4) = w1)
    (h5 : m' ((c.tc : Thread Cert.ReferenceIdeal.nD Cert.ReferenceIdeal.τ).loc Cert.ReferenceIdeal.main_arg5) = y) :
    Cert.ReferenceIdeal.Value.res_main_v74 m' c = ReferenceIdeal.semV x0 x1 x2 w0 w1 y
      ∧ Cert.ReferenceIdeal.Value.res_main_v82 m' c = ReferenceIdeal.lossV (ReferenceIdeal.semV x0 x1 x2 w0 w1 y) y
      ∧ Cert.ReferenceIdeal.Value.res_main_v88 m' c = ReferenceIdeal.predCV (ReferenceIdeal.semV x0 x1 x2 w0 w1 y)
      ∧ Cert.ReferenceIdeal.Value.res_main_v94 m' c = ReferenceIdeal.predBV (ReferenceIdeal.semV x0 x1 x2 w0 w1 y)
      ∧ Cert.ReferenceIdeal.Value.res_main_v100 m' c = ReferenceIdeal.predOV (ReferenceIdeal.semV x0 x1 x2 w0 w1 y) := by
  subst h0 h1 h2 h3 h4 h5
  exact ⟨ReferenceIdeal.out0 m' c, ReferenceIdeal.out1 m' c, ReferenceIdeal.out2 m' c, ReferenceIdeal.out3 m' c, ReferenceIdeal.out4 m' c⟩

instance : Cert.KernelIdeal.Facts := Cert.KernelIdeal.Gen.facts
instance : Cert.ReferenceIdeal.Facts := Cert.ReferenceIdeal.Gen.facts

/-- From arguments that agree and satisfy the precondition, both programs end with equal results. -/
theorem algebraic : Cert.algebraic_KernelIdeal_ReferenceIdeal_pre_finite_and_binary := by
  intro m g m' g' hp hm
  refine ⟨fun c => KernelIdeal.tailAt m c _, fun c => KernelIdeal.tailAt m c _, fun c => KernelIdeal.tailAt m c _, fun c => KernelIdeal.tailAt m c _,
    fun c => KernelIdeal.tailAt m c _, KernelIdeal.ends m g, ?_⟩
  refine (θ_run _ _ _).mono (fun _ h c => ?_) (Cert.ReferenceIdeal.Value.run m' g')
  obtain ⟨R⟩ := reals_of_pre (hp c)
  obtain ⟨e0, e1, e2, e3, e4, e5⟩ := hm c
  obtain ⟨r0, r1, r2, r3, r4⟩ := ReferenceIdeal.results m' c _ _ _ _ _ _ e0 e1 e2 e3 e4 e5
  obtain ⟨k0, k1, k2, k3, k4, k⟩ := h c
  exact ⟨k0.trans (r0.trans (KernelIdeal.eq0 m c R)), k1.trans (r1.trans (KernelIdeal.eq1 m c R)), k2.trans (r2.trans (KernelIdeal.eq2 m c R)),
    k3.trans (r3.trans (KernelIdeal.eq3 m c R)), k4.trans (r4.trans (KernelIdeal.eq4 m c R)), k⟩

end Cert.Proof

end
-- ==== Proof.lean ====
module

public import Idealize.ShloMosaic.PureOps.IdealRules
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal.Frame0
public import proofs.«01_k».proof.Proof.Bits.Frame0
public import proofs.«01_k».proof.Proof.Value.Equal

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Pre_finite_and_binary.facts,
  fun m g _ => Kernel.frame0 m g,
  fun m g _ => KernelIdeal.frame0 m g,
  fun m g _ => KernelIdeal.frame0 m g,
  fun m g _ => (θ_run _ _ _).mono (fun _ h => ⟨fun c => (h c).2.2.2.2.2, funext fun s => nomatch s⟩) (Cert.ReferenceIdeal.Value.run m g),
  fun m g _ => (θ_run _ _ _).mono (fun _ h => ⟨fun c => (h c).2.2.2.2.2, funext fun s => nomatch s⟩) (Cert.ReferenceIdeal.Value.run m g),
  IdealRules.named_const.statement _ _ _ _ _ rfl,
  algebraic⟩

end Cert.Proof

end
